-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S2048x1024 : Shape := ⟨2, ![2048, 1024]⟩
abbrev S2048x384 : Shape := ⟨2, ![2048, 384]⟩
abbrev S2048x256 : Shape := ⟨2, ![2048, 256]⟩
abbrev S3 : Shape := ⟨1, ![3]⟩
abbrev S3x3 : Shape := ⟨2, ![3, 3]⟩
abbrev S_ : Shape := ⟨0, ![]⟩
abbrev S1024x512 : Shape := ⟨2, ![1024, 512]⟩
abbrev S1024x1 : Shape := ⟨2, ![1024, 1]⟩
abbrev S1024x384 : Shape := ⟨2, ![1024, 384]⟩
abbrev S1x512x384 : Shape := ⟨3, ![1, 512, 384]⟩
abbrev S512x384 : Shape := ⟨2, ![512, 384]⟩
abbrev S1 : Shape := ⟨1, ![1]⟩
abbrev S1x1 : Shape := ⟨2, ![1, 1]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S4x512x1024, .f32⟩
  | .hbm, ⟨4, _⟩ => ⟨S2048x1024, .f32⟩
  | .local _ .vmem, ⟨0, _⟩ => ⟨S2048x512, .f32⟩
  | .local _ .vmem, ⟨1, _⟩ => ⟨S2048x1, .i32⟩
  | .local _ .vmem, ⟨2, _⟩ => ⟨S4x512x1024, .f32⟩
  | .local _ .vmem, ⟨3, _⟩ => ⟨S2048x1024, .f32⟩
  | .local _ .vmem, ⟨4, _⟩ => ⟨S2048x1024, .bf16⟩
  | .local _ .vmem, ⟨5, _⟩ => ⟨S2048x384, .bf16⟩
  | .local _ .vmem, ⟨6, _⟩ => ⟨S2048x384, .bf16⟩
  | .local _ .vmem, ⟨7, _⟩ => ⟨S2048x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let v16 : BitVec 32 := Scalar.subi c1_i32_12 v15
  let c1024_i32 : BitVec 32 := 1024#32
  let v17 : BitVec 32 := Scalar.muli v16 c1024_i32
  let v18 : Index := Scalar.indexCast v17
  let c0 : Index := 0#32
  ![v18.toNat, 0]
def k0_off2 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let v16 : BitVec 32 := Scalar.subi c1_i32_12 v15
  let c1024_i32 : BitVec 32 := 1024#32
  let v17 : BitVec 32 := Scalar.muli v16 c1024_i32
  let v22 : Index := Scalar.indexCast v17
  let c0_13 : Index := 0#32
  ![v22.toNat, 0]
def k0_off3 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let v16 : BitVec 32 := Scalar.subi c1_i32_12 v15
  let c1024_i32 : BitVec 32 := 1024#32
  let v17 : BitVec 32 := Scalar.muli v16 c1024_i32
  let v83 : Index := Scalar.indexCast v17
  let c0_38 : Index := 0#32
  ![v83.toNat, 0]
def k0_off4 (d0 : Dev nD) : Fin 2 → Nat :=
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let v87 : BitVec 32 := Scalar.subi c1_i32_39 v15
  let c1024_i32_40 : BitVec 32 := 1024#32
  let v88 : BitVec 32 := Scalar.muli v87 c1024_i32_40
  let c0_i32_49 : BitVec 32 := 0#32
  ![v88.toNat, 0]
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v89 : BitVec 32 := Scalar.xori v2 c1_i32_41
  let c1_i32_45 : BitVec 32 := 1#32
  let v90 : BitVec 32 := Scalar.muli v89 c1_i32_45
  let v91 : BitVec 32 := Scalar.addi c0_i32_46 v90
  v91.toNat
def k0_off5 (d0 : Dev nD) (c1_i32_51 : BitVec 32) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : BitVec 32 := Scalar.shrsi v2 c1_i32_51
  let c1_i32_52 : BitVec 32 := 1#32
  let v100 : BitVec 32 := Scalar.andi v99 c1_i32_52
  let v101 : BitVec 32 := Scalar.subi c1_i32_53 v100
  let c1024_i32_54 : BitVec 32 := 1024#32
  let v102 : BitVec 32 := Scalar.muli v101 c1024_i32_54
  let v103 : Index := Scalar.indexCast v102
  let c0_55 : Index := 0#32
  ![v103.toNat, 0]
def k0_off6 (d0 : Dev nD) (c1_i32_51 : BitVec 32) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : BitVec 32 := Scalar.shrsi v2 c1_i32_51
  let c1_i32_52 : BitVec 32 := 1#32
  let v100 : BitVec 32 := Scalar.andi v99 c1_i32_52
  let v101 : BitVec 32 := Scalar.subi c1_i32_53 v100
  let c1024_i32_54 : BitVec 32 := 1024#32
  let v102 : BitVec 32 := Scalar.muli v101 c1024_i32_54
  let v107 : Index := Scalar.indexCast v102
  let c0_56 : Index := 0#32
  ![v107.toNat, 0]
def k0_off7 (d0 : Dev nD) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let v101 : BitVec 32 := Scalar.subi c1_i32_53 v100
  let c1024_i32_54 : BitVec 32 := 1024#32
  let v102 : BitVec 32 := Scalar.muli v101 c1024_i32_54
  let v168 : Index := Scalar.indexCast v102
  let c384_85 : Index := 384#32
  ![v168.toNat, 384]
def k0_off8 (d0 : Dev nD) : Fin 2 → Nat :=
  let c1_i32_86 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let v172 : BitVec 32 := Scalar.subi c1_i32_86 v100
  let c1024_i32_87 : BitVec 32 := 1024#32
  let v173 : BitVec 32 := Scalar.muli v172 c1024_i32_87
  let c384_i32 : BitVec 32 := 384#32
  ![v173.toNat, 384]
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_88 : BitVec 32 := 3#32
  let v174 : BitVec 32 := Scalar.xori v2 c3_i32_88
  let c1_i32_92 : BitVec 32 := 1#32
  let v175 : BitVec 32 := Scalar.muli v174 c1_i32_92
  let v176 : BitVec 32 := Scalar.addi c0_i32_93 v175
  v176.toNat
def k0_off9 (d0 : Dev nD) : Fin 2 → Nat :=
  let c1_i32_99 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let v186 : BitVec 32 := Scalar.subi c1_i32_99 v185
  let c1024_i32_100 : BitVec 32 := 1024#32
  let v187 : BitVec 32 := Scalar.muli v186 c1024_i32_100
  let v253 : Index := Scalar.indexCast v187
  let c768_131 : Index := 768#32
  ![v253.toNat, 768]
def k0_off10 (d0 : Dev nD) : Fin 2 → Nat :=
  let c1_i32_132 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let v257 : BitVec 32 := Scalar.subi c1_i32_132 v185
  let c1024_i32_133 : BitVec 32 := 1024#32
  let v258 : BitVec 32 := Scalar.muli v257 c1024_i32_133
  let c768_i32 : BitVec 32 := 768#32
  ![v258.toNat, 768]
def k0_dev6 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_134 : BitVec 32 := 4#32
  let v259 : BitVec 32 := Scalar.xori v2 c4_i32_134
  let c1_i32_138 : BitVec 32 := 1#32
  let v260 : BitVec 32 := Scalar.muli v259 c1_i32_138
  let v261 : BitVec 32 := Scalar.addi c0_i32_139 v260
  v261.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let v269 : Index := Scalar.indexCast v98
  let c0_143 : Index := 0#32
  ![v269.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let v273 : Index := Scalar.indexCast v98
  let c0_144 : Index := 0#32
  ![v273.toNat, 0]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let v334 : Index := Scalar.indexCast v98
  let c0_174 : Index := 0#32
  ![v334.toNat, 0]
def k0_off14 (d0 : Dev nD) (c1_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let v338 : Index := Scalar.indexCast v183
  let c0_175 : Index := 0#32
  ![v338.toNat, 0]
def k0_off15 (d0 : Dev nD) (c1_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let v342 : Index := Scalar.indexCast v183
  let c0_176 : Index := 0#32
  ![v342.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let v403 : Index := Scalar.indexCast v183
  let c384_206 : Index := 384#32
  ![v403.toNat, 384]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let c1024_i32_142 : BitVec 32 := 1024#32
  let v268 : BitVec 32 := Scalar.muli v185 c1024_i32_142
  let v472 : Index := Scalar.indexCast v268
  let c768_238 : Index := 768#32
  ![v472.toNat, 768]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let c1_i32_256 : BitVec 32 := 1#32
  let c1_i32_254 : BitVec 32 := 1#32
  let v486 : BitVec 32 := Scalar.shrsi v2 c1_i32_254
  let c1_i32_255 : BitVec 32 := 1#32
  let v487 : BitVec 32 := Scalar.andi v486 c1_i32_255
  let v488 : BitVec 32 := Scalar.subi c1_i32_256 v487
  let c512_i32 : BitVec 32 := 512#32
  let v489 : BitVec 32 := Scalar.muli v488 c512_i32
  let v490 : BitVec 32 := Scalar.addi v98 v489
  let v493 : Index := Scalar.indexCast v490
  let c0_258 : Index := 0#32
  ![v493.toNat, 0]
def k0_off19 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let c1_i32_256 : BitVec 32 := 1#32
  let c1_i32_254 : BitVec 32 := 1#32
  let v486 : BitVec 32 := Scalar.shrsi v2 c1_i32_254
  let c1_i32_255 : BitVec 32 := 1#32
  let v487 : BitVec 32 := Scalar.andi v486 c1_i32_255
  let v488 : BitVec 32 := Scalar.subi c1_i32_256 v487
  let c512_i32 : BitVec 32 := 512#32
  let v489 : BitVec 32 := Scalar.muli v488 c512_i32
  let v490 : BitVec 32 := Scalar.addi v98 v489
  let v495 : BitVec 32 := Scalar.subi v490 v98
  let v496 : BitVec 32 := Scalar.addi c0_i32_259 v495
  let v497 : Index := Scalar.indexCast v496
  let c0_260 : Index := 0#32
  ![v497.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let c1_i32_256 : BitVec 32 := 1#32
  let c1_i32_254 : BitVec 32 := 1#32
  let v486 : BitVec 32 := Scalar.shrsi v2 c1_i32_254
  let c1_i32_255 : BitVec 32 := 1#32
  let v487 : BitVec 32 := Scalar.andi v486 c1_i32_255
  let v488 : BitVec 32 := Scalar.subi c1_i32_256 v487
  let c512_i32 : BitVec 32 := 512#32
  let v489 : BitVec 32 := Scalar.muli v488 c512_i32
  let v490 : BitVec 32 := Scalar.addi v98 v489
  let c0_i32_270 : BitVec 32 := 0#32
  ![v490.toNat, 0]
def k0_dev7 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_262 : BitVec 32 := 3#32
  let v504 : BitVec 32 := Scalar.xori v2 c3_i32_262
  let c1_i32_266 : BitVec 32 := 1#32
  let v505 : BitVec 32 := Scalar.muli v504 c1_i32_266
  let v506 : BitVec 32 := Scalar.addi c0_i32_267 v505
  v506.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let c1_i32_254 : BitVec 32 := 1#32
  let v486 : BitVec 32 := Scalar.shrsi v2 c1_i32_254
  let c1_i32_255 : BitVec 32 := 1#32
  let v487 : BitVec 32 := Scalar.andi v486 c1_i32_255
  let c512_i32_257 : BitVec 32 := 512#32
  let v491 : BitVec 32 := Scalar.muli v487 c512_i32_257
  let v492 : BitVec 32 := Scalar.addi v98 v491
  let v513 : Index := Scalar.indexCast v492
  let c0_271 : Index := 0#32
  ![v513.toNat, 0]
def k0_off22 (d0 : Dev nD) : Fin 2 → Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let c1_i32_254 : BitVec 32 := 1#32
  let v486 : BitVec 32 := Scalar.shrsi v2 c1_i32_254
  let c1_i32_255 : BitVec 32 := 1#32
  let v487 : BitVec 32 := Scalar.andi v486 c1_i32_255
  let c512_i32_257 : BitVec 32 := 512#32
  let v491 : BitVec 32 := Scalar.muli v487 c512_i32_257
  let v492 : BitVec 32 := Scalar.addi v98 v491
  let v515 : BitVec 32 := Scalar.subi v492 v98
  let v516 : BitVec 32 := Scalar.addi c0_i32_272 v515
  let v517 : Index := Scalar.indexCast v516
  let c0_273 : Index := 0#32
  ![v517.toNat, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let c1_i32_292 : BitVec 32 := 1#32
  let c2_i32_290 : BitVec 32 := 2#32
  let v534 : BitVec 32 := Scalar.shrsi v2 c2_i32_290
  let c1_i32_291 : BitVec 32 := 1#32
  let v535 : BitVec 32 := Scalar.andi v534 c1_i32_291
  let v536 : BitVec 32 := Scalar.subi c1_i32_292 v535
  let c512_i32_293 : BitVec 32 := 512#32
  let v537 : BitVec 32 := Scalar.muli v536 c512_i32_293
  let v538 : BitVec 32 := Scalar.addi v183 v537
  let v541 : Index := Scalar.indexCast v538
  let c384_295 : Index := 384#32
  ![v541.toNat, 384]
def k0_off24 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let c1_i32_292 : BitVec 32 := 1#32
  let c2_i32_290 : BitVec 32 := 2#32
  let v534 : BitVec 32 := Scalar.shrsi v2 c2_i32_290
  let c1_i32_291 : BitVec 32 := 1#32
  let v535 : BitVec 32 := Scalar.andi v534 c1_i32_291
  let v536 : BitVec 32 := Scalar.subi c1_i32_292 v535
  let c512_i32_293 : BitVec 32 := 512#32
  let v537 : BitVec 32 := Scalar.muli v536 c512_i32_293
  let v538 : BitVec 32 := Scalar.addi v183 v537
  let v543 : BitVec 32 := Scalar.subi v538 v183
  let v544 : BitVec 32 := Scalar.addi c0_i32_296 v543
  let v545 : Index := Scalar.indexCast v544
  let c0_297 : Index := 0#32
  ![v545.toNat, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let c1_i32_292 : BitVec 32 := 1#32
  let c2_i32_290 : BitVec 32 := 2#32
  let v534 : BitVec 32 := Scalar.shrsi v2 c2_i32_290
  let c1_i32_291 : BitVec 32 := 1#32
  let v535 : BitVec 32 := Scalar.andi v534 c1_i32_291
  let v536 : BitVec 32 := Scalar.subi c1_i32_292 v535
  let c512_i32_293 : BitVec 32 := 512#32
  let v537 : BitVec 32 := Scalar.muli v536 c512_i32_293
  let v538 : BitVec 32 := Scalar.addi v183 v537
  let c384_i32_307 : BitVec 32 := 384#32
  ![v538.toNat, 384]
def k0_dev8 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_299 : BitVec 32 := 4#32
  let v552 : BitVec 32 := Scalar.xori v2 c4_i32_299
  let c1_i32_303 : BitVec 32 := 1#32
  let v553 : BitVec 32 := Scalar.muli v552 c1_i32_303
  let v554 : BitVec 32 := Scalar.addi c0_i32_304 v553
  v554.toNat
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let c2_i32_290 : BitVec 32 := 2#32
  let v534 : BitVec 32 := Scalar.shrsi v2 c2_i32_290
  let c1_i32_291 : BitVec 32 := 1#32
  let v535 : BitVec 32 := Scalar.andi v534 c1_i32_291
  let c512_i32_294 : BitVec 32 := 512#32
  let v539 : BitVec 32 := Scalar.muli v535 c512_i32_294
  let v540 : BitVec 32 := Scalar.addi v183 v539
  let v561 : Index := Scalar.indexCast v540
  let c384_308 : Index := 384#32
  ![v561.toNat, 384]
def k0_off27 (d0 : Dev nD) : Fin 2 → Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let c2_i32_290 : BitVec 32 := 2#32
  let v534 : BitVec 32 := Scalar.shrsi v2 c2_i32_290
  let c1_i32_291 : BitVec 32 := 1#32
  let v535 : BitVec 32 := Scalar.andi v534 c1_i32_291
  let c512_i32_294 : BitVec 32 := 512#32
  let v539 : BitVec 32 := Scalar.muli v535 c512_i32_294
  let v540 : BitVec 32 := Scalar.addi v183 v539
  let v563 : BitVec 32 := Scalar.subi v540 v183
  let v564 : BitVec 32 := Scalar.addi c0_i32_309 v563
  let v565 : Index := Scalar.indexCast v564
  let c0_310 : Index := 0#32
  ![v565.toNat, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let c1024_i32_142 : BitVec 32 := 1024#32
  let v268 : BitVec 32 := Scalar.muli v185 c1024_i32_142
  let c1_i32_329 : BitVec 32 := 1#32
  let c1_i32_327 : BitVec 32 := 1#32
  let v582 : BitVec 32 := Scalar.shrsi v2 c1_i32_327
  let v583 : BitVec 32 := Scalar.xori v2 v582
  let c1_i32_328 : BitVec 32 := 1#32
  let v584 : BitVec 32 := Scalar.andi v583 c1_i32_328
  let v585 : BitVec 32 := Scalar.subi c1_i32_329 v584
  let c512_i32_330 : BitVec 32 := 512#32
  let v586 : BitVec 32 := Scalar.muli v585 c512_i32_330
  let v587 : BitVec 32 := Scalar.addi v268 v586
  let v590 : Index := Scalar.indexCast v587
  let c768_332 : Index := 768#32
  ![v590.toNat, 768]
def k0_off29 (d0 : Dev nD) : Fin 2 → Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let c1024_i32_142 : BitVec 32 := 1024#32
  let v268 : BitVec 32 := Scalar.muli v185 c1024_i32_142
  let c1_i32_329 : BitVec 32 := 1#32
  let c1_i32_327 : BitVec 32 := 1#32
  let v582 : BitVec 32 := Scalar.shrsi v2 c1_i32_327
  let v583 : BitVec 32 := Scalar.xori v2 v582
  let c1_i32_328 : BitVec 32 := 1#32
  let v584 : BitVec 32 := Scalar.andi v583 c1_i32_328
  let v585 : BitVec 32 := Scalar.subi c1_i32_329 v584
  let c512_i32_330 : BitVec 32 := 512#32
  let v586 : BitVec 32 := Scalar.muli v585 c512_i32_330
  let v587 : BitVec 32 := Scalar.addi v268 v586
  let v592 : BitVec 32 := Scalar.subi v587 v268
  let v593 : BitVec 32 := Scalar.addi c0_i32_333 v592
  let v594 : Index := Scalar.indexCast v593
  let c0_334 : Index := 0#32
  ![v594.toNat, 0]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let c1024_i32_142 : BitVec 32 := 1024#32
  let v268 : BitVec 32 := Scalar.muli v185 c1024_i32_142
  let c1_i32_329 : BitVec 32 := 1#32
  let c1_i32_327 : BitVec 32 := 1#32
  let v582 : BitVec 32 := Scalar.shrsi v2 c1_i32_327
  let v583 : BitVec 32 := Scalar.xori v2 v582
  let c1_i32_328 : BitVec 32 := 1#32
  let v584 : BitVec 32 := Scalar.andi v583 c1_i32_328
  let v585 : BitVec 32 := Scalar.subi c1_i32_329 v584
  let c512_i32_330 : BitVec 32 := 512#32
  let v586 : BitVec 32 := Scalar.muli v585 c512_i32_330
  let v587 : BitVec 32 := Scalar.addi v268 v586
  let c768_i32_344 : BitVec 32 := 768#32
  ![v587.toNat, 768]
def k0_dev9 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_336 : BitVec 32 := 1#32
  let v601 : BitVec 32 := Scalar.xori v2 c1_i32_336
  let c1_i32_340 : BitVec 32 := 1#32
  let v602 : BitVec 32 := Scalar.muli v601 c1_i32_340
  let v603 : BitVec 32 := Scalar.addi c0_i32_341 v602
  v603.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let c1024_i32_142 : BitVec 32 := 1024#32
  let v268 : BitVec 32 := Scalar.muli v185 c1024_i32_142
  let c1_i32_327 : BitVec 32 := 1#32
  let v582 : BitVec 32 := Scalar.shrsi v2 c1_i32_327
  let v583 : BitVec 32 := Scalar.xori v2 v582
  let c1_i32_328 : BitVec 32 := 1#32
  let v584 : BitVec 32 := Scalar.andi v583 c1_i32_328
  let c512_i32_331 : BitVec 32 := 512#32
  let v588 : BitVec 32 := Scalar.muli v584 c512_i32_331
  let v589 : BitVec 32 := Scalar.addi v268 v588
  let v610 : Index := Scalar.indexCast v589
  let c768_345 : Index := 768#32
  ![v610.toNat, 768]
def k0_off32 (d0 : Dev nD) : Fin 2 → Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let c1024_i32_142 : BitVec 32 := 1024#32
  let v268 : BitVec 32 := Scalar.muli v185 c1024_i32_142
  let c1_i32_327 : BitVec 32 := 1#32
  let v582 : BitVec 32 := Scalar.shrsi v2 c1_i32_327
  let v583 : BitVec 32 := Scalar.xori v2 v582
  let c1_i32_328 : BitVec 32 := 1#32
  let v584 : BitVec 32 := Scalar.andi v583 c1_i32_328
  let c512_i32_331 : BitVec 32 := 512#32
  let v588 : BitVec 32 := Scalar.muli v584 c512_i32_331
  let v589 : BitVec 32 := Scalar.addi v268 v588
  let v612 : BitVec 32 := Scalar.subi v589 v268
  let v613 : BitVec 32 := Scalar.addi c0_i32_346 v612
  let v614 : Index := Scalar.indexCast v613
  let c0_347 : Index := 0#32
  ![v614.toNat, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let c1_i32_254 : BitVec 32 := 1#32
  let v486 : BitVec 32 := Scalar.shrsi v2 c1_i32_254
  let c1_i32_255 : BitVec 32 := 1#32
  let v487 : BitVec 32 := Scalar.andi v486 c1_i32_255
  let c512_i32_257 : BitVec 32 := 512#32
  let v491 : BitVec 32 := Scalar.muli v487 c512_i32_257
  let v492 : BitVec 32 := Scalar.addi v98 v491
  let c0_i32_374 : BitVec 32 := 0#32
  ![v492.toNat, 0]
def k0_dev10 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_367 : BitVec 32 := 4#32
  let v639 : BitVec 32 := Scalar.xori v2 c4_i32_367
  let c1_i32_371 : BitVec 32 := 1#32
  let v640 : BitVec 32 := Scalar.muli v639 c1_i32_371
  let v641 : BitVec 32 := Scalar.addi c0_i32_372 v640
  v641.toNat
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let c2_i32_290 : BitVec 32 := 2#32
  let v534 : BitVec 32 := Scalar.shrsi v2 c2_i32_290
  let c1_i32_291 : BitVec 32 := 1#32
  let v535 : BitVec 32 := Scalar.andi v534 c1_i32_291
  let c512_i32_294 : BitVec 32 := 512#32
  let v539 : BitVec 32 := Scalar.muli v535 c512_i32_294
  let v540 : BitVec 32 := Scalar.addi v183 v539
  let c384_i32_402 : BitVec 32 := 384#32
  ![v540.toNat, 384]
def k0_dev11 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_394 : BitVec 32 := 1#32
  let v666 : BitVec 32 := Scalar.xori v2 c1_i32_394
  let c1_i32_398 : BitVec 32 := 1#32
  let v667 : BitVec 32 := Scalar.muli v666 c1_i32_398
  let v668 : BitVec 32 := Scalar.addi c0_i32_399 v667
  v668.toNat
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let c1024_i32_142 : BitVec 32 := 1024#32
  let v268 : BitVec 32 := Scalar.muli v185 c1024_i32_142
  let c1_i32_327 : BitVec 32 := 1#32
  let v582 : BitVec 32 := Scalar.shrsi v2 c1_i32_327
  let v583 : BitVec 32 := Scalar.xori v2 v582
  let c1_i32_328 : BitVec 32 := 1#32
  let v584 : BitVec 32 := Scalar.andi v583 c1_i32_328
  let c512_i32_331 : BitVec 32 := 512#32
  let v588 : BitVec 32 := Scalar.muli v584 c512_i32_331
  let v589 : BitVec 32 := Scalar.addi v268 v588
  let c768_i32_430 : BitVec 32 := 768#32
  ![v589.toNat, 768]
def k0_dev12 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_422 : BitVec 32 := 3#32
  let v693 : BitVec 32 := Scalar.xori v2 c3_i32_422
  let c1_i32_426 : BitVec 32 := 1#32
  let v694 : BitVec 32 := Scalar.muli v693 c1_i32_426
  let v695 : BitVec 32 := Scalar.addi c0_i32_427 v694
  v695.toNat
def k0_dev13 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_449 : BitVec 32 := 3#32
  let v720 : BitVec 32 := Scalar.xori v2 c3_i32_449
  let c1_i32_453 : BitVec 32 := 1#32
  let v721 : BitVec 32 := Scalar.muli v720 c1_i32_453
  let v722 : BitVec 32 := Scalar.addi c0_i32_454 v721
  v722.toNat
def k0_dev14 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_479 : BitVec 32 := 4#32
  let v751 : BitVec 32 := Scalar.xori v2 c4_i32_479
  let c1_i32_483 : BitVec 32 := 1#32
  let v752 : BitVec 32 := Scalar.muli v751 c1_i32_483
  let v753 : BitVec 32 := Scalar.addi c0_i32_484 v752
  v753.toNat
def k0_dev15 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_509 : BitVec 32 := 1#32
  let v782 : BitVec 32 := Scalar.xori v2 c1_i32_509
  let c1_i32_513 : BitVec 32 := 1#32
  let v783 : BitVec 32 := Scalar.muli v782 c1_i32_513
  let v784 : BitVec 32 := Scalar.addi c0_i32_514 v783
  v784.toNat
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let c1_i32_254 : BitVec 32 := 1#32
  let v486 : BitVec 32 := Scalar.shrsi v2 c1_i32_254
  let c1_i32_255 : BitVec 32 := 1#32
  let v487 : BitVec 32 := Scalar.andi v486 c1_i32_255
  let c512_i32_257 : BitVec 32 := 512#32
  let v491 : BitVec 32 := Scalar.muli v487 c512_i32_257
  let v492 : BitVec 32 := Scalar.addi v98 v491
  let c1_i32_457 : BitVec 32 := 1#32
  let v729 : BitVec 32 := Scalar.shrsi v2 c1_i32_457
  let c1_i32_458 : BitVec 32 := 1#32
  let v730 : BitVec 32 := Scalar.andi v729 c1_i32_458
  let c512_i32_459 : BitVec 32 := 512#32
  let v731 : BitVec 32 := Scalar.muli v730 c512_i32_459
  let v732 : BitVec 32 := Scalar.subi v492 v731
  let c0_i32_539 : BitVec 32 := 0#32
  ![v732.toNat, 0]
def k0_dev16 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_533 : BitVec 32 := 1#32
  let v806 : BitVec 32 := Scalar.xori v2 c1_i32_533
  let c1_i32_537 : BitVec 32 := 1#32
  let v807 : BitVec 32 := Scalar.muli v806 c1_i32_537
  let v808 : BitVec 32 := Scalar.addi c0_i32_538 v807
  v808.toNat
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c1024_i32_50 : BitVec 32 := 1024#32
  let v98 : BitVec 32 := Scalar.muli v15 c1024_i32_50
  let c1_i32_254 : BitVec 32 := 1#32
  let v486 : BitVec 32 := Scalar.shrsi v2 c1_i32_254
  let c1_i32_255 : BitVec 32 := 1#32
  let v487 : BitVec 32 := Scalar.andi v486 c1_i32_255
  let c512_i32_257 : BitVec 32 := 512#32
  let v491 : BitVec 32 := Scalar.muli v487 c512_i32_257
  let v492 : BitVec 32 := Scalar.addi v98 v491
  let c1_i32_457 : BitVec 32 := 1#32
  let v729 : BitVec 32 := Scalar.shrsi v2 c1_i32_457
  let c1_i32_458 : BitVec 32 := 1#32
  let v730 : BitVec 32 := Scalar.andi v729 c1_i32_458
  let c512_i32_459 : BitVec 32 := 512#32
  let v731 : BitVec 32 := Scalar.muli v730 c512_i32_459
  let v732 : BitVec 32 := Scalar.subi v492 v731
  let v815 : Index := Scalar.indexCast v732
  let c0_541 : Index := 0#32
  ![v815.toNat, 0]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let c2_i32_290 : BitVec 32 := 2#32
  let v534 : BitVec 32 := Scalar.shrsi v2 c2_i32_290
  let c1_i32_291 : BitVec 32 := 1#32
  let v535 : BitVec 32 := Scalar.andi v534 c1_i32_291
  let c512_i32_294 : BitVec 32 := 512#32
  let v539 : BitVec 32 := Scalar.muli v535 c512_i32_294
  let v540 : BitVec 32 := Scalar.addi v183 v539
  let c2_i32_487 : BitVec 32 := 2#32
  let v760 : BitVec 32 := Scalar.shrsi v2 c2_i32_487
  let c1_i32_488 : BitVec 32 := 1#32
  let v761 : BitVec 32 := Scalar.andi v760 c1_i32_488
  let c512_i32_489 : BitVec 32 := 512#32
  let v762 : BitVec 32 := Scalar.muli v761 c512_i32_489
  let v763 : BitVec 32 := Scalar.subi v540 v762
  let c384_i32_562 : BitVec 32 := 384#32
  ![v763.toNat, 384]
def k0_dev17 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_556 : BitVec 32 := 3#32
  let v830 : BitVec 32 := Scalar.xori v2 c3_i32_556
  let c1_i32_560 : BitVec 32 := 1#32
  let v831 : BitVec 32 := Scalar.muli v830 c1_i32_560
  let v832 : BitVec 32 := Scalar.addi c0_i32_561 v831
  v832.toNat
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v99 : BitVec 32 := Scalar.shrsi v2 c1_i32_51
  let c1_i32_52 : BitVec 32 := 1#32
  let v100 : BitVec 32 := Scalar.andi v99 c1_i32_52
  let c1024_i32_96 : BitVec 32 := 1024#32
  let v183 : BitVec 32 := Scalar.muli v100 c1024_i32_96
  let c2_i32_290 : BitVec 32 := 2#32
  let v534 : BitVec 32 := Scalar.shrsi v2 c2_i32_290
  let c1_i32_291 : BitVec 32 := 1#32
  let v535 : BitVec 32 := Scalar.andi v534 c1_i32_291
  let c512_i32_294 : BitVec 32 := 512#32
  let v539 : BitVec 32 := Scalar.muli v535 c512_i32_294
  let v540 : BitVec 32 := Scalar.addi v183 v539
  let c2_i32_487 : BitVec 32 := 2#32
  let v760 : BitVec 32 := Scalar.shrsi v2 c2_i32_487
  let c1_i32_488 : BitVec 32 := 1#32
  let v761 : BitVec 32 := Scalar.andi v760 c1_i32_488
  let c512_i32_489 : BitVec 32 := 512#32
  let v762 : BitVec 32 := Scalar.muli v761 c512_i32_489
  let v763 : BitVec 32 := Scalar.subi v540 v762
  let v839 : Index := Scalar.indexCast v763
  let c384_564 : Index := 384#32
  ![v839.toNat, 384]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let c1024_i32_142 : BitVec 32 := 1024#32
  let v268 : BitVec 32 := Scalar.muli v185 c1024_i32_142
  let c1_i32_327 : BitVec 32 := 1#32
  let v582 : BitVec 32 := Scalar.shrsi v2 c1_i32_327
  let v583 : BitVec 32 := Scalar.xori v2 v582
  let c1_i32_328 : BitVec 32 := 1#32
  let v584 : BitVec 32 := Scalar.andi v583 c1_i32_328
  let c512_i32_331 : BitVec 32 := 512#32
  let v588 : BitVec 32 := Scalar.muli v584 c512_i32_331
  let v589 : BitVec 32 := Scalar.addi v268 v588
  let c1_i32_517 : BitVec 32 := 1#32
  let v791 : BitVec 32 := Scalar.shrsi v2 c1_i32_517
  let v792 : BitVec 32 := Scalar.xori v2 v791
  let c1_i32_518 : BitVec 32 := 1#32
  let v793 : BitVec 32 := Scalar.andi v792 c1_i32_518
  let c512_i32_519 : BitVec 32 := 512#32
  let v794 : BitVec 32 := Scalar.muli v793 c512_i32_519
  let v795 : BitVec 32 := Scalar.subi v589 v794
  let c768_i32_585 : BitVec 32 := 768#32
  ![v795.toNat, 768]
def k0_dev18 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_579 : BitVec 32 := 4#32
  let v854 : BitVec 32 := Scalar.xori v2 c4_i32_579
  let c1_i32_583 : BitVec 32 := 1#32
  let v855 : BitVec 32 := Scalar.muli v854 c1_i32_583
  let v856 : BitVec 32 := Scalar.addi c0_i32_584 v855
  v856.toNat
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v184 : BitVec 32 := Scalar.shrsi v2 c2_i32_97
  let c1_i32_98 : BitVec 32 := 1#32
  let v185 : BitVec 32 := Scalar.andi v184 c1_i32_98
  let c1024_i32_142 : BitVec 32 := 1024#32
  let v268 : BitVec 32 := Scalar.muli v185 c1024_i32_142
  let c1_i32_327 : BitVec 32 := 1#32
  let v582 : BitVec 32 := Scalar.shrsi v2 c1_i32_327
  let v583 : BitVec 32 := Scalar.xori v2 v582
  let c1_i32_328 : BitVec 32 := 1#32
  let v584 : BitVec 32 := Scalar.andi v583 c1_i32_328
  let c512_i32_331 : BitVec 32 := 512#32
  let v588 : BitVec 32 := Scalar.muli v584 c512_i32_331
  let v589 : BitVec 32 := Scalar.addi v268 v588
  let c1_i32_517 : BitVec 32 := 1#32
  let v791 : BitVec 32 := Scalar.shrsi v2 c1_i32_517
  let v792 : BitVec 32 := Scalar.xori v2 v791
  let c1_i32_518 : BitVec 32 := 1#32
  let v793 : BitVec 32 := Scalar.andi v792 c1_i32_518
  let c512_i32_519 : BitVec 32 := 512#32
  let v794 : BitVec 32 := Scalar.muli v793 c512_i32_519
  let v795 : BitVec 32 := Scalar.subi v589 v794
  let v863 : Index := Scalar.indexCast v795
  let c768_587 : Index := 768#32
  ![v863.toNat, 768]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S2048 : Shape := ⟨1, ![2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S32x512x1024, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x512x1024, .f32⟩
  | .hbm, ⟨14, _⟩ => ⟨S2048x1024, .f32⟩
  | .hbm, ⟨15, _⟩ => ⟨S_, .i32⟩
  | .hbm, ⟨16, _⟩ => ⟨S2048x1, .i32⟩
  | .hbm, ⟨17, _⟩ => ⟨S2048x1, .i1⟩
  | .hbm, ⟨18, _⟩ => ⟨S_, .i32⟩
  | .hbm, ⟨19, _⟩ => ⟨S2048x1, .i32⟩
  | .hbm, ⟨20, _⟩ => ⟨S2048x1, .i1⟩
  | .hbm, ⟨21, _⟩ => ⟨S2048x1, .i1⟩
  | .hbm, ⟨22, _⟩ => ⟨S_, .f32⟩
  | .hbm, ⟨23, _⟩ => ⟨S_, .f32⟩
  | .hbm, ⟨24, _⟩ => ⟨S2048x1024, .i1⟩
  | .hbm, ⟨25, _⟩ => ⟨S2048x1024, .f32⟩
  | .hbm, ⟨26, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Geometry.lean ====
/-
The cube of eight devices, the three flows, and where each step of a flow reads and writes.

A device's neighbours along the axes X, Y, Z are found by flipping the bits 1, 3, 4 of its number. Flow `fi`
reduces the columns `cs fi ≤ col < cs fi + cw fi` and visits the axes `fi`, `fi + 1`, `fi + 2` (mod 3). Along its
first axis a device keeps one half of the rows (`hlo`) and sends the other (`alo`); along its second it keeps one
quarter (`klo`) and sends the other (`slo`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

namespace Cert.Cube

open Cert.KernelIdeal Cert.KernelIdeal.Gen
open Idealize.ShloMosaic

/-- The bits an axis flips in a device's number. -/
def mask (A : Fin 3) : ℕ := (![1, 3, 4] : Fin 3 → ℕ) A

set_option backward.proofsInPublic true in
/-- The neighbour along an axis. -/
def peer (A : Fin 3) (c : Dev nD) : Dev nD := ⟨(c.val ^^^ mask A) % 8, Nat.mod_lt _ (by decide)⟩

/-- A device's side of the cut across an axis. -/
def side (A : Fin 3) (c : Dev nD) : ℕ :=
  (![(c.val ^^^ (c.val / 2)) % 2, (c.val / 2) % 2, (c.val / 4) % 2] : Fin 3 → ℕ) A

/-- The first column and the number of columns of a flow. -/
def cs (fi : Fin 3) : ℕ := (![0, 384, 768] : Fin 3 → ℕ) fi
def cw (fi : Fin 3) : ℕ := (![384, 384, 256] : Fin 3 → ℕ) fi

/-- The rows a device keeps and sends in a flow's first step, and keeps and sends in its second. -/
def hlo (fi : Fin 3) (c : Dev nD) : ℕ := 1024 * side fi c
def alo (fi : Fin 3) (c : Dev nD) : ℕ := 1024 * (1 - side fi c)
def klo (fi : Fin 3) (c : Dev nD) : ℕ := 1024 * side fi c + 512 * side (fi + 1) c
def slo (fi : Fin 3) (c : Dev nD) : ℕ := 1024 * side fi c + 512 * (1 - side (fi + 1) c)

/-- Going to a neighbour and back. -/
theorem peer_peer (A : Fin 3) (c : Dev nD) : peer A (peer A c) = c := by revert A c; decide
theorem peer_comm (A B : Fin 3) (c : Dev nD) : peer A (peer B c) = peer B (peer A c) := by revert A B c; decide
/-- A cut is changed by its own axis and by no other. -/
theorem side_peer (A : Fin 3) (c : Dev nD) : side A (peer A c) = 1 - side A c := by revert A c; decide
theorem side_peer_ne (A B : Fin 3) (c : Dev nD) (h : A ≠ B) : side A (peer B c) = side A c := by revert A B c; decide
theorem side_le (A : Fin 3) (c : Dev nD) : side A c ≤ 1 := by revert A c; decide

theorem add1_ne (fi : Fin 3) : fi + 1 ≠ fi := by revert fi; decide
theorem add2_ne (fi : Fin 3) : fi + 2 ≠ fi := by revert fi; decide
theorem add2_ne1 (fi : Fin 3) : fi + 2 ≠ fi + 1 := by revert fi; decide

/-- The neighbours along an axis pair the devices. -/
def pairing (A : Fin 3) : Dev nD ≃ Dev nD := ⟨peer A, peer A, peer_peer A, peer_peer A⟩

/-- How the rows of neighbours correspond. -/
theorem alo_peer (fi : Fin 3) (c : Dev nD) : alo fi (peer fi c) = hlo fi c := by revert fi c; decide
theorem hlo_peer (fi : Fin 3) (c : Dev nD) : hlo fi (peer fi c) = alo fi c := by revert fi c; decide
theorem slo_peer (fi : Fin 3) (c : Dev nD) : slo fi (peer (fi + 1) c) = klo fi c := by revert fi c; decide
theorem klo_peer (fi : Fin 3) (c : Dev nD) : klo fi (peer (fi + 1) c) = slo fi c := by revert fi c; decide
theorem klo_peer2 (fi : Fin 3) (c : Dev nD) : klo fi (peer (fi + 2) c) = klo fi c := by revert fi c; decide
theorem hlo_peer1 (fi : Fin 3) (c : Dev nD) : hlo fi (peer (fi + 1) c) = hlo fi c := by revert fi c; decide
theorem hlo_peer2 (fi : Fin 3) (c : Dev nD) : hlo fi (peer (fi + 2) c) = hlo fi c := by revert fi c; decide

/-! ## The kernel's own address computations, in closed form -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer (0 + 0) c := by revert c; decide +kernel
theorem dev5_eq (c : Dev nD) : (⟨k0_dev5 c, k0_dev5_lt c⟩ : Dev nD) = peer (1 + 0) c := by revert c; decide +kernel
theorem dev6_eq (c : Dev nD) : (⟨k0_dev6 c, k0_dev6_lt c⟩ : Dev nD) = peer (2 + 0) c := by revert c; decide +kernel
theorem dev7_eq (c : Dev nD) : (⟨k0_dev7 c, k0_dev7_lt c⟩ : Dev nD) = peer (0 + 1) c := by revert c; decide +kernel
theorem dev8_eq (c : Dev nD) : (⟨k0_dev8 c, k0_dev8_lt c⟩ : Dev nD) = peer (1 + 1) c := by revert c; decide +kernel
theorem dev9_eq (c : Dev nD) : (⟨k0_dev9 c, k0_dev9_lt c⟩ : Dev nD) = peer (2 + 1) c := by revert c; decide +kernel
theorem dev10_eq (c : Dev nD) : (⟨k0_dev10 c, k0_dev10_lt c⟩ : Dev nD) = peer (0 + 2) c := by revert c; decide +kernel
theorem dev11_eq (c : Dev nD) : (⟨k0_dev11 c, k0_dev11_lt c⟩ : Dev nD) = peer (1 + 2) c := by revert c; decide +kernel
theorem dev12_eq (c : Dev nD) : (⟨k0_dev12 c, k0_dev12_lt c⟩ : Dev nD) = peer (2 + 2) c := by revert c; decide +kernel
theorem dev13_eq (c : Dev nD) : (⟨k0_dev13 c, k0_dev13_lt c⟩ : Dev nD) = peer (0 + 1) c := by revert c; decide +kernel
theorem dev14_eq (c : Dev nD) : (⟨k0_dev14 c, k0_dev14_lt c⟩ : Dev nD) = peer (1 + 1) c := by revert c; decide +kernel
theorem dev15_eq (c : Dev nD) : (⟨k0_dev15 c, k0_dev15_lt c⟩ : Dev nD) = peer (2 + 1) c := by revert c; decide +kernel
theorem dev16_eq (c : Dev nD) : (⟨k0_dev16 c, k0_dev16_lt c⟩ : Dev nD) = peer (0 + 0) c := by revert c; decide +kernel
theorem dev17_eq (c : Dev nD) : (⟨k0_dev17 c, k0_dev17_lt c⟩ : Dev nD) = peer (1 + 0) c := by revert c; decide +kernel
theorem dev18_eq (c : Dev nD) : (⟨k0_dev18 c, k0_dev18_lt c⟩ : Dev nD) = peer (2 + 0) c := by revert c; decide +kernel

theorem off1_eq (c : Dev nD) : k0_off1 c = ![alo 0 c, 0] := by revert c; decide +kernel
theorem off2_eq (c : Dev nD) : k0_off2 c = ![alo 0 c, 0] := by revert c; decide +kernel
theorem off3_eq (c : Dev nD) : k0_off3 c = ![alo 0 c, 0] := by revert c; decide +kernel
theorem off4_eq (c : Dev nD) : k0_off4 c = ![alo 0 c, 0] := by revert c; decide +kernel
theorem off5_1_eq (c : Dev nD) : k0_off5 c 1#32 = ![alo 1 c, 0] := by revert c; decide +kernel
theorem off5_2_eq (c : Dev nD) : k0_off5 c 2#32 = ![alo 2 c, 0] := by revert c; decide +kernel
theorem off6_1_eq (c : Dev nD) : k0_off6 c 1#32 = ![alo 1 c, 0] := by revert c; decide +kernel
theorem off6_2_eq (c : Dev nD) : k0_off6 c 2#32 = ![alo 2 c, 0] := by revert c; decide +kernel
theorem off7_eq (c : Dev nD) : k0_off7 c = ![alo 1 c, 384] := by revert c; decide +kernel
theorem off8_eq (c : Dev nD) : k0_off8 c = ![alo 1 c, 384] := by revert c; decide +kernel
theorem off9_eq (c : Dev nD) : k0_off9 c = ![alo 2 c, 768] := by revert c; decide +kernel
theorem off10_eq (c : Dev nD) : k0_off10 c = ![alo 2 c, 768] := by revert c; decide +kernel
theorem off11_eq (c : Dev nD) : k0_off11 c = ![hlo 0 c, 0] := by revert c; decide +kernel
theorem off12_eq (c : Dev nD) : k0_off12 c = ![hlo 0 c, 0] := by revert c; decide +kernel
theorem off13_eq (c : Dev nD) : k0_off13 c = ![hlo 0 c, 0] := by revert c; decide +kernel
theorem off14_1_eq (c : Dev nD) : k0_off14 c 1#32 = ![hlo 1 c, 0] := by revert c; decide +kernel
theorem off14_2_eq (c : Dev nD) : k0_off14 c 2#32 = ![hlo 2 c, 0] := by revert c; decide +kernel
theorem off15_1_eq (c : Dev nD) : k0_off15 c 1#32 = ![hlo 1 c, 0] := by revert c; decide +kernel
theorem off15_2_eq (c : Dev nD) : k0_off15 c 2#32 = ![hlo 2 c, 0] := by revert c; decide +kernel
theorem off16_eq (c : Dev nD) : k0_off16 c = ![hlo 1 c, 384] := by revert c; decide +kernel
theorem off17_eq (c : Dev nD) : k0_off17 c = ![hlo 2 c, 768] := by revert c; decide +kernel
theorem off18_eq (c : Dev nD) : k0_off18 c = ![slo 0 c, 0] := by revert c; decide +kernel
theorem off19_eq (c : Dev nD) : k0_off19 c = ![slo 0 c - hlo 0 c, 0] := by revert c; decide +kernel
theorem off20_eq (c : Dev nD) : k0_off20 c = ![slo 0 c, 0] := by revert c; decide +kernel
theorem off21_eq (c : Dev nD) : k0_off21 c = ![klo 0 c, 0] := by revert c; decide +kernel
theorem off22_eq (c : Dev nD) : k0_off22 c = ![klo 0 c - hlo 0 c, 0] := by revert c; decide +kernel
theorem off23_eq (c : Dev nD) : k0_off23 c = ![slo 1 c, 384] := by revert c; decide +kernel
theorem off24_eq (c : Dev nD) : k0_off24 c = ![slo 1 c - hlo 1 c, 0] := by revert c; decide +kernel
theorem off25_eq (c : Dev nD) : k0_off25 c = ![slo 1 c, 384] := by revert c; decide +kernel
theorem off26_eq (c : Dev nD) : k0_off26 c = ![klo 1 c, 384] := by revert c; decide +kernel
theorem off27_eq (c : Dev nD) : k0_off27 c = ![klo 1 c - hlo 1 c, 0] := by revert c; decide +kernel
theorem off28_eq (c : Dev nD) : k0_off28 c = ![slo 2 c, 768] := by revert c; decide +kernel
theorem off29_eq (c : Dev nD) : k0_off29 c = ![slo 2 c - hlo 2 c, 0] := by revert c; decide +kernel
theorem off30_eq (c : Dev nD) : k0_off30 c = ![slo 2 c, 768] := by revert c; decide +kernel
theorem off31_eq (c : Dev nD) : k0_off31 c = ![klo 2 c, 768] := by revert c; decide +kernel
theorem off32_eq (c : Dev nD) : k0_off32 c = ![klo 2 c - hlo 2 c, 0] := by revert c; decide +kernel
theorem off33_eq (c : Dev nD) : k0_off33 c = ![klo 0 c, 0] := by revert c; decide +kernel
theorem off34_eq (c : Dev nD) : k0_off34 c = ![klo 1 c, 384] := by revert c; decide +kernel
theorem off35_eq (c : Dev nD) : k0_off35 c = ![klo 2 c, 768] := by revert c; decide +kernel
theorem off36_eq (c : Dev nD) : k0_off36 c = ![hlo 0 c, 0] := by revert c; decide +kernel
theorem off37_eq (c : Dev nD) : k0_off37 c = ![hlo 0 c, 0] := by revert c; decide +kernel
theorem off38_eq (c : Dev nD) : k0_off38 c = ![hlo 1 c, 384] := by revert c; decide +kernel
theorem off39_eq (c : Dev nD) : k0_off39 c = ![hlo 1 c, 384] := by revert c; decide +kernel
theorem off40_eq (c : Dev nD) : k0_off40 c = ![hlo 2 c, 768] := by revert c; decide +kernel
theorem off41_eq (c : Dev nD) : k0_off41 c = ![hlo 2 c, 768] := by revert c; decide +kernel

end Cert.Cube
-- ==== Proof.Contents.lean ====
/-
What the kernel's buffers hold, as functions of the launch's inputs, over any float values.

Per device and flow: `P` is the device's own product with its four experts, `S1`, `S2`, `S3` the sums after the
first, second and third exchange, `fin` the finished block after the two gathering exchanges. All are functions of a
row of the whole result and a column of the flow.
-/
module

public import proofs.«01_k».proof.Proof.Geometry

@[expose] public section

set_option maxRecDepth 16384

noncomputable section

namespace Cert.Cube

open Cert.KernelIdeal Cert.KernelIdeal.Gen
open Idealize.ShloMosaic

variable {F : FTy → Type} [FloatOps F]

/-! ## Indices -/

set_option backward.proofsInPublic true in
/-- The index at a row and a column, wrapped into the shape. -/
def ix2 (a b : ℕ) [NeZero a] [NeZero b] (r c : ℕ) : (⟨2, ![a, b]⟩ : Shape).Idx
  | 0 => (⟨r % a, Nat.mod_lt _ (Nat.pos_of_ne_zero (NeZero.ne a))⟩ : Fin a)
  | 1 => (⟨c % b, Nat.mod_lt _ (Nat.pos_of_ne_zero (NeZero.ne b))⟩ : Fin b)

set_option backward.proofsInPublic true in
/-- The same at rank three. -/
def ix3 (a b d : ℕ) [NeZero a] [NeZero b] [NeZero d] (p r c : ℕ) : (⟨3, ![a, b, d]⟩ : Shape).Idx
  | 0 => (⟨p % a, Nat.mod_lt _ (Nat.pos_of_ne_zero (NeZero.ne a))⟩ : Fin a)
  | 1 => (⟨r % b, Nat.mod_lt _ (Nat.pos_of_ne_zero (NeZero.ne b))⟩ : Fin b)
  | 2 => (⟨c % d, Nat.mod_lt _ (Nat.pos_of_ne_zero (NeZero.ne d))⟩ : Fin d)

@[simp] theorem ix2_0 (a b : ℕ) [NeZero a] [NeZero b] (r c : ℕ) : ((ix2 a b r c) 0 : ℕ) = r % a := rfl
@[simp] theorem ix2_1 (a b : ℕ) [NeZero a] [NeZero b] (r c : ℕ) : ((ix2 a b r c) 1 : ℕ) = c % b := rfl
@[simp] theorem ix3_0 (a b d : ℕ) [NeZero a] [NeZero b] [NeZero d] (p r c : ℕ) : ((ix3 a b d p r c) 0 : ℕ) = p % a := rfl
@[simp] theorem ix3_1 (a b d : ℕ) [NeZero a] [NeZero b] [NeZero d] (p r c : ℕ) : ((ix3 a b d p r c) 1 : ℕ) = r % b := rfl
@[simp] theorem ix3_2 (a b d : ℕ) [NeZero a] [NeZero b] [NeZero d] (p r c : ℕ) : ((ix3 a b d p r c) 2 : ℕ) = c % d := rfl

/-- An index of rank two is the one at its coordinates. -/
theorem eq_ix2 {a b : ℕ} [NeZero a] [NeZero b] (i : (⟨2, ![a, b]⟩ : Shape).Idx) (r c : ℕ) (h0 : (i 0 : ℕ) = r) (h1 : (i 1 : ℕ) = c) :
    i = ix2 a b r c := by
  funext k
  match k with
  | ⟨0, _⟩ => exact Fin.ext (h0 ▸ (Nat.mod_eq_of_lt (i 0).isLt).symm)
  | ⟨1, _⟩ => exact Fin.ext (h1 ▸ (Nat.mod_eq_of_lt (i 1).isLt).symm)

/-- The same at rank three. -/
theorem eq_ix3 {a b d : ℕ} [NeZero a] [NeZero b] [NeZero d] (i : (⟨3, ![a, b, d]⟩ : Shape).Idx) (p r c : ℕ) (h0 : (i 0 : ℕ) = p)
    (h1 : (i 1 : ℕ) = r) (h2 : (i 2 : ℕ) = c) : i = ix3 a b d p r c := by
  funext k
  match k with
  | ⟨0, _⟩ => exact Fin.ext (h0 ▸ (Nat.mod_eq_of_lt (i 0).isLt).symm)
  | ⟨1, _⟩ => exact Fin.ext (h1 ▸ (Nat.mod_eq_of_lt (i 1).isLt).symm)
  | ⟨2, _⟩ => exact Fin.ext (h2 ▸ (Nat.mod_eq_of_lt (i 2).isLt).symm)

/-! ## The inputs and a device's own products -/

/-- What each device is launched with: the rows, their experts' numbers, the device's four experts. -/
structure Inp (F : FTy → Type) where
  x : Dev nD → S2048x512.Idx → Elt F .f32
  r : Dev nD → S2048x1.Idx → Elt F .i32
  w : Dev nD → S4x512x1024.Idx → Elt F .f32

/-- A device's number, as the kernel computes it. -/
def dnum (c : Dev nD) : BitVec 32 := Scalar.remsi (Scalar.divsi (Dev.word c) 1#32) 8#32

/-- Half `b` of the rows, and of the experts' numbers. -/
def xblk (I : Inp F) (c : Dev nD) (b : ℕ) : Vec F S1024x512 .f32 := fun k => I.x c (ix2 2048 512 (1024 * b + k 0) (k 1))
def rblk (I : Inp F) (c : Dev nD) (b : ℕ) : Vec F S1024x1 .i32 := fun k => I.r c (ix2 2048 1 (1024 * b + k 0) (k 1))
/-- Expert `e` of the device at the columns from `o` on. -/
def wblk (I : Inp F) (c : Dev nD) (e o : ℕ) : Vec F S1x512x384 .f32 := fun k => I.w c (ix3 4 512 1024 (e + k 0) (k 1) (o + k 2))
def wblk' (I : Inp F) (c : Dev nD) (e o : ℕ) : Vec F S1x512x256 .f32 := fun k => I.w c (ix3 4 512 1024 (e + k 0) (k 1) (o + k 2))

/-- The rows whose expert's number is the device's expert `e`, every other row zero. -/
def sel (d : BitVec 32) (x : Vec F S1024x512 .f32) (r : Vec F S1024x1 .i32) (e : BitVec 32) : FVec F S1024x512 .bf16 :=
  select (broadcastTo S1024x512 (shapeCast S1024x1 (cmpi .eq (shapeCast S1024x1 r shapeCasts_S1024x1_S1024x1)
      (broadcast S1024x1 (Scalar.addi (Scalar.muli d 4#32) e))) shapeCasts_S1024x1_S1024x1) broadcasts_S1024x1_S1024x512)
    (truncf .bf16 (shapeCast S1024x512 x shapeCasts_S1024x512_S1024x512) bitsLt_bf16_f32) (broadcast S1024x512 (Scalar.sitofp .bf16 0#32))

/-- One expert's product onto a running sum, at 384 columns and at 256. -/
def stp (s : FVec F S1024x512 .bf16) (w : Vec F S1x512x384 .f32) (acc : FVec F S1024x384 .f32) : FVec F S1024x384 .f32 :=
  addf acc (matmul dot_S1024x512_S512x384_S1024x384_1_0_0_1_n_n none s
    (truncf .bf16 (shapeCast S512x384 w shapeCasts_S1x512x384_S512x384) bitsLt_bf16_f32) (constant S1024x384 .f32 0x00000000#32))
def stp' (s : FVec F S1024x512 .bf16) (w : Vec F S1x512x256 .f32) (acc : FVec F S1024x256 .f32) : FVec F S1024x256 .f32 :=
  addf acc (matmul dot_S1024x512_S512x256_S1024x256_1_0_0_1_n_n none s
    (truncf .bf16 (shapeCast S512x256 w shapeCasts_S1x512x256_S512x256) bitsLt_bf16_f32) (constant S1024x256 .f32 0x00000000#32))

/-- A device's product over half the rows with its four experts, at 384 columns and at 256. -/
def blk (d : BitVec 32) (x : Vec F S1024x512 .f32) (r : Vec F S1024x1 .i32) (w0 w1 w2 w3 : Vec F S1x512x384 .f32) : FVec F S1024x384 .bf16 :=
  shapeCast S1024x384 (truncf .bf16 (stp (sel d x r 3#32) w3 (stp (sel d x r 2#32) w2 (stp (sel d x r 1#32) w1
    (stp (sel d x r 0#32) w0 (broadcast S1024x384 (Scalar.ofBits .f32 0x00000000#32)))))) bitsLt_bf16_f32) shapeCasts_S1024x384_S1024x384
def blk' (d : BitVec 32) (x : Vec F S1024x512 .f32) (r : Vec F S1024x1 .i32) (w0 w1 w2 w3 : Vec F S1x512x256 .f32) : FVec F S1024x256 .bf16 :=
  shapeCast S1024x256 (truncf .bf16 (stp' (sel d x r 3#32) w3 (stp' (sel d x r 2#32) w2 (stp' (sel d x r 1#32) w1
    (stp' (sel d x r 0#32) w0 (broadcast S1024x256 (Scalar.ofBits .f32 0x00000000#32)))))) bitsLt_bf16_f32) shapeCasts_S1024x256_S1024x256

/-- The kernel's six products, each computed in pieces, are these. -/
theorem pay_a0 (c : Dev nD) (x : Vec F S1024x512 .f32) (r : Vec F S1024x1 .i32) (w0 w1 w2 w3 : Vec F S1x512x384 .f32) :
    k0_pay7 (k0_pay2 x) (k0_pay3 r) (k0_pay6 (dnum c) (k0_pay2 x) (k0_pay3 r) k0_pay4 (k0_pay5 c r) w0 w1 w2)
      (Scalar.muli (dnum c) 4#32) 3#32 w3 = blk (dnum c) x r w0 w1 w2 w3 := rfl
theorem pay_a1 (d : BitVec 32) (x : Vec F S1024x512 .f32) (r : Vec F S1024x1 .i32) (w0 w1 w2 w3 : Vec F S1x512x384 .f32) :
    k0_pay13 d (k0_pay8 x) (k0_pay9 r) (k0_pay10 d x r w0 w1) (k0_pay11 (F := F)) (k0_pay12 d r) w2 w3 = blk d x r w0 w1 w2 w3 := rfl
theorem pay_a2 (d : BitVec 32) (x : Vec F S1024x512 .f32) (r : Vec F S1024x1 .i32) (w0 w1 w2 w3 : Vec F S1x512x256 .f32) :
    k0_pay18 d (k0_pay14 x) (k0_pay15 r) (k0_pay16 d x r w0) (k0_pay17 d x r) w1 w2 w3 = blk' d x r w0 w1 w2 w3 := rfl
theorem pay_h0 (d : BitVec 32) (x : Vec F S1024x512 .f32) (r : Vec F S1024x1 .i32) (w0 w1 w2 w3 : Vec F S1x512x384 .f32) :
    k0_pay25 (k0_pay24 d (k0_pay19 x) (k0_pay20 r) (k0_pay21 d x r w0) (k0_pay22 d r) (k0_pay23 (F := F)) w1 w2 w3) = blk d x r w0 w1 w2 w3 := rfl
theorem pay_h1 (d : BitVec 32) (x : Vec F S1024x512 .f32) (r : Vec F S1024x1 .i32) (w0 w1 w2 w3 : Vec F S1x512x384 .f32) :
    k0_pay30 d (k0_pay26 x) (k0_pay27 r) (k0_pay28 d x r w0 w1) (k0_pay29 d) w2 w3 = blk d x r w0 w1 w2 w3 := rfl
theorem pay_h2 (d : BitVec 32) (x : Vec F S1024x512 .f32) (r : Vec F S1024x1 .i32) (w0 w1 w2 w3 : Vec F S1x512x256 .f32) :
    k0_pay36 (k0_pay31 x) (k0_pay32 r) (k0_pay35 d (k0_pay31 x) (k0_pay32 r) (k0_pay33 (F := F)) (k0_pay34 d) w0 w1 w2)
      (Scalar.muli d 4#32) w3 = blk' d x r w0 w1 w2 w3 := rfl

/-! ## The contents, by flow, row and column -/

/-- A device's own product: half `b` of the rows, at a row of the half. -/
def Pb (I : Inp F) (fi : Fin 3) (c : Dev nD) (b r col : ℕ) : F .bf16 :=
  match fi with
  | 0 => blk (dnum c) (xblk I c b) (rblk I c b) (wblk I c 0 0) (wblk I c 1 0) (wblk I c 2 0) (wblk I c 3 0) (ix2 1024 384 r col)
  | 1 => blk (dnum c) (xblk I c b) (rblk I c b) (wblk I c 0 384) (wblk I c 1 384) (wblk I c 2 384) (wblk I c 3 384) (ix2 1024 384 r col)
  | 2 => blk' (dnum c) (xblk I c b) (rblk I c b) (wblk' I c 0 768) (wblk' I c 1 768) (wblk' I c 2 768) (wblk' I c 3 768) (ix2 1024 256 r col)

/-- A device's own product at a row of the whole result. -/
def P (I : Inp F) (fi : Fin 3) (c : Dev nD) (r col : ℕ) : F .bf16 := Pb I fi c (r / 1024) (r % 1024) col

/-- The sums after each of the three exchanges. -/
def S1 (I : Inp F) (fi : Fin 3) (c : Dev nD) (r col : ℕ) : F .bf16 := FloatOps.addf (P I fi c r col) (P I fi (peer fi c) r col)
def S2 (I : Inp F) (fi : Fin 3) (c : Dev nD) (r col : ℕ) : F .bf16 := FloatOps.addf (S1 I fi c r col) (S1 I fi (peer (fi + 1) c) r col)
def S3 (I : Inp F) (fi : Fin 3) (c : Dev nD) (r col : ℕ) : F .bf16 := FloatOps.addf (S2 I fi c r col) (S2 I fi (peer (fi + 2) c) r col)

/-- After the first gathering exchange: each quarter of the half a device keeps, from the device that summed it. -/
def fin1 (I : Inp F) (fi : Fin 3) (c : Dev nD) (r col : ℕ) : F .bf16 :=
  if (r / 512) % 2 = side (fi + 1) c then S3 I fi c r col else S3 I fi (peer (fi + 1) c) r col
/-- After the second: each half, from the device that kept it. -/
def fin (I : Inp F) (fi : Fin 3) (c : Dev nD) (r col : ℕ) : F .bf16 :=
  if r / 1024 = side fi c then fin1 I fi c r col else fin1 I fi (peer fi c) r col

/-- The flow a column belongs to. -/
def flow (col : ℕ) : Fin 3 := if col < 384 then 0 else if col < 768 then 1 else 2

/-- The result on a device. -/
def OUT (I : Inp F) (c : Dev nD) : S2048x1024.Idx → F .f32 := fun i =>
  FloatOps.extf .f32 bitsLt_bf16_f32 (fin I (flow (i 1)) c (i 0) (i 1 - cs (flow (i 1))))

/-- Contents of the reduction buffer that are `g` on the columns of flow `fi`. -/
def ctn (fi : Fin 3) (g : ℕ → ℕ → F .bf16) : S2048x1024.Idx → Elt F .bf16 := fun i => g (i 0) (i 1 - cs fi)

/-- Contents of a landing buffer, at 384 columns and at 256. -/
def ctc (g : ℕ → ℕ → F .bf16) : S2048x384.Idx → Elt F .bf16 := fun i => g (i 0) (i 1)
def ctc' (g : ℕ → ℕ → F .bf16) : S2048x256.Idx → Elt F .bf16 := fun i => g (i 0) (i 1)

/-- What lands in each of the three parts of a device's landing buffer. -/
def cm (I : Inp F) (fi k : Fin 3) (c : Dev nD) (r col : ℕ) : F .bf16 :=
  match k with
  | 0 => P I fi (peer fi c) (hlo fi c + r) col
  | 1 => S1 I fi (peer (fi + 1) c) (klo fi c + (r - 1024)) col
  | 2 => S2 I fi (peer (fi + 2) c) (klo fi c + (r - 1536)) col

end Cert.Cube

end
-- ==== Proof.Schedule.lean ====
/-
The exchange protocol: what each semaphore's rounds carry, what each device owes at launch, and the levels that
order the waits.

Every flow makes five transfers. Transfer `r` of flow `fi` goes along the axis `axs fi r` and covers `rows r` rows; the
first three reduce (they land in the neighbour's landing buffer), the last two gather (they land in the neighbour's
reduction buffer). The transfers of a flow share one send semaphore, on which they are five successive rounds; each
has a receive semaphore of its own.
-/
module

public import proofs.«01_k».proof.Proof.Contents

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the launch's own, and the exchange's rounds, whose duties are numbered by an axis. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Regions of buffers -/

/-- The indices from `off` on, `size` along each dimension. -/
def box (s : Shape) (off size : Fin s.rank → ℕ) : Finset s.Idx := Finset.univ.filter fun i => ∀ a, off a ≤ i a ∧ i a < off a + size a

theorem mem_box {s : Shape} {off size : Fin s.rank → ℕ} {i : s.Idx} : i ∈ box s off size ↔ ∀ a, off a ≤ i a ∧ i a < off a + size a := by
  simp [box]

/-- Part of a buffer of device `c`, holding `f` there. -/
def rp (b : Ref sig .tc) (c : Dev nD) (off size : Fin b.ty.shape.rank → ℕ) (q : PosShare TreeShare) (f : b.ty.Contents (Elt F)) : sProp 𝕄 :=
  ((c : Thread nD τ).loc b) ↦[box b.ty.shape off size]{q} f

omit [FloatOps F] in
instance rp_storable (b : Ref sig .tc) (c : Dev nD) (off size : Fin b.ty.shape.rank → ℕ) (q : PosShare TreeShare) (f : b.ty.Contents (Elt F)) :
    BI.Storable (upEmb : UEmb _ 𝕄) (rp b c off size q f) := by unfold rp; infer_instance

/-- Rows `lo ≤ r < lo + n` of flow `fi`'s columns of the reduction buffer, holding `g`. -/
def rd (c : Dev nD) (fi : Fin 3) (lo n : ℕ) (q : PosShare TreeShare) (g : ℕ → ℕ → F .bf16) : sProp 𝕄 :=
  rp cc0_scratch0 c ![lo, cs fi] ![n, cw fi] q (ctn fi g)

/-- The part of a flow's landing buffer that each of its first three transfers lands in: first row, number of rows. -/
def clo (k : Fin 3) : ℕ := (![0, 1024, 1536] : Fin 3 → ℕ) k
def cn (k : Fin 3) : ℕ := (![1024, 512, 512] : Fin 3 → ℕ) k

/-- That part holding `g`; and holding anything. -/
def cmHas (fi k : Fin 3) (c : Dev nD) (g : ℕ → ℕ → F .bf16) : sProp 𝕄 :=
  match fi with
  | 0 => rp cc0_scratch1 c ![clo k, 0] ![cn k, 384] fullShare (ctc g)
  | 1 => rp cc0_scratch2 c ![clo k, 0] ![cn k, 384] fullShare (ctc g)
  | 2 => rp cc0_scratch3 c ![clo k, 0] ![cn k, 256] fullShare (ctc' g)
def cmAny (fi k : Fin 3) (c : Dev nD) : sProp 𝕄 :=
  match fi with
  | 0 => iprop(∃ f, rp cc0_scratch1 c ![clo k, 0] ![cn k, 384] fullShare f)
  | 1 => iprop(∃ f, rp cc0_scratch2 c ![clo k, 0] ![cn k, 384] fullShare f)
  | 2 => iprop(∃ f, rp cc0_scratch3 c ![clo k, 0] ![cn k, 256] fullShare f)

omit [FloatOps F] in
instance rd_storable (c : Dev nD) (fi : Fin 3) (lo n : ℕ) (q : PosShare TreeShare) (g : ℕ → ℕ → F .bf16) :
    BI.Storable (upEmb : UEmb _ 𝕄) (rd c fi lo n q g) := by unfold rd; infer_instance
omit [FloatOps F] in
instance cmHas_storable (fi k : Fin 3) (c : Dev nD) (g : ℕ → ℕ → F .bf16) : BI.Storable (upEmb : UEmb _ 𝕄) (cmHas fi k c g) := by
  unfold cmHas; split <;> infer_instance
omit [FloatOps F] in
instance cmAny_storable (fi k : Fin 3) (c : Dev nD) : BI.Storable (upEmb : UEmb _ 𝕄) (cmAny (F := F) fi k c) := by
  unfold cmAny; split <;> infer_instance

/-! ## The transfers -/

/-- The axis, and the number of rows, of transfer `r` of a flow. -/
def axs (fi : Fin 3) (r : Fin 5) : Fin 3 := fi + (![0, 1, 2, 1, 0] : Fin 5 → Fin 3) r
def rows (r : Fin 5) : ℕ := (![1024, 512, 512, 512, 1024] : Fin 5 → ℕ) r

/-- What a transfer counts on a semaphore. -/
def amt (fi : Fin 3) (r : Fin 5) : ℕ := sig.dmaCredit .tc (Kind.tc.table .vmem) (cc0_scratch0 : Ref sig .tc).idx ⟨2, ![rows r, cw fi]⟩ .bf16

theorem amt_pos (fi : Fin 3) (r : Fin 5) : 0 < amt fi r := by
  refine sig.dmaCredit_pos _ _ _ _ _ ?_
  revert fi r; decide

/-- The semaphores of the exchange: the barrier, a flow's send semaphore, a flow's receive semaphores (the sixth is
    never used). -/
inductive CK where
  | bar
  | snd (fi : Fin 3)
  | rcv (fi : Fin 3) (r : Fin 5)
  | idle (fi : Fin 3)
deriving DecidableEq

/-- They are one, three, fifteen and three. -/
def ckEquiv : CK ≃ Unit ⊕ Fin 3 ⊕ (Fin 3 × Fin 5) ⊕ Fin 3 where
  toFun | .bar => .inl () | .snd fi => .inr (.inl fi) | .rcv fi r => .inr (.inr (.inl (fi, r))) | .idle fi => .inr (.inr (.inr fi))
  invFun | .inl _ => .bar | .inr (.inl fi) => .snd fi | .inr (.inr (.inl x)) => .rcv x.1 x.2 | .inr (.inr (.inr fi)) => .idle fi
  left_inv k := by cases k <;> rfl
  right_inv k := by rcases k with _ | _ | _ | _ <;> rfl

instance : Fintype CK := Fintype.ofEquiv _ ckEquiv.symm

abbrev barS : Sem sig := (SemArray.scalar (sig.barrier 0 rfl) : Sems sig S_).sem

set_option backward.proofsInPublic true in
def sndS (fi : Fin 3) : DmaSem sig := ⟨4 + fi, by revert fi; decide⟩
set_option backward.proofsInPublic true in
def rcvS (fi : Fin 3) (r : Fin 5) : DmaSem sig := ⟨(![7, 8, 9, 17, 18] : Fin 5 → ℕ) r + 3 * fi, by revert fi r; decide⟩
set_option backward.proofsInPublic true in
def idleS (fi : Fin 3) : DmaSem sig := ⟨16 + 3 * fi, by revert fi; decide⟩

def csem : CK → SemLoc sig
  | .bar => .reg barS
  | .snd fi => .dma (sndS fi)
  | .rcv fi r => .dma (rcvS fi r)
  | .idle fi => .dma (idleS fi)

def cell (c : Dev nD) (k : CK) : GSem nD τ sig := ((c : Thread nD τ), csem k)

set_option backward.proofsInPublic true in
def mod3 (n : ℕ) : Fin 3 := ⟨n % 3, Nat.mod_lt _ (by decide)⟩
set_option backward.proofsInPublic true in
def mod5 (n : ℕ) : Fin 5 := ⟨n % 5, Nat.mod_lt _ (by decide)⟩

/-- Which of the exchange's semaphores a semaphore is (the staging semaphores: none that is used). -/
def kindOf : SemLoc sig → CK
  | .reg _ => .bar
  | .dma q => if q.val < 4 then .idle 0 else if q.val < 7 then .snd (mod3 (q.val - 4))
      else if q.val < 16 then .rcv (mod3 ((q.val - 7) / 3)) (mod5 ((q.val - 7) % 3))
      else if (q.val - 16) % 3 = 0 then .idle (mod3 ((q.val - 16) / 3)) else .rcv (mod3 ((q.val - 16) / 3)) (mod5 ((q.val - 16) % 3 + 2))

theorem kindOf_csem (k : CK) : kindOf (csem k) = k := by
  rcases k with _ | fi | ⟨fi, r⟩ | fi
  · rfl
  · revert fi; decide
  · revert fi r; decide
  · revert fi; decide

theorem csem_inj {k k' : CK} (h : csem k = csem k') : k = k' := by rw [← kindOf_csem k, h, kindOf_csem]

theorem cell_inj {c c' : Dev nD} {k k' : CK} (h : cell c k = cell c' k') : c = c' ∧ k = k' :=
  ⟨Fin.ext (congrArg (fun g : GSem nD τ sig => g.1.1.val) h), csem_inj (congrArg Prod.snd h)⟩

/-! ## The schedule -/

section
variable (I : Inp F)

/-- What a signal along axis `A` to device `c` carries: the parts of the signaller's landing buffers `c` will fill. -/
def barPay (A : Fin 3) (c : Dev nD) : sProp 𝕄 :=
  iprop(cmAny 0 (A - 0) (peer A c) ∗ cmAny 1 (A - 1) (peer A c) ∗ cmAny 2 (A - 2) (peer A c))

/-- What a send semaphore's rounds give back: the first two transfers give their rows away, the others get them back
    (the last one lent half a share). -/
def sndPay (fi : Fin 3) (r : Fin 5) (c : Dev nD) : sProp 𝕄 :=
  match r with
  | 0 => iprop(emp)
  | 1 => iprop(emp)
  | 2 => rd c fi (klo fi c) 512 fullShare (S2 I fi c)
  | 3 => rd c fi (klo fi c) 512 fullShare (S3 I fi c)
  | 4 => rd c fi (hlo fi c) 1024 fullShare.left (fin I fi c)

/-- What arrives at device `c` with each transfer: the data, and with the first two the neighbour's rows it came from,
    to be filled by the gathering transfers. -/
def rcvPay (fi : Fin 3) (r : Fin 5) (c : Dev nD) : sProp 𝕄 :=
  match r with
  | 0 => iprop(cmHas fi 0 c (cm I fi 0 c) ∗ rd (peer fi c) fi (hlo fi c) 1024 fullShare (P I fi (peer fi c)))
  | 1 => iprop(cmHas fi 1 c (cm I fi 1 c) ∗ rd (peer (fi + 1) c) fi (klo fi c) 512 fullShare (S1 I fi (peer (fi + 1) c)))
  | 2 => cmHas fi 2 c (cm I fi 2 c)
  | 3 => rd c fi (slo fi c) 512 fullShare (fin I fi c)
  | 4 => rd c fi (alo fi c) 1024 fullShare (fin I fi c)

instance barPay_storable (A : Fin 3) (c : Dev nD) : BI.Storable (upEmb : UEmb _ 𝕄) (barPay (F := F) A c) := by unfold barPay; infer_instance
instance sndPay_storable (fi : Fin 3) (r : Fin 5) (c : Dev nD) : BI.Storable (upEmb : UEmb _ 𝕄) (sndPay I fi r c) := by
  unfold sndPay; split <;> infer_instance
instance rcvPay_storable (fi : Fin 3) (r : Fin 5) (c : Dev nD) : BI.Storable (upEmb : UEmb _ 𝕄) (rcvPay I fi r c) := by
  unfold rcvPay; split <;> infer_instance

/-- The barrier: one round of one unit along each axis. A send semaphore: five rounds. A receive semaphore: one. -/
def Rd : Rounds.Schedule (GSem nD τ sig) (Fin 3) 𝕄 where
  duties g r := match kindOf g.2 with
    | .bar => if r = 0 then Finset.univ else ∅
    | .snd _ => if r < 5 then {0} else ∅
    | .rcv _ _ => if r = 0 then {0} else ∅
    | .idle _ => ∅
  unitless _ := False
  amount g r _ := match kindOf g.2 with
    | .bar => 1
    | .snd fi => amt fi (mod5 r)
    | .rcv fi r => amt fi r
    | .idle _ => 1
  payload g r d := match kindOf g.2 with
    | .bar => barPay d g.1.1
    | .snd fi => sndPay I fi (mod5 r) g.1.1
    | .rcv fi r => rcvPay I fi r g.1.1
    | .idle _ => iprop(emp)
  amount_pos g r d _ := by
    show 0 < (match kindOf g.2 with | .bar => 1 | .snd fi => amt fi (mod5 r) | .rcv fi r => amt fi r | .idle _ => 1)
    split
    · exact Nat.one_pos
    · exact amt_pos _ _
    · exact amt_pos _ _
    · exact Nat.one_pos

instance Rd_payload_storable (g : GSem nD τ sig) (r : ℕ) (d : Fin 3) : BI.Storable (upEmb : UEmb _ 𝕄) ((Rd I).payload g r d) := by
  show BI.Storable upEmb (match kindOf g.2 with
    | .bar => barPay d g.1.1 | .snd fi => sndPay I fi (mod5 r) g.1.1 | .rcv fi r => rcvPay I fi r g.1.1 | .idle _ => iprop(emp))
  split <;> infer_instance

theorem mod5_val (r : Fin 5) : mod5 r.val = r := by revert r; decide

variable (c : Dev nD) (fi : Fin 3) (r : Fin 5)

theorem duties_bar : (Rd I).duties (cell c .bar) 0 = Finset.univ := rfl
theorem duties_snd : (Rd I).duties (cell c (.snd fi)) r.val = {0} := by
  dsimp only [Rd, cell]; rw [kindOf_csem]; exact if_pos r.isLt
theorem duties_rcv : (Rd I).duties (cell c (.rcv fi r)) 0 = {0} := by
  dsimp only [Rd, cell]; rw [kindOf_csem]; rfl
theorem amount_bar (d : Fin 3) : (Rd I).amount (cell c .bar) 0 d = 1 := rfl
theorem amount_snd (d : Fin 3) : (Rd I).amount (cell c (.snd fi)) r.val d = amt fi r := by
  dsimp only [Rd, cell]; rw [kindOf_csem]; show amt fi (mod5 r.val) = _; rw [mod5_val]
theorem amount_rcv (d : Fin 3) : (Rd I).amount (cell c (.rcv fi r)) 0 d = amt fi r := by
  dsimp only [Rd, cell]; rw [kindOf_csem]
theorem payload_bar (d : Fin 3) : (Rd I).payload (cell c .bar) 0 d = barPay d c := rfl
theorem payload_snd (d : Fin 3) : (Rd I).payload (cell c (.snd fi)) r.val d = sndPay I fi r c := by
  dsimp only [Rd, cell]; rw [kindOf_csem]; show sndPay I fi (mod5 r.val) c = _; rw [mod5_val]
theorem payload_rcv (d : Fin 3) : (Rd I).payload (cell c (.rcv fi r)) 0 d = rcvPay I fi r c := by
  dsimp only [Rd, cell]; rw [kindOf_csem]

theorem expect_bar : (Rd I).expect (cell c .bar) 0 = 3 := by
  unfold Schedule.expect Schedule.amountOf
  rw [duties_bar, Finset.sum_congr rfl fun d _ => amount_bar I c d]; rfl
theorem expect_snd : (Rd I).expect (cell c (.snd fi)) r.val = amt fi r := by
  unfold Schedule.expect Schedule.amountOf; rw [duties_snd, Finset.sum_singleton, amount_snd]
theorem expect_rcv : (Rd I).expect (cell c (.rcv fi r)) 0 = amt fi r := by
  unfold Schedule.expect Schedule.amountOf; rw [duties_rcv, Finset.sum_singleton, amount_rcv]

theorem rest_bar : bigSep ((Rd I).duties (cell c .bar) 0 \ ∅) (fun d => (Rd I).payload (cell c .bar) 0 d)
    = iprop(barPay 0 c ∗ barPay 1 c ∗ barPay 2 c) := by
  rw [Finset.sdiff_empty, duties_bar, bigSep_univ_eq_bigSepL [0, 1, 2] (by decide) (by decide)]; rfl
theorem rest_snd : bigSep ((Rd I).duties (cell c (.snd fi)) r.val \ ∅) (fun d => (Rd I).payload (cell c (.snd fi)) r.val d) = sndPay I fi r c := by
  rw [Finset.sdiff_empty, duties_snd, bigSep_singleton, payload_snd]
theorem rest_rcv : bigSep ((Rd I).duties (cell c (.rcv fi r)) 0 \ ∅) (fun d => (Rd I).payload (cell c (.rcv fi r)) 0 d) = rcvPay I fi r c := by
  rw [Finset.sdiff_empty, duties_rcv, bigSep_singleton, payload_rcv]

/-- The round at which a semaphore's cell closes. -/
def lastR : CK → ℕ | .bar => 1 | .snd _ => 5 | .rcv _ _ => 1 | .idle _ => 0
theorem duties_later (k : CK) : ∀ r, lastR k ≤ r → (Rd I).duties (cell c k) r = ∅ := fun r hr => by
  dsimp only [Rd, cell]; rw [kindOf_csem]
  rcases k with _ | _ | _ | _ <;> dsimp only [lastR] at hr ⊢
  · exact if_neg (by omega)
  · exact if_neg (by omega)
  · exact if_neg (by omega)

end

/-! ## What a device owes, and the levels -/

/-- What a device pays to its neighbours, in the program's order: the semaphore, the axis, the amount. -/
def olist : List (CK × Fin 3 × ℕ) :=
  [(.bar, 0, 1), (.bar, 1, 1), (.bar, 2, 1)]
    ++ ([0, 1, 2, 3, 4] : List (Fin 5)).flatMap fun r => ([0, 1, 2] : List (Fin 3)).map fun fi => (.rcv fi r, axs fi r, amt fi r)

/-- The tallies of a list of payments by device `c`. -/
def oweL (c : Dev nD) : List (CK × Fin 3 × ℕ) → CellTallies nD τ sig Unit
  | [] => 0
  | x :: l => oweL c l + tallyAt (cell (peer x.2.1 c) x.1) () x.2.2

/-- What device `c` owes from its `n`-th payment on. -/
def owe (c : Dev nD) (n : ℕ) : CellTallies nD τ sig Unit := oweL c (olist.drop n)

def lvk : CK → ℕ | .bar => 1 | .snd _ => 0 | .rcv _ r => 2 + r | .idle _ => 0
def L (g : GSem nD τ sig) : Finset Unit := if g.1.2 = .tc then {()} else ∅
def lv (g : GSem nD τ sig) (_ : Unit) : ℕ := lvk (kindOf g.2)

theorem L_of_ne (g : GSem nD τ sig) (h : g.1.2 ≠ .tc) : L g = ∅ := if_neg h
theorem L_cell (c : Dev nD) (k : CK) : L (cell c k) = {()} := if_pos rfl
theorem L_tc (c : Dev nD) (s : SemLoc sig) : L ((c : Thread nD τ), s) = {()} := if_pos rfl
theorem lv_cell (c : Dev nD) (k : CK) (u : Unit) : lv (cell c k) u = lvk k := by unfold lv cell; rw [kindOf_csem]

theorem oweL_pos {c : Dev nD} {g : GSem nD τ sig} {u : Unit} (l : List (CK × Fin 3 × ℕ)) (h : 0 < oweL c l g u) :
    ∃ x ∈ l, g = cell (peer x.2.1 c) x.1 := by
  induction l with
  | nil => exact absurd h (Nat.lt_irrefl 0)
  | cons x l ih =>
    unfold oweL at h
    rw [Pi.add_apply, Finsupp.add_apply, tallyAt_apply] at h
    by_cases hx : g = cell (peer x.2.1 c) x.1 ∧ u = ()
    · exact ⟨x, List.mem_cons_self, hx.1⟩
    · rw [if_neg hx] at h
      obtain ⟨y, hy, e⟩ := ih h
      exact ⟨y, List.mem_cons_of_mem _ hy, e⟩

/-- A wait at a semaphore of the TensorCore at a level below everything still owed. -/
theorem mayWait (c : Dev nD) (s : SemLoc sig) (n : ℕ) (h : (olist.drop n).all (fun x => decide (lvk (kindOf s) < lvk x.1)) = true) :
    (levAts L lv : sProp 𝕄) ⊢ MayWait (c : Thread nD τ) s () (owe c n) :=
  MayOwe.of_cut (L := L) (lev := lv) (lvk (kindOf s)) (fun p hp => by rw [Finset.mem_singleton.mp hp, L_tc]; exact Finset.mem_singleton_self _)
    (fun g u hg => by obtain ⟨x, -, rfl⟩ := oweL_pos _ hg; rw [L_cell]; exact Finset.mem_singleton_self _)
    (fun p hp => by rw [Finset.mem_singleton.mp hp]; rfl)
    (fun g u hg => by
      obtain ⟨x, hx, rfl⟩ := oweL_pos _ hg
      rw [lv_cell]; exact of_decide_eq_true (List.all_eq_true.mp h x hx))

end Cert.Cube

end
-- ==== Proof.Steps.lean ====
/-
The steps the kernel is made of, each once for every flow: a transfer, a wait, a sum into the reduction buffer, a store.
-/
module

public import proofs.«01_k».proof.Proof.Schedule

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Regions and views -/

theorem set_unit {s : Shape} (off size : Fin s.rank → ℕ) (inb : ∀ a, off a + size a ≤ s.size a) :
    (Rect.unit (s := s) off size inb).set = box s off size := by
  ext i; rw [Rect.mem_set_unit, mem_box]

theorem access_set (b : Ref sig .tc) (off size : Fin b.ty.shape.rank → ℕ) (inb : ∀ a, off a + size a ≤ b.ty.shape.size a) :
    ((Memref.whole b).access (Rect.unit off size inb)).set = box b.ty.shape off size := by
  rw [← set_unit off size inb]; exact View.set_slice_whole b _

omit [FloatOps F] in
/-- A part of a buffer is what a slice of the buffer there covers. -/
theorem rp_slice (b : Ref sig .tc) (c : Dev nD) (off size : Fin b.ty.shape.rank → ℕ) (inb : ∀ a, off a + size a ≤ b.ty.shape.size a)
    (hs : ∀ a, (Rect.unit (s := b.ty.shape) off size inb).stride a = 1) (q : PosShare TreeShare) (f : b.ty.Contents (Elt F)) :
    (rp b c off size q f : sProp 𝕄)
      = (((Memref.whole b).slice (Rect.unit off size inb) hs).view.loc (c : Thread nD τ)
          ↦[((Memref.whole b).slice (Rect.unit off size inb) hs).view.set]{q} f) := by
  unfold rp; rw [← access_set b off size inb]

theorem routes_tc (c c' : Dev nD) : τ.routes (c : Thread nD τ) (c' : Thread nD τ) = true := by routes

omit [FloatOps F] in
/-- A part of a buffer written through such a slice holds what was written. -/
theorem rp_write (b : Ref sig .tc) (c : Dev nD) (off size : Fin b.ty.shape.rank → ℕ) (inb : ∀ a, off a + size a ≤ b.ty.shape.size a)
    (fd f : b.ty.Contents (Elt F)) (w : (Rect.unit (s := b.ty.shape) off size inb).shape.Idx → Elt F b.ty.elt)
    (h : ∀ k, w k = f ((Rect.unit off size inb).emb k)) :
    (rp b c off size fullShare (((Memref.whole b).access (Rect.unit off size inb)).write (Elt F) fd w Finset.univ) : sProp 𝕄)
      = rp b c off size fullShare f := by
  unfold rp
  refine pointsTo_congr fun i hi => ?_
  rw [← access_set b off size inb] at hi
  obtain ⟨k, -, rfl⟩ := Finset.mem_map.mp hi
  exact (View.write_emb_of_mem (v := (Memref.whole b).access (Rect.unit off size inb)) fd w (Finset.mem_univ k)).trans (h k)

omit [FloatOps F] in
theorem rp_congr (b : Ref sig .tc) (c : Dev nD) (off size : Fin b.ty.shape.rank → ℕ) (q : PosShare TreeShare) (f g : b.ty.Contents (Elt F))
    (h : ∀ i, (∀ a, off a ≤ i a ∧ i a < off a + size a) → f i = g i) : (rp b c off size q f : sProp 𝕄) = rp b c off size q g := by
  unfold rp; exact pointsTo_congr fun i hi => h i (mem_box.mp hi)

omit [FloatOps F] in
/-- Rows of a flow holding the same numbers. -/
theorem rd_congr (c : Dev nD) (fi : Fin 3) (lo n : ℕ) (q : PosShare TreeShare) (g g' : ℕ → ℕ → F .bf16)
    (h : ∀ r col, lo ≤ r → r < lo + n → g r col = g' r col) : (rd c fi lo n q g : sProp 𝕄) = rd c fi lo n q g' := by
  unfold rd
  exact rp_congr _ _ _ _ _ _ _ fun i hi => h _ _ (hi 0).1 (hi 0).2

omit [FloatOps F] in
/-- Rows of a flow cut in two. -/
theorem rp_split (b : Ref sig .tc) (c : Dev nD) (o o₁ o₂ s s₁ s₂ : Fin b.ty.shape.rank → ℕ) (q : PosShare TreeShare) (f : b.ty.Contents (Elt F))
    (hu : ∀ i : b.ty.shape.Idx, (∀ a, o a ≤ i a ∧ i a < o a + s a) ↔ ((∀ a, o₁ a ≤ i a ∧ i a < o₁ a + s₁ a) ∨ (∀ a, o₂ a ≤ i a ∧ i a < o₂ a + s₂ a)))
    (hd : ∀ i : b.ty.shape.Idx, (∀ a, o₁ a ≤ i a ∧ i a < o₁ a + s₁ a) → (∀ a, o₂ a ≤ i a ∧ i a < o₂ a + s₂ a) → False) :
    (rp b c o s q f : sProp 𝕄) ⊣⊢ iprop(rp b c o₁ s₁ q f ∗ rp b c o₂ s₂ q f) := by
  unfold rp
  rw [show box b.ty.shape o s = box b.ty.shape o₁ s₁ ∪ box b.ty.shape o₂ s₂ from by
    ext i; rw [Finset.mem_union, mem_box, mem_box, mem_box]; exact hu i]
  exact pointsTo_union (Finset.disjoint_left.mpr fun i h₁ h₂ => hd i (mem_box.mp h₁) (mem_box.mp h₂))

/-! ## What a device carries -/

section
variable (I : Inp F) (K : Dev nD × CK → ℕ)

/-- Every cell's invariant and its first round's mark; the levels. -/
def ctx : sProp 𝕄 :=
  iprop(((bigSep Finset.univ fun ck : Dev nD × CK => cellInv ER (Rd I) (K ck) (cell ck.1 ck.2))
    ∗ bigSep Finset.univ fun ck : Dev nD × CK => reached ER (cell ck.1 ck.2) 0) ∗ levAts L lv)

instance ctx_persistent : BI.Persistent (ctx I K) := by unfold ctx; infer_instance

theorem inv_at (ck : Dev nD × CK) :
    (bigSep Finset.univ fun ck : Dev nD × CK => (cellInv ER (Rd I) (K ck) (cell ck.1 ck.2) : sProp 𝕄)) ⊢ cellInv ER (Rd I) (K ck) (cell ck.1 ck.2) :=
  bigSep_elim (Finset.mem_univ ck)
theorem reached_at (ck : Dev nD × CK) :
    (bigSep Finset.univ fun ck : Dev nD × CK => (reached ER (cell ck.1 ck.2) 0 : sProp 𝕄)) ⊢ reached ER (cell ck.1 ck.2) 0 :=
  bigSep_elim (Finset.mem_univ ck)

theorem ctx_inv (c : Dev nD) (k : CK) : ctx I K ⊢ cellInv ER (Rd I) (K (c, k)) (cell c k) := by
  unfold ctx
  iintro ⟨⟨H, -⟩, -⟩
  iapply (inv_at I K (c, k)); iexact H
theorem ctx_reached (c : Dev nD) (k : CK) : ctx I K ⊢ (reached ER (cell c k) 0 : sProp 𝕄) := by
  unfold ctx
  iintro ⟨⟨-, H⟩, -⟩
  iapply (reached_at (F := F) (c, k)); iexact H
theorem ctx_lev : ctx I K ⊢ (levAts L lv : sProp 𝕄) := by
  unfold ctx
  iintro ⟨-, H⟩; iexact H

/-- Device `c` owes its payments from the `n`-th on. -/
def ow (c : Dev nD) (n : ℕ) : sProp 𝕄 := iprop(∃ W, owes (c : Thread nD τ) (owe c n) W)

/-- What a device pays transfer `r` with: its own send semaphore's duty and the neighbour's receive semaphore's. -/
def tok (c : Dev nD) (fi : Fin 3) (r : Fin 5) : sProp 𝕄 :=
  iprop(dutyTok ER (cell c (.snd fi)) r.val 0 ∗ dutyTok ER (cell (peer (axs fi r) c) (.rcv fi r)) 0 0)
/-- What it waits for the neighbour's transfer `r` with. -/
def rtk (c : Dev nD) (fi : Fin 3) (r : Fin 5) : sProp 𝕄 :=
  iprop(cred (tallyAt (cell c (.rcv fi r)) () (amt fi r)) ∗ atPos ER (cell c (.rcv fi r)) 0 ∅ 0)
/-- Its send semaphore is at round `r`; and it can wait for round `r`. -/
def sat (c : Dev nD) (fi : Fin 3) (r : ℕ) : sProp 𝕄 := iprop(atPos ER (cell c (.snd fi)) r ∅ 0 ∗ reached ER (cell c (.snd fi)) r)
def scr (c : Dev nD) (fi : Fin 3) (r : Fin 5) : sProp 𝕄 := cred (tallyAt (cell c (.snd fi)) () (amt fi r))

variable {I}

theorem owe_step {c : Dev nD} {n : ℕ} {x : CK × Fin 3 × ℕ} (h : olist.drop n = x :: olist.drop (n + 1)) :
    owe c n = owe c (n + 1) + tallyAt (cell (peer x.2.1 c) x.1) () x.2.2 := by
  unfold owe; rw [h]; rfl

/-! ## Transfers -/

attribute [local irreducible] amt rcvS sndS peer axs

/-- A transfer whose rows come back to the sender. -/
theorem wp_xfer (c n' : Dev nD) (fi : Fin 3) (r : Fin 5) (hn' : n' = peer (axs fi r) c) (n : ℕ)
    (hn : olist.drop n = (.rcv fi r, axs fi r, amt fi r) :: olist.drop (n + 1))
    {s : Shape} {src dst : Memref sig .tc .vmem s .bf16} {hsc : dst.view.ref.isScScratch = false} {qs qr : DmaSem sig}
    (hqs : qs = sndS fi) (hqr : qr = rcvS fi r)
    {hsrc : src.view.WordExact} {hdst : dst.view.WordExact}
    {hsem : DmaTarget.Typed .vmem (.dma qr) (.remote (Dev.tc n' : Thread nD τ) dst (.dma qs) hsc)}
    {q : PosShare TreeShare} {fs : Buf (Elt F) (src.view.loc (c : Thread nD τ))} {fd : Buf (Elt F) (dst.view.loc (peer (axs fi r) c : Thread nD τ))}
    (hN : dst.view.dmaCredit = amt fi r)
    (hpay₁ : (src.view.loc (c : Thread nD τ) ↦[src.view.set]{q} fs) ⊢ sndPay I fi r c)
    (hpay₂ : (dst.view.loc (peer (axs fi r) c : Thread nD τ) ↦[dst.view.set]{fullShare} (dst.view.write (Elt F) fd (src.view.read (Elt F) fs) Finset.univ))
      ⊢ rcvPay I fi r (peer (axs fi r) c))
    {α : Type} {Q : α → sProp 𝕄} {k : PUnit → Prog (TpuEff nD τ sig (Elt F) Λ₀ .tc) α} :
    iprop(ctx I K ∗ tok c fi r ∗ reached ER (cell c (.snd fi)) r.val ∗ ow c n
        ∗ (src.view.loc (c : Thread nD τ) ↦[src.view.set]{q} fs) ∗ (dst.view.loc (peer (axs fi r) c : Thread nD τ) ↦[dst.view.set]{fullShare} fd))
      ⊢ iprop(((scr c fi r ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma qs) hsc) (.dma qr) hsrc hdst hsem) k) Q) := by
  subst hn' hqs hqr
  unfold tok ow scr
  iintro ⟨#HC, ⟨Ht, Htr⟩, Hr, ⟨%W, Ho⟩, Hs, Hd⟩ Hk
  iapply (Rounds.wp_send_pointsTo 𝒱₀ ER (Rd I) (c : Thread nD τ) none (κ₁ := K (c, .snd fi)) (κ₂ := K (peer (axs fi r) c, .rcv fi r))
      (r₁ := r.val) (r₂ := 0) (d₁ := 0) (d₂ := 0) (fd := fd)
      (by show 0 ∈ (Rd I).duties (cell c (.snd fi)) r.val; rw [duties_snd]; exact Finset.mem_singleton_self _)
      (by show 0 ∈ (Rd I).duties (cell (peer (axs fi r) c) (.rcv fi r)) 0; rw [duties_rcv]; exact Finset.mem_singleton_self _)
      () () (amt fi r) (show dst.view.amount (.dma (rcvS fi r)) = amt fi r from hN) (amount_snd I c fi r 0) (amount_rcv I (peer (axs fi r) c) fi r 0) (owe c (n + 1)) (owe_step hn) (W := W)
      (hpay₁.trans (Entails.of_eq (payload_snd I c fi r 0).symm))
      (hpay₂.trans (Entails.of_eq (payload_rcv I (peer (axs fi r) c) fi r 0).symm)) (hr := routes_tc c (peer (axs fi r) c))) $$ [Ht Htr Hr Ho Hs Hd]
  · isplitr; · iapply (ctx_inv I K c (.snd fi)); iexact HC
    isplitr; · iapply (ctx_inv I K (peer (axs fi r) c) (.rcv fi r)); iexact HC
    isplitl [Hs]; · iexact Hs
    isplitl [Hd]; · iexact Hd
    isplitl [Ho]; · iexact Ho
    isplitl [Ht]; · iexact Ht
    isplitl [Hr]; · iexact Hr
    isplitl [Htr]; · iexact Htr
    iapply (ctx_reached I K (peer (axs fi r) c) (.rcv fi r)); iexact HC
  iintro ⟨Hc, Ho⟩
  iapply Hk
  isplitl [Hc]; · iexact Hc
  iexists W; iexact Ho

/-- A transfer that gives its rows away with the data. -/
theorem wp_xland (c n' : Dev nD) (fi : Fin 3) (r : Fin 5) (hn' : n' = peer (axs fi r) c) (n : ℕ)
    (hn : olist.drop n = (.rcv fi r, axs fi r, amt fi r) :: olist.drop (n + 1))
    {s : Shape} {src dst : Memref sig .tc .vmem s .bf16} {hsc : dst.view.ref.isScScratch = false} {qs qr : DmaSem sig}
    (hqs : qs = sndS fi) (hqr : qr = rcvS fi r)
    {hsrc : src.view.WordExact} {hdst : dst.view.WordExact}
    {hsem : DmaTarget.Typed .vmem (.dma qr) (.remote (Dev.tc n' : Thread nD τ) dst (.dma qs) hsc)}
    {q : PosShare TreeShare} {fs : Buf (Elt F) (src.view.loc (c : Thread nD τ))} {fd : Buf (Elt F) (dst.view.loc (peer (axs fi r) c : Thread nD τ))}
    (hN : dst.view.dmaCredit = amt fi r)
    (hpay₁ : (emp : sProp 𝕄) ⊢ sndPay I fi r c)
    (hpay₂ : iprop((dst.view.loc (peer (axs fi r) c : Thread nD τ) ↦[dst.view.set]{fullShare} (dst.view.write (Elt F) fd (src.view.read (Elt F) fs) Finset.univ))
        ∗ (src.view.loc (c : Thread nD τ) ↦[src.view.set]{q} fs))
      ⊢ rcvPay I fi r (peer (axs fi r) c))
    {α : Type} {Q : α → sProp 𝕄} {k : PUnit → Prog (TpuEff nD τ sig (Elt F) Λ₀ .tc) α} :
    iprop(ctx I K ∗ tok c fi r ∗ reached ER (cell c (.snd fi)) r.val ∗ ow c n
        ∗ (src.view.loc (c : Thread nD τ) ↦[src.view.set]{q} fs) ∗ (dst.view.loc (peer (axs fi r) c : Thread nD τ) ↦[dst.view.set]{fullShare} fd))
      ⊢ iprop(((scr c fi r ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma qs) hsc) (.dma qr) hsrc hdst hsem) k) Q) := by
  subst hn' hqs hqr
  unfold tok ow scr
  iintro ⟨#HC, ⟨Ht, Htr⟩, Hr, ⟨%W, Ho⟩, Hs, Hd⟩ Hk
  iapply (Rounds.wp_send_landing_pointsTo 𝒱₀ ER (Rd I) (c : Thread nD τ) none (κ₁ := K (c, .snd fi)) (κ₂ := K (peer (axs fi r) c, .rcv fi r))
      (r₁ := r.val) (r₂ := 0) (d₁ := 0) (d₂ := 0) (fd := fd)
      (by show 0 ∈ (Rd I).duties (cell c (.snd fi)) r.val; rw [duties_snd]; exact Finset.mem_singleton_self _)
      (by show 0 ∈ (Rd I).duties (cell (peer (axs fi r) c) (.rcv fi r)) 0; rw [duties_rcv]; exact Finset.mem_singleton_self _)
      () () (amt fi r) (show dst.view.amount (.dma (rcvS fi r)) = amt fi r from hN) (amount_snd I c fi r 0) (amount_rcv I (peer (axs fi r) c) fi r 0) (owe c (n + 1)) (owe_step hn) (W := W)
      (hpay₁.trans (Entails.of_eq (payload_snd I c fi r 0).symm))
      (hpay₂.trans (Entails.of_eq (payload_rcv I (peer (axs fi r) c) fi r 0).symm)) (hr := routes_tc c (peer (axs fi r) c))) $$ [Ht Htr Hr Ho Hs Hd]
  · isplitr; · iapply (ctx_inv I K c (.snd fi)); iexact HC
    isplitr; · iapply (ctx_inv I K (peer (axs fi r) c) (.rcv fi r)); iexact HC
    isplitl [Hs]; · iexact Hs
    isplitl [Hd]; · iexact Hd
    isplitl [Ho]; · iexact Ho
    isplitl [Ht]; · iexact Ht
    isplitl [Hr]; · iexact Hr
    isplitl [Htr]; · iexact Htr
    iapply (ctx_reached I K (peer (axs fi r) c) (.rcv fi r)); iexact HC
  iintro ⟨Hc, Ho⟩
  iapply Hk
  isplitl [Hc]; · iexact Hc
  iexists W; iexact Ho

/-! ## Waits -/

/-- The wait for round `r` of a send semaphore. -/
theorem wp_wsnd (c : Dev nD) (fi : Fin 3) (r : Fin 5) (n : ℕ) (hl : (olist.drop n).all (fun x => decide (lvk (kindOf (csem (.snd fi))) < lvk x.1)) = true)
    {qs : DmaSem sig} (hqs : qs = sndS fi) {s s' : Shape} {e e' : EltTy} {sp sp' : Space} {src : Memref sig .tc sp s e} {dst : Memref sig .tc sp' s' e'}
    {hsrc : src.view.WordExact} {hdst : dst.view.WordExact} (hN : dst.view.dmaCredit = amt fi r)
    {α : Type} {Q : α → sProp 𝕄} {k : PUnit → Prog (TpuEff nD τ sig (Elt F) Λ₀ .tc) α} :
    iprop(ctx I K ∗ scr c fi r ∗ sat c fi r.val ∗ ow c n)
      ⊢ iprop(((sat c fi (r.val + 1) ∗ ow c n ∗ sndPay I fi r c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  subst hqs
  unfold sat ow scr
  iintro ⟨#HC, Hc, ⟨Hat, -⟩, ⟨%W, Ho⟩⟩ Hk
  iapply (Rounds.wp_wait_rest_token 𝒱₀ ER (Rd I) (c : Thread nD τ) none (κ := K (c, .snd fi))
      (wpE_waitDma2_eq 𝒱₀ (c : Thread nD τ) none Set.univ) (Set.mem_univ _) () (O := owe c n) (W := W) (R := r.val) (m := 0) (T := ∅)
      (by rw [Nat.zero_add, hN]; exact (expect_snd I c fi r).symm)) $$ [Hc Ho Hat]
  · isplitr; · iapply (ctx_inv I K c (.snd fi)); iexact HC
    isplitl [Hc]; · rw [hN]; iexact Hc
    isplitl [Ho]; · iexact Ho
    isplitr
    · iapply (mayWait c (csem (.snd fi)) n hl); iapply (ctx_lev I K); iexact HC
    iexact Hat
  iintro ⟨Ho, Hat, Hr, Hpay⟩
  ihave Hp := (show bigSep ((Rd I).duties ((c : Thread nD τ), SemLoc.dma (sndS fi)) r.val \ ∅) (fun d => (Rd I).payload ((c : Thread nD τ), SemLoc.dma (sndS fi)) r.val d)
      ⊢ sndPay I fi r c from Entails.of_eq (rest_snd I c fi r)) $$ Hpay
  iapply Hk
  isplitl [Hat Hr]
  · isplitl [Hat]; · iexact Hat
    iexact Hr
  isplitl [Ho]; · iexists _; iexact Ho
  iexact Hp

/-- The wait for the neighbour's transfer `r`. -/
theorem wp_wrcv (c : Dev nD) (fi : Fin 3) (r : Fin 5) (n : ℕ) (hl : (olist.drop n).all (fun x => decide (lvk (kindOf (csem (.rcv fi r))) < lvk x.1)) = true)
    {qs : DmaSem sig} (hqs : qs = rcvS fi r) {s s' : Shape} {e e' : EltTy} {sp sp' : Space} {src : Memref sig .tc sp s e} {dst : Memref sig .tc sp' s' e'}
    {hsrc : src.view.WordExact} {hdst : dst.view.WordExact} (hN : dst.view.dmaCredit = amt fi r)
    {α : Type} {Q : α → sProp 𝕄} {k : PUnit → Prog (TpuEff nD τ sig (Elt F) Λ₀ .tc) α} :
    iprop(ctx I K ∗ rtk c fi r ∗ ow c n)
      ⊢ iprop(((atPos ER (cell c (.rcv fi r)) 1 ∅ 0 ∗ ow c n ∗ rcvPay I fi r c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  subst hqs
  unfold rtk ow
  iintro ⟨#HC, ⟨Hc, Hat⟩, ⟨%W, Ho⟩⟩ Hk
  iapply (Rounds.wp_wait_rest_token 𝒱₀ ER (Rd I) (c : Thread nD τ) none (κ := K (c, .rcv fi r))
      (wpE_waitDma2_eq 𝒱₀ (c : Thread nD τ) none Set.univ) (Set.mem_univ _) () (O := owe c n) (W := W) (R := 0) (m := 0) (T := ∅)
      (by rw [Nat.zero_add, hN]; exact (expect_rcv I c fi r).symm)) $$ [Hc Ho Hat]
  · isplitr; · iapply (ctx_inv I K c (.rcv fi r)); iexact HC
    isplitl [Hc]; · rw [hN]; iexact Hc
    isplitl [Ho]; · iexact Ho
    isplitr
    · iapply (mayWait c (csem (.rcv fi r)) n hl); iapply (ctx_lev I K); iexact HC
    iexact Hat
  iintro ⟨Ho, Hat, -, Hpay⟩
  ihave Hp := (show bigSep ((Rd I).duties ((c : Thread nD τ), SemLoc.dma (rcvS fi r)) 0 \ ∅) (fun d => (Rd I).payload ((c : Thread nD τ), SemLoc.dma (rcvS fi r)) 0 d)
      ⊢ rcvPay I fi r c from Entails.of_eq (rest_rcv I c fi r)) $$ Hpay
  iapply Hk
  isplitl [Hat]; · iexact Hat
  isplitl [Ho]; · iexists _; iexact Ho
  iexact Hp

end

end Cert.Cube

end
-- ==== Proof.Moves.lean ====
/-
Loads, stores and transfers of parts of the kernel's buffers, each once for every flow.
-/
module

public import proofs.«01_k».proof.Proof.Steps

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What is left to run on a device's TensorCore, from a program. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of a part of a buffer -/

/-- A buffer of the TensorCore's vector memory. -/
abbrev vb (i : Fin (sig.nNear .tc .vmem)) (h : sig.names .tc .vmem i = true) : Ref sig .tc := ⟨.vmem, i, h⟩

theorem access_sub (b : Ref sig .tc) (off size off' size' : Fin b.ty.shape.rank → ℕ) (inb : ∀ a, off' a + size' a ≤ b.ty.shape.size a)
    (hsub : ∀ a, off a ≤ off' a ∧ off' a + size' a ≤ off a + size a) :
    ((Memref.whole b).access (Rect.unit off' size' inb)).set ⊆ box b.ty.shape off size := by
  rw [access_set b off' size' inb]
  intro j hj
  rw [mem_box] at hj ⊢
  exact fun a => ⟨(hsub a).1.trans (hj a).1, lt_of_lt_of_le (hj a).2 (hsub a).2⟩

/-- A load within a part of a buffer reads what it holds. -/
theorem wp_ld (i : Fin (sig.nNear .tc .vmem)) (h : sig.names .tc .vmem i = true) (c : Dev nD)
    (off size off' size' : Fin (vb i h).ty.shape.rank → ℕ) (inb : ∀ a, off' a + size' a ≤ (vb i h).ty.shape.size a)
    (q : PosShare TreeShare) (f : (vb i h).ty.Contents (Elt F)) (hsub : ∀ a, off a ≤ off' a ∧ off' a + size' a ≤ off a + size a)
    {hl : (Memref.whole (vb i h)).view.LoadsAt (Rect.unit off' size' inb).toLoadRect}
    {α : Type} {Q : α → sProp 𝕄} {k : _ → Prog (TpuEff nD τ sig (Elt F) Λ₀ .tc) α} :
    rp (vb i h) c off size q f ⊢ iprop((rp (vb i h) c off size q f -∗ run c (k fun j => f ((Rect.unit off' size' inb).emb j)) Q)
      -∗ run c (.op (.load (Memref.whole (vb i h)) (Rect.unit off' size' inb).toLoadRect hl) k) Q) := by
  have := wp_load_rect (defs := defs₀ (F := F)) 𝒱₀ (c : Thread nD τ) none Set.univ (m := Memref.whole (vb i h)) (r := Rect.unit off' size' inb)
    (hl := hl) (q := q) (f := f) (Q := Q) (k := k) (Γ := .empty) (access_sub _ off size off' size' inb hsub)
  exact this

/-- A store of a whole part of a buffer leaves what was stored. -/
theorem wp_sto (i : Fin (sig.nNear .tc .vmem)) (h : sig.names .tc .vmem i = true) (c : Dev nD)
    (off size : Fin (vb i h).ty.shape.rank → ℕ) (inb : ∀ a, off a + size a ≤ (vb i h).ty.shape.size a)
    (f g : (vb i h).ty.Contents (Elt F)) {w : (Rect.unit (s := (vb i h).ty.shape) off size inb).shape.Idx → Elt F (vb i h).ty.elt}
    (hw : ∀ k, w k = g ((Rect.unit off size inb).emb k))
    {hx : ((Memref.whole (vb i h)).access (Rect.unit off size inb)).Stores Finset.univ}
    {hm : (Finset.univ : Finset (Rect.unit (s := (vb i h).ty.shape) off size inb).shape.Idx) = Finset.univ ∨ ∀ a, (Rect.unit (s := (vb i h).ty.shape) off size inb).stride a = 1}
    {α : Type} {Q : α → sProp 𝕄} {k : PUnit → Prog (TpuEff nD τ sig (Elt F) Λ₀ .tc) α} :
    rp (vb i h) c off size fullShare f ⊢ iprop((rp (vb i h) c off size fullShare g -∗ run c (k ⟨⟩) Q)
      -∗ run c (.op (.store (Memref.whole (vb i h)) (Rect.unit off size inb) w Finset.univ hx hm) k) Q) := by
  have hS : ((Memref.whole (vb i h)).access (Rect.unit off size inb)).setOn Finset.univ ⊆ box (vb i h).ty.shape off size := by
    rw [View.setOn_univ]; exact access_sub _ off size off size inb fun a => ⟨le_rfl, le_rfl⟩
  have := wp_store (defs := defs₀ (F := F)) 𝒱₀ (c : Thread nD τ) none Set.univ (m := Memref.whole (vb i h)) (r := Rect.unit off size inb) (w := w)
    (Mk := Finset.univ) (hx := hx) (hm := hm) (f := f) (Q := Q) (k := k) (Γ := .empty) hS
  have e : (rp (vb i h) c off size fullShare g : sProp 𝕄) = (((Memref.whole (vb i h)).access (Rect.unit off size inb)).loc (c : Thread nD τ)
      ↦[box (vb i h).ty.shape off size]{fullShare} ((Memref.whole (vb i h)).access (Rect.unit off size inb)).write (Elt F) f w Finset.univ) :=
    (rp_write (vb i h) c off size inb f g w hw).symm
  rw [e]
  exact this

/-! ## The reduction buffer -/

/-- A load of rows of a flow. -/
theorem wp_ldR (c : Dev nD) (fi : Fin 3) (lo n lo' n' : ℕ) (q : PosShare TreeShare) (g : ℕ → ℕ → F .bf16) (hsub : lo ≤ lo' ∧ lo' + n' ≤ lo + n)
    {off : Fin 2 → ℕ} (ho : off = ![lo', cs fi]) {inb : ∀ a, off a + (![n', cw fi] : Fin 2 → ℕ) a ≤ S2048x1024.size a}
    {hl : (Memref.whole cc0_scratch0).view.LoadsAt (Rect.unit (s := S2048x1024) off ![n', cw fi] inb).toLoadRect}
    {α : Type} {Q : α → sProp 𝕄} {k : ((⟨2, ![n', cw fi]⟩ : Shape).Idx → Elt F .bf16) → Prog (TpuEff nD τ sig (Elt F) Λ₀ .tc) α} :
    rd c fi lo n q g ⊢ iprop((rd c fi lo n q g -∗ run c (k fun j => g (lo' + j 0) (j 1)) Q)
      -∗ run c (.op (.load (Memref.whole cc0_scratch0) (Rect.unit (s := S2048x1024) off ![n', cw fi] inb).toLoadRect hl) k) Q) := by
  subst ho
  have e : (fun j : (⟨2, ![n', cw fi]⟩ : Shape).Idx => g (lo' + j 0) (j 1))
      = fun j => ctn fi g ((Rect.unit (s := S2048x1024) ![lo', cs fi] ![n', cw fi] inb).emb j) := by
    funext j
    unfold ctn
    have h0 : (((Rect.unit (s := S2048x1024) ![lo', cs fi] ![n', cw fi] inb).emb j 0 : Fin _) : ℕ) = lo' + j 0 := by
      rw [Rect.emb_apply]; show lo' + 1 * (j 0 : ℕ) = _; rw [Nat.one_mul]
    have h1 : (((Rect.unit (s := S2048x1024) ![lo', cs fi] ![n', cw fi] inb).emb j 1 : Fin _) : ℕ) = cs fi + j 1 := by
      rw [Rect.emb_apply]; show cs fi + 1 * (j 1 : ℕ) = _; rw [Nat.one_mul]
    rw [h0, h1, Nat.add_sub_cancel_left]
  rw [e]
  unfold rd
  exact wp_ld 4 rfl c _ _ _ _ inb q _ (fun a => by
    match a with
    | 0 => exact hsub
    | 1 => exact ⟨le_rfl, le_rfl⟩)

/-- A store of rows of a flow. -/
theorem wp_put (c : Dev nD) (fi : Fin 3) (lo n : ℕ) (g g' : ℕ → ℕ → F .bf16)
    {off : Fin 2 → ℕ} (ho : off = ![lo, cs fi]) {inb : ∀ a, off a + (![n, cw fi] : Fin 2 → ℕ) a ≤ S2048x1024.size a}
    {w : (⟨2, ![n, cw fi]⟩ : Shape).Idx → Elt F .bf16} (hw : ∀ j, w j = g' (lo + j 0) (j 1))
    {hx : ((Memref.whole cc0_scratch0).access (Rect.unit (s := S2048x1024) off ![n, cw fi] inb)).Stores Finset.univ}
    {hm : (Finset.univ : Finset (Rect.unit (s := S2048x1024) off ![n, cw fi] inb).shape.Idx) = Finset.univ ∨ ∀ a, (Rect.unit (s := S2048x1024) off ![n, cw fi] inb).stride a = 1}
    {α : Type} {Q : α → sProp 𝕄} {k : PUnit → Prog (TpuEff nD τ sig (Elt F) Λ₀ .tc) α} :
    rd c fi lo n fullShare g ⊢ iprop((rd c fi lo n fullShare g' -∗ run c (k ⟨⟩) Q)
      -∗ run c (.op (.store (Memref.whole cc0_scratch0) (Rect.unit (s := S2048x1024) off ![n, cw fi] inb) w Finset.univ hx hm) k) Q) := by
  subst ho
  unfold rd
  refine wp_sto 4 rfl c _ _ inb _ _ fun j => (hw j).trans ?_
  unfold ctn
  have h0 : (((Rect.unit (s := S2048x1024) ![lo, cs fi] ![n, cw fi] inb).emb j 0 : Fin _) : ℕ) = lo + j 0 := by
    rw [Rect.emb_apply]; show lo + 1 * (j 0 : ℕ) = _; rw [Nat.one_mul]
  have h1 : (((Rect.unit (s := S2048x1024) ![lo, cs fi] ![n, cw fi] inb).emb j 1 : Fin _) : ℕ) = cs fi + j 1 := by
    rw [Rect.emb_apply]; show cs fi + 1 * (j 1 : ℕ) = _; rw [Nat.one_mul]
  rw [h0, h1, Nat.add_sub_cancel_left]

/-- Adding what a load reads into rows of a flow. `cmr` is the resource the second load reads `u` from. -/
theorem wp_addR (c : Dev nD) (fi : Fin 3) (lo n : ℕ) (g g' : ℕ → ℕ → F .bf16) (cmr : sProp 𝕄)
    {off : Fin 2 → ℕ} (ho : off = ![lo, cs fi]) {inb : ∀ a, off a + (![n, cw fi] : Fin 2 → ℕ) a ≤ S2048x1024.size a}
    {hl hl' : (Memref.whole cc0_scratch0).view.LoadsAt (Rect.unit (s := S2048x1024) off ![n, cw fi] inb).toLoadRect}
    {pay : ((⟨2, ![n, cw fi]⟩ : Shape).Idx → Elt F .bf16) → ((⟨2, ![n, cw fi]⟩ : Shape).Idx → Elt F .bf16) → (⟨2, ![n, cw fi]⟩ : Shape).Idx → Elt F .bf16}
    (hpay : ∀ v v' j, pay v v' j = FloatOps.addf (F := F) (φ := .bf16) (v j) (v' j))
    {u : (⟨2, ![n, cw fi]⟩ : Shape).Idx → Elt F .bf16}
    (hg : ∀ j : (⟨2, ![n, cw fi]⟩ : Shape).Idx, FloatOps.addf (F := F) (φ := .bf16) (g (lo + j 0) (j 1)) (u j) = g' (lo + j 0) (j 1))
    {α : Type} {Q : α → sProp 𝕄}
    {ld : (((⟨2, ![n, cw fi]⟩ : Shape).Idx → Elt F .bf16) → Prog (TpuEff nD τ sig (Elt F) Λ₀ .tc) α) → Prog (TpuEff nD τ sig (Elt F) Λ₀ .tc) α}
    (hld : ∀ K, cmr ⊢ iprop((cmr -∗ run c (K u) Q) -∗ run c (ld K) Q))
    {hx : ((Memref.whole cc0_scratch0).access (Rect.unit (s := S2048x1024) off ![n, cw fi] inb)).Stores Finset.univ}
    {hm : (Finset.univ : Finset (Rect.unit (s := S2048x1024) off ![n, cw fi] inb).shape.Idx) = Finset.univ ∨ ∀ a, (Rect.unit (s := S2048x1024) off ![n, cw fi] inb).stride a = 1}
    {k : PUnit → Prog (TpuEff nD τ sig (Elt F) Λ₀ .tc) α} :
    iprop(rd c fi lo n fullShare g ∗ cmr) ⊢ iprop((rd c fi lo n fullShare g' ∗ cmr -∗ run c (k ⟨⟩) Q)
      -∗ run c (.op (.load (Memref.whole cc0_scratch0) (Rect.unit (s := S2048x1024) off ![n, cw fi] inb).toLoadRect hl) fun v => ld fun v' =>
        .op (.load (Memref.whole cc0_scratch0) (Rect.unit (s := S2048x1024) off ![n, cw fi] inb).toLoadRect hl') fun _ =>
        .op (.store (Memref.whole cc0_scratch0) (Rect.unit (s := S2048x1024) off ![n, cw fi] inb) (pay v v') Finset.univ hx hm) k) Q) := by
  iintro ⟨Hr, Hc⟩ Hk
  iapply (wp_ldR c fi lo n lo n fullShare g ⟨le_rfl, le_rfl⟩ ho) $$ Hr; iintro Hr
  iapply (hld _) $$ Hc; iintro Hc
  iapply (wp_ldR c fi lo n lo n fullShare g ⟨le_rfl, le_rfl⟩ ho) $$ Hr; iintro Hr
  iapply (wp_put c fi lo n g g' ho (fun j => (hpay _ _ j).trans (hg j))) $$ Hr; iintro Hr
  iapply Hk
  isplitl [Hr] <;> iassumption

/-! ## The landing buffers -/

/-- Loads of what has landed, from each of the three landing buffers. -/
theorem wp_ldC0 (c : Dev nD) (k : Fin 3) (g : ℕ → ℕ → F .bf16) (lo' n' : ℕ) (hsub : clo k ≤ lo' ∧ lo' + n' ≤ clo k + cn k)
    {off : Fin 2 → ℕ} (ho : off = ![lo', 0]) {inb : ∀ a, off a + (![n', 384] : Fin 2 → ℕ) a ≤ S2048x384.size a}
    {hl : (Memref.whole cc0_scratch1).view.LoadsAt (Rect.unit (s := S2048x384) off ![n', 384] inb).toLoadRect}
    {α : Type} {Q : α → sProp 𝕄} (K : ((⟨2, ![n', 384]⟩ : Shape).Idx → Elt F .bf16) → Prog (TpuEff nD τ sig (Elt F) Λ₀ .tc) α) :
    cmHas 0 k c g ⊢ iprop((cmHas 0 k c g -∗ run c (K fun j => g (lo' + j 0) (j 1)) Q)
      -∗ run c (.op (.load (Memref.whole cc0_scratch1) (Rect.unit (s := S2048x384) off ![n', 384] inb).toLoadRect hl) K) Q) := by
  subst ho
  rw [show (fun j : (⟨2, ![n', 384]⟩ : Shape).Idx => g (lo' + j 0) (j 1)) = fun j => ctc g ((Rect.unit (s := S2048x384) ![lo', 0] ![n', 384] inb).emb j) from by
    funext j; show _ = g (lo' + 1 * (j 0 : ℕ)) (0 + 1 * (j 1 : ℕ)); rw [Nat.one_mul, Nat.one_mul, Nat.zero_add]]
  exact wp_ld 5 rfl c _ _ _ _ inb _ _ (fun a => by
    match a with
    | 0 => exact hsub
    | 1 => exact ⟨le_rfl, le_rfl⟩)
theorem wp_ldC1 (c : Dev nD) (k : Fin 3) (g : ℕ → ℕ → F .bf16) (lo' n' : ℕ) (hsub : clo k ≤ lo' ∧ lo' + n' ≤ clo k + cn k)
    {off : Fin 2 → ℕ} (ho : off = ![lo', 0]) {inb : ∀ a, off a + (![n', 384] : Fin 2 → ℕ) a ≤ S2048x384.size a}
    {hl : (Memref.whole cc0_scratch2).view.LoadsAt (Rect.unit (s := S2048x384) off ![n', 384] inb).toLoadRect}
    {α : Type} {Q : α → sProp 𝕄} (K : ((⟨2, ![n', 384]⟩ : Shape).Idx → Elt F .bf16) → Prog (TpuEff nD τ sig (Elt F) Λ₀ .tc) α) :
    cmHas 1 k c g ⊢ iprop((cmHas 1 k c g -∗ run c (K fun j => g (lo' + j 0) (j 1)) Q)
      -∗ run c (.op (.load (Memref.whole cc0_scratch2) (Rect.unit (s := S2048x384) off ![n', 384] inb).toLoadRect hl) K) Q) := by
  subst ho
  rw [show (fun j : (⟨2, ![n', 384]⟩ : Shape).Idx => g (lo' + j 0) (j 1)) = fun j => ctc g ((Rect.unit (s := S2048x384) ![lo', 0] ![n', 384] inb).emb j) from by
    funext j; show _ = g (lo' + 1 * (j 0 : ℕ)) (0 + 1 * (j 1 : ℕ)); rw [Nat.one_mul, Nat.one_mul, Nat.zero_add]]
  exact wp_ld 6 rfl c _ _ _ _ inb _ _ (fun a => by
    match a with
    | 0 => exact hsub
    | 1 => exact ⟨le_rfl, le_rfl⟩)
theorem wp_ldC2 (c : Dev nD) (k : Fin 3) (g : ℕ → ℕ → F .bf16) (lo' n' : ℕ) (hsub : clo k ≤ lo' ∧ lo' + n' ≤ clo k + cn k)
    {off : Fin 2 → ℕ} (ho : off = ![lo', 0]) {inb : ∀ a, off a + (![n', 256] : Fin 2 → ℕ) a ≤ S2048x256.size a}
    {hl : (Memref.whole cc0_scratch3).view.LoadsAt (Rect.unit (s := S2048x256) off ![n', 256] inb).toLoadRect}
    {α : Type} {Q : α → sProp 𝕄} (K : ((⟨2, ![n', 256]⟩ : Shape).Idx → Elt F .bf16) → Prog (TpuEff nD τ sig (Elt F) Λ₀ .tc) α) :
    cmHas 2 k c g ⊢ iprop((cmHas 2 k c g -∗ run c (K fun j => g (lo' + j 0) (j 1)) Q)
      -∗ run c (.op (.load (Memref.whole cc0_scratch3) (Rect.unit (s := S2048x256) off ![n', 256] inb).toLoadRect hl) K) Q) := by
  subst ho
  rw [show (fun j : (⟨2, ![n', 256]⟩ : Shape).Idx => g (lo' + j 0) (j 1)) = fun j => ctc' g ((Rect.unit (s := S2048x256) ![lo', 0] ![n', 256] inb).emb j) from by
    funext j; show _ = g (lo' + 1 * (j 0 : ℕ)) (0 + 1 * (j 1 : ℕ)); rw [Nat.one_mul, Nat.one_mul, Nat.zero_add]]
  exact wp_ld 7 rfl c _ _ _ _ inb _ _ (fun a => by
    match a with
    | 0 => exact hsub
    | 1 => exact ⟨le_rfl, le_rfl⟩)

/-! ## Where a transfer lands -/

/-- A transfer's destination `dst` on device `p`: before it is `pre`; after a tile `g` is written it is `post g`. -/
structure Dst (p : Dev nD) {n w : ℕ} (dst : Memref sig .tc .vmem ⟨2, ![n, w]⟩ .bf16) (pre : sProp 𝕄) (post : (ℕ → ℕ → F .bf16) → sProp 𝕄) : Prop where
  any : pre ⊢ iprop(∃ fd : Buf (Elt F) (dst.view.loc (p : Thread nD τ)), dst.view.loc (p : Thread nD τ) ↦[dst.view.set]{fullShare} fd)
  has : ∀ (fd : Buf (Elt F) (dst.view.loc (p : Thread nD τ))) (W : (⟨2, ![n, w]⟩ : Shape).Idx → Elt F .bf16) (g : ℕ → ℕ → F .bf16),
    (∀ j, W j = g (j 0) (j 1)) → (dst.view.loc (p : Thread nD τ) ↦[dst.view.set]{fullShare} dst.view.write (Elt F) fd W Finset.univ) ⊢ post g

/-- A part of a buffer as a destination. -/
theorem dst_rp (i : Fin (sig.nNear .tc .vmem)) (h : sig.names .tc .vmem i = true) (p : Dev nD) (off size : Fin (vb i h).ty.shape.rank → ℕ)
    (inb : ∀ a, off a + size a ≤ (vb i h).ty.shape.size a) (hs : ∀ a, (Rect.unit (s := (vb i h).ty.shape) off size inb).stride a = 1)
    (fd f : (vb i h).ty.Contents (Elt F)) (W : (Rect.unit (s := (vb i h).ty.shape) off size inb).shape.Idx → Elt F (vb i h).ty.elt)
    (hW : ∀ k, W k = f ((Rect.unit off size inb).emb k)) :
    (((Memref.whole (vb i h)).slice (Rect.unit off size inb) hs).view.loc (p : Thread nD τ)
          ↦[((Memref.whole (vb i h)).slice (Rect.unit off size inb) hs).view.set]{fullShare}
            ((Memref.whole (vb i h)).slice (Rect.unit off size inb) hs).view.write (Elt F) fd W Finset.univ) ⊢ rp (vb i h) p off size fullShare f := by
  rw [← rp_write (vb i h) p off size inb fd f W hW]
  exact Entails.of_eq (rp_slice (vb i h) p off size inb hs fullShare _).symm

theorem dst_cm0 (p : Dev nD) (k : Fin 3) (inb : ∀ a, (![clo k, 0] : Fin 2 → ℕ) a + (![cn k, 384] : Fin 2 → ℕ) a ≤ S2048x384.size a)
    (hs : ∀ a, (Rect.unit (s := S2048x384) ![clo k, 0] ![cn k, 384] inb).stride a = 1) :
    Dst (F := F) p (n := cn k) (w := 384) ((Memref.whole cc0_scratch1).slice (Rect.unit (s := S2048x384) ![clo k, 0] ![cn k, 384] inb) hs)
      (cmAny 0 k p) (fun g => cmHas 0 k p fun r col => g (r - clo k) col) where
  any := exists_elim fun f => (Entails.of_eq (rp_slice cc0_scratch1 p _ _ inb hs fullShare f)).trans (exists_intro f)
  has fd W g hW := dst_rp 5 rfl p _ _ inb hs fd (ctc fun r col => g (r - clo k) col) W fun j => (hW j).trans (by
    show _ = g (clo k + 1 * (j 0 : ℕ) - clo k) (0 + 1 * (j 1 : ℕ)); rw [Nat.one_mul, Nat.one_mul, Nat.zero_add, Nat.add_sub_cancel_left])
theorem dst_cm1 (p : Dev nD) (k : Fin 3) (inb : ∀ a, (![clo k, 0] : Fin 2 → ℕ) a + (![cn k, 384] : Fin 2 → ℕ) a ≤ S2048x384.size a)
    (hs : ∀ a, (Rect.unit (s := S2048x384) ![clo k, 0] ![cn k, 384] inb).stride a = 1) :
    Dst (F := F) p (n := cn k) (w := 384) ((Memref.whole cc0_scratch2).slice (Rect.unit (s := S2048x384) ![clo k, 0] ![cn k, 384] inb) hs)
      (cmAny 1 k p) (fun g => cmHas 1 k p fun r col => g (r - clo k) col) where
  any := exists_elim fun f => (Entails.of_eq (rp_slice cc0_scratch2 p _ _ inb hs fullShare f)).trans (exists_intro f)
  has fd W g hW := dst_rp 6 rfl p _ _ inb hs fd (ctc fun r col => g (r - clo k) col) W fun j => (hW j).trans (by
    show _ = g (clo k + 1 * (j 0 : ℕ) - clo k) (0 + 1 * (j 1 : ℕ)); rw [Nat.one_mul, Nat.one_mul, Nat.zero_add, Nat.add_sub_cancel_left])
theorem dst_cm2 (p : Dev nD) (k : Fin 3) (inb : ∀ a, (![clo k, 0] : Fin 2 → ℕ) a + (![cn k, 256] : Fin 2 → ℕ) a ≤ S2048x256.size a)
    (hs : ∀ a, (Rect.unit (s := S2048x256) ![clo k, 0] ![cn k, 256] inb).stride a = 1) :
    Dst (F := F) p (n := cn k) (w := 256) ((Memref.whole cc0_scratch3).slice (Rect.unit (s := S2048x256) ![clo k, 0] ![cn k, 256] inb) hs)
      (cmAny 2 k p) (fun g => cmHas 2 k p fun r col => g (r - clo k) col) where
  any := exists_elim fun f => (Entails.of_eq (rp_slice cc0_scratch3 p _ _ inb hs fullShare f)).trans (exists_intro f)
  has fd W g hW := dst_rp 7 rfl p _ _ inb hs fd (ctc' fun r col => g (r - clo k) col) W fun j => (hW j).trans (by
    show _ = g (clo k + 1 * (j 0 : ℕ) - clo k) (0 + 1 * (j 1 : ℕ)); rw [Nat.one_mul, Nat.one_mul, Nat.zero_add, Nat.add_sub_cancel_left])

theorem emb_red (fi : Fin 3) (lo n : ℕ) (inb : ∀ a, (![lo, cs fi] : Fin 2 → ℕ) a + (![n, cw fi] : Fin 2 → ℕ) a ≤ S2048x1024.size a)
    (g : ℕ → ℕ → F .bf16) (j : (⟨2, ![n, cw fi]⟩ : Shape).Idx) :
    ctn fi g ((Rect.unit (s := S2048x1024) ![lo, cs fi] ![n, cw fi] inb).emb j) = g (lo + j 0) (j 1) := by
  show g (lo + 1 * (j 0 : ℕ)) (cs fi + 1 * (j 1 : ℕ) - cs fi) = _
  rw [Nat.one_mul, Nat.one_mul, Nat.add_sub_cancel_left]

theorem dst_red (p : Dev nD) (fi : Fin 3) (lo n : ℕ) {off : Fin 2 → ℕ} (ho : off = ![lo, cs fi])
    (inb : ∀ a, off a + (![n, cw fi] : Fin 2 → ℕ) a ≤ S2048x1024.size a)
    (hs : ∀ a, (Rect.unit (s := S2048x1024) off ![n, cw fi] inb).stride a = 1) :
    Dst (F := F) p (n := n) (w := cw fi) ((Memref.whole cc0_scratch0).slice (Rect.unit (s := S2048x1024) off ![n, cw fi] inb) hs)
      iprop(∃ g, rd p fi lo n fullShare g) (fun g => rd p fi lo n fullShare fun r col => g (r - lo) col) := by
  subst ho
  exact
  { any := exists_elim fun f => (Entails.of_eq (rp_slice cc0_scratch0 p _ _ inb hs fullShare _)).trans (exists_intro (ctn fi f))
    has := fun fd W g hW => dst_rp 4 rfl p _ _ inb hs fd (ctn fi fun r col => g (r - lo) col) W fun j => (hW j).trans (by
      rw [emb_red]; show _ = g (lo + (j 0 : ℕ) - lo) _; rw [Nat.add_sub_cancel_left]) }

/-- A transfer's source `src` on device `c`: it is what `R` holds, and reads `g`. -/
def Src (c : Dev nD) {n w : ℕ} (src : Memref sig .tc .vmem ⟨2, ![n, w]⟩ .bf16) (q : PosShare TreeShare) (R : sProp 𝕄) (g : ℕ → ℕ → F .bf16) : Prop :=
  ∃ fs : Buf (Elt F) (src.view.loc (c : Thread nD τ)), R = (src.view.loc (c : Thread nD τ) ↦[src.view.set]{q} fs)
    ∧ ∀ j, src.view.read (Elt F) fs j = g (j 0) (j 1)

theorem src_red (c : Dev nD) (fi : Fin 3) (lo n : ℕ) (q : PosShare TreeShare) (g : ℕ → ℕ → F .bf16) {off : Fin 2 → ℕ} (ho : off = ![lo, cs fi])
    (inb : ∀ a, off a + (![n, cw fi] : Fin 2 → ℕ) a ≤ S2048x1024.size a)
    (hs : ∀ a, (Rect.unit (s := S2048x1024) off ![n, cw fi] inb).stride a = 1) :
    Src (F := F) c (n := n) (w := cw fi) ((Memref.whole cc0_scratch0).slice (Rect.unit (s := S2048x1024) off ![n, cw fi] inb) hs) q
      (rd c fi lo n q g) (fun r col => g (lo + r) col) := by
  subst ho
  exact ⟨ctn fi g, rp_slice cc0_scratch0 c _ _ inb hs q _, fun j => emb_red fi lo n inb g j⟩

end Cert.Cube
end
-- ==== Proof.Flow.lean ====
/-
A flow's stages: what a device holds of a flow after each of its steps, and the steps.
-/
module

public import proofs.«01_k».proof.Proof.Moves

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem axs0 (fi : Fin 3) : axs fi 0 = fi := by revert fi; decide
theorem axs1 (fi : Fin 3) : axs fi 1 = fi + 1 := by revert fi; decide
theorem axs2 (fi : Fin 3) : axs fi 2 = fi + 2 := by revert fi; decide
theorem axs3 (fi : Fin 3) : axs fi 3 = fi + 1 := by revert fi; decide
theorem axs4 (fi : Fin 3) : axs fi 4 = fi := by revert fi; decide

/-! ## The semaphores of a flow -/

/-- Something for each transfer of a list. -/
def each (f : Fin 5 → sProp 𝕄) : List (Fin 5) → sProp 𝕄
  | [] => iprop(emp)
  | r :: l => iprop(f r ∗ each f l)

/-- The transfers from the `r`-th on are still to make and to wait for; those before have been. -/
def todo (c : Dev nD) (fi : Fin 3) (r : ℕ) : sProp 𝕄 := each (F := F) (fun r => iprop(tok c fi r ∗ rtk c fi r)) (([0, 1, 2, 3, 4] : List (Fin 5)).drop r)
def past (c : Dev nD) (fi : Fin 3) (r : ℕ) : sProp 𝕄 := each (F := F) (fun r => atPos ER (cell c (.rcv fi r)) 1 ∅ 0) (([4, 3, 2, 1, 0] : List (Fin 5)).drop (5 - r))

theorem todo_step (c : Dev nD) (fi : Fin 3) (r : Fin 5) : todo (F := F) c fi r.val = iprop((tok c fi r ∗ rtk c fi r) ∗ todo c fi (r.val + 1)) := by
  revert r; intro r
  match r with
  | 0 => rfl
  | 1 => rfl
  | 2 => rfl
  | 3 => rfl
  | 4 => rfl
theorem past_step (c : Dev nD) (fi : Fin 3) (r : Fin 5) :
    past (F := F) c fi (r.val + 1) = iprop(atPos ER (cell c (.rcv fi r)) 1 ∅ 0 ∗ past c fi r.val) := by
  match r with
  | 0 => rfl
  | 1 => rfl
  | 2 => rfl
  | 3 => rfl
  | 4 => rfl

/-- Before transfer `r`; with it under way; with the send waited for. -/
def ph0 (c : Dev nD) (fi : Fin 3) (r : ℕ) : sProp 𝕄 := iprop(sat c fi r ∗ todo c fi r ∗ past c fi r)
def ph1 (c : Dev nD) (fi : Fin 3) (r : Fin 5) : sProp 𝕄 := iprop(sat c fi r.val ∗ scr c fi r ∗ rtk c fi r ∗ todo c fi (r.val + 1) ∗ past c fi r.val)
def ph2 (c : Dev nD) (fi : Fin 3) (r : Fin 5) : sProp 𝕄 := iprop(sat c fi (r.val + 1) ∗ rtk c fi r ∗ todo c fi (r.val + 1) ∗ past c fi r.val)

section
variable {I : Inp F} {K : Dev nD × CK → ℕ}

/-- A transfer of rows of a flow, which come back to the sender; -/
theorem wp_send₁ (c n' : Dev nD) (fi : Fin 3) (r : Fin 5) (hn' : n' = peer (axs fi r) c) (n : ℕ)
    (hn : olist.drop n = (.rcv fi r, axs fi r, amt fi r) :: olist.drop (n + 1)) {m w : ℕ} {q : PosShare TreeShare} {g : ℕ → ℕ → F .bf16}
    {src dst : Memref sig .tc .vmem ⟨2, ![m, w]⟩ .bf16} {R pre : sProp 𝕄} {post : (ℕ → ℕ → F .bf16) → sProp 𝕄}
    (hsr : Src c src q R g) (hd : Dst (peer (axs fi r) c) dst pre post)
    {hsc : dst.view.ref.isScScratch = false} {qs qr : DmaSem sig} (hqs : qs = sndS fi) (hqr : qr = rcvS fi r)
    {hsrc : src.view.WordExact} {hdst : dst.view.WordExact}
    {hsem : DmaTarget.Typed .vmem (.dma qr) (.remote (Dev.tc n' : Thread nD τ) dst (.dma qs) hsc)}
    (hN : dst.view.dmaCredit = amt fi r)
    (hpay₁ : R ⊢ sndPay I fi r c)
    (hpay₂ : post g ⊢ rcvPay I fi r (peer (axs fi r) c))
    {α : Type} {Q : α → sProp 𝕄} {k : PUnit → Prog (TpuEff nD τ sig (Elt F) Λ₀ .tc) α} :
    iprop(ctx I K ∗ ow c n ∗ ph0 c fi r.val ∗ R ∗ pre)
      ⊢ iprop((ow c (n + 1) ∗ ph1 c fi r -∗ run c (k ⟨⟩) Q)
          -∗ run c (.op (.enqueueDma src (.remote (Dev.tc n' : Thread nD τ) dst (.dma qs) hsc) (.dma qr) hsrc hdst hsem) k) Q) := by
  obtain ⟨fs, rfl, hfs⟩ := hsr
  unfold ph0 ph1 sat
  rw [todo_step]
  iintro ⟨#HC, Ho, ⟨⟨Hat, #Hr⟩, ⟨⟨Htok, Hrtk⟩, Htd⟩, Hpa⟩, Hs, Hd⟩ Hk
  ihave Hd' := hd.any $$ Hd
  icases Hd' with ⟨%fd, Hd'⟩
  iapply (wp_xfer (I := I) K c n' fi r hn' n hn hqs hqr (fs := fs) (fd := fd) hN hpay₁ ((hd.has fd _ g hfs).trans hpay₂)) $$ [Htok Ho Hs Hd']
  · isplitr; · iexact HC
    isplitl [Htok]; · iexact Htok
    isplitr; · iexact Hr
    isplitl [Ho]; · iexact Ho
    isplitl [Hs]; · iexact Hs
    iexact Hd'
  iintro ⟨Hc, Ho⟩
  iapply Hk
  isplitl [Ho]; · iexact Ho
  isplitl [Hat]
  · isplitl [Hat]; · iexact Hat
    iexact Hr
  isplitl [Hc]; · iexact Hc
  isplitl [Hrtk]; · iexact Hrtk
  isplitl [Htd]; · iexact Htd
  iexact Hpa

/-- and one that gives them away with the data. -/
theorem wp_send₂ (c n' : Dev nD) (fi : Fin 3) (r : Fin 5) (hn' : n' = peer (axs fi r) c) (n : ℕ)
    (hn : olist.drop n = (.rcv fi r, axs fi r, amt fi r) :: olist.drop (n + 1)) {m w : ℕ} {q : PosShare TreeShare} {g : ℕ → ℕ → F .bf16}
    {src dst : Memref sig .tc .vmem ⟨2, ![m, w]⟩ .bf16} {R pre : sProp 𝕄} {post : (ℕ → ℕ → F .bf16) → sProp 𝕄}
    (hsr : Src c src q R g) (hd : Dst (peer (axs fi r) c) dst pre post)
    {hsc : dst.view.ref.isScScratch = false} {qs qr : DmaSem sig} (hqs : qs = sndS fi) (hqr : qr = rcvS fi r)
    {hsrc : src.view.WordExact} {hdst : dst.view.WordExact}
    {hsem : DmaTarget.Typed .vmem (.dma qr) (.remote (Dev.tc n' : Thread nD τ) dst (.dma qs) hsc)}
    (hN : dst.view.dmaCredit = amt fi r)
    (hpay₁ : (emp : sProp 𝕄) ⊢ sndPay I fi r c)
    (hpay₂ : iprop(post g ∗ R) ⊢ rcvPay I fi r (peer (axs fi r) c))
    {α : Type} {Q : α → sProp 𝕄} {k : PUnit → Prog (TpuEff nD τ sig (Elt F) Λ₀ .tc) α} :
    iprop(ctx I K ∗ ow c n ∗ ph0 c fi r.val ∗ R ∗ pre)
      ⊢ iprop((ow c (n + 1) ∗ ph1 c fi r -∗ run c (k ⟨⟩) Q)
          -∗ run c (.op (.enqueueDma src (.remote (Dev.tc n' : Thread nD τ) dst (.dma qs) hsc) (.dma qr) hsrc hdst hsem) k) Q) := by
  obtain ⟨fs, rfl, hfs⟩ := hsr
  unfold ph0 ph1 sat
  rw [todo_step]
  iintro ⟨#HC, Ho, ⟨⟨Hat, #Hr⟩, ⟨⟨Htok, Hrtk⟩, Htd⟩, Hpa⟩, Hs, Hd⟩ Hk
  ihave Hd' := hd.any $$ Hd
  icases Hd' with ⟨%fd, Hd'⟩
  iapply (wp_xland (I := I) K c n' fi r hn' n hn hqs hqr (fs := fs) (fd := fd) hN hpay₁
      ((BI.sep_mono (hd.has fd _ g hfs) (Entails.refl _)).trans hpay₂)) $$ [Htok Ho Hs Hd']
  · isplitr; · iexact HC
    isplitl [Htok]; · iexact Htok
    isplitr; · iexact Hr
    isplitl [Ho]; · iexact Ho
    isplitl [Hs]; · iexact Hs
    iexact Hd'
  iintro ⟨Hc, Ho⟩
  iapply Hk
  isplitl [Ho]; · iexact Ho
  isplitl [Hat]
  · isplitl [Hat]; · iexact Hat
    iexact Hr
  isplitl [Hc]; · iexact Hc
  isplitl [Hrtk]; · iexact Hrtk
  isplitl [Htd]; · iexact Htd
  iexact Hpa

/-- Waiting for the send; -/
theorem wp_wait₁ (c : Dev nD) (fi : Fin 3) (r : Fin 5) (n : ℕ) (hl : (olist.drop n).all (fun x => decide (lvk (kindOf (csem (.snd fi))) < lvk x.1)) = true)
    {qs : DmaSem sig} (hqs : qs = sndS fi) {s s' : Shape} {e e' : EltTy} {sp sp' : Space} {src : Memref sig .tc sp s e} {dst : Memref sig .tc sp' s' e'}
    {hsrc : src.view.WordExact} {hdst : dst.view.WordExact} (hN : dst.view.dmaCredit = amt fi r)
    {α : Type} {Q : α → sProp 𝕄} {k : PUnit → Prog (TpuEff nD τ sig (Elt F) Λ₀ .tc) α} :
    iprop(ctx I K ∗ ow c n ∗ ph1 c fi r) ⊢ iprop((ow c n ∗ ph2 c fi r ∗ sndPay I fi r c -∗ run c (k ⟨⟩) Q)
      -∗ run c (.op (.waitDma2 qs src dst hsrc hdst) k) Q) := by
  unfold ph1 ph2
  iintro ⟨#HC, Ho, Hat, Hc, Hrtk, Htd, Hpa⟩ Hk
  iapply (wp_wsnd (I := I) K c fi r n hl hqs hN) $$ [Ho Hat Hc]
  · isplitr; · iexact HC
    isplitl [Hc]; · iexact Hc
    isplitl [Hat] <;> iassumption
  iintro ⟨Hat, Ho, Hp⟩
  iapply Hk
  isplitl [Ho]; · iexact Ho
  isplitr [Hp]
  · isplitl [Hat]; · iexact Hat
    isplitl [Hrtk]; · iexact Hrtk
    isplitl [Htd] <;> iassumption
  iexact Hp

/-- and for the neighbour's data. -/
theorem wp_wait₂ (c : Dev nD) (fi : Fin 3) (r : Fin 5) (n : ℕ) (hl : (olist.drop n).all (fun x => decide (lvk (kindOf (csem (.rcv fi r))) < lvk x.1)) = true)
    {qs : DmaSem sig} (hqs : qs = rcvS fi r) {s s' : Shape} {e e' : EltTy} {sp sp' : Space} {src : Memref sig .tc sp s e} {dst : Memref sig .tc sp' s' e'}
    {hsrc : src.view.WordExact} {hdst : dst.view.WordExact} (hN : dst.view.dmaCredit = amt fi r)
    {α : Type} {Q : α → sProp 𝕄} {k : PUnit → Prog (TpuEff nD τ sig (Elt F) Λ₀ .tc) α} :
    iprop(ctx I K ∗ ow c n ∗ ph2 c fi r) ⊢ iprop((ow c n ∗ ph0 c fi (r.val + 1) ∗ rcvPay I fi r c -∗ run c (k ⟨⟩) Q)
      -∗ run c (.op (.waitDma2 qs src dst hsrc hdst) k) Q) := by
  unfold ph0 ph2
  rw [past_step]
  iintro ⟨#HC, Ho, Hat, Hrtk, Htd, Hpa⟩ Hk
  iapply (wp_wrcv (I := I) K c fi r n hl hqs hN) $$ [Ho Hrtk]
  · isplitr; · iexact HC
    isplitl [Hrtk] <;> iassumption
  iintro ⟨Ha, Ho, Hp⟩
  iapply Hk
  isplitl [Ho]; · iexact Ho
  isplitr [Hp]
  · isplitl [Hat]; · iexact Hat
    isplitl [Htd]; · iexact Htd
    isplitl [Ha] <;> iassumption
  iexact Hp

end

end Cert.Cube

end
-- ==== Proof.Stages.lean ====
/-
What a device holds of a flow after each of the flow's steps, and that each step goes from one stage to the next.
-/
module

public import proofs.«01_k».proof.Proof.Flow

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The stages -/

/-- Rows of a flow, holding anything. -/
def rdAny (c : Dev nD) (fi : Fin 3) (lo n : ℕ) : sProp 𝕄 := iprop(∃ g, rd c fi lo n fullShare g)

/-- The neighbours' landing parts a device fills, the rows it is given to gather into, and what has landed at it. -/
def cA (c : Dev nD) (fi : Fin 3) : Fin 3 → sProp 𝕄
  | 0 => cmAny fi 0 (peer fi c)
  | 1 => cmAny fi 1 (peer (fi + 1) c)
  | 2 => cmAny fi 2 (peer (fi + 2) c)
def R0 (c : Dev nD) (fi : Fin 3) : sProp 𝕄 := rdAny (peer fi c) fi (hlo fi c) 1024
def R1 (c : Dev nD) (fi : Fin 3) : sProp 𝕄 := rdAny (peer (fi + 1) c) fi (klo fi c) 512

section
variable (I : Inp F)

def lnd (c : Dev nD) (fi k : Fin 3) : sProp 𝕄 := cmHas fi k c (cm I fi k c)

def st (c : Dev nD) (fi : Fin 3) : ℕ → sProp 𝕄
  | 0 => iprop(rdAny c fi (alo fi c) 1024 ∗ rdAny c fi (hlo fi c) 1024 ∗ cA c fi 0 ∗ cA c fi 1 ∗ cA c fi 2 ∗ ph0 c fi 0)
  | 1 => iprop(rd c fi (alo fi c) 1024 fullShare (P I fi c) ∗ rdAny c fi (hlo fi c) 1024 ∗ cA c fi 0 ∗ cA c fi 1 ∗ cA c fi 2 ∗ ph0 c fi 0)
  | 2 => iprop(rdAny c fi (hlo fi c) 1024 ∗ cA c fi 1 ∗ cA c fi 2 ∗ ph1 c fi 0)
  | 3 => iprop(rd c fi (hlo fi c) 1024 fullShare (P I fi c) ∗ cA c fi 1 ∗ cA c fi 2 ∗ ph1 c fi 0)
  | 4 => iprop(rd c fi (hlo fi c) 1024 fullShare (P I fi c) ∗ cA c fi 1 ∗ cA c fi 2 ∗ ph2 c fi 0)
  | 5 => iprop(rd c fi (hlo fi c) 1024 fullShare (P I fi c) ∗ lnd I c fi 0 ∗ R0 c fi ∗ cA c fi 1 ∗ cA c fi 2 ∗ ph0 c fi 1)
  | 6 => iprop(rd c fi (klo fi c) 512 fullShare (P I fi c) ∗ rd c fi (slo fi c) 512 fullShare (S1 I fi c) ∗ lnd I c fi 0 ∗ R0 c fi ∗ cA c fi 1 ∗ cA c fi 2
      ∗ ph0 c fi 1)
  | 7 => iprop(rd c fi (klo fi c) 512 fullShare (P I fi c) ∗ lnd I c fi 0 ∗ R0 c fi ∗ cA c fi 2 ∗ ph1 c fi 1)
  | 8 => iprop(rd c fi (klo fi c) 512 fullShare (S1 I fi c) ∗ lnd I c fi 0 ∗ R0 c fi ∗ cA c fi 2 ∗ ph1 c fi 1)
  | 9 => iprop(rd c fi (klo fi c) 512 fullShare (S1 I fi c) ∗ lnd I c fi 0 ∗ R0 c fi ∗ cA c fi 2 ∗ ph2 c fi 1)
  | 10 => iprop(rd c fi (klo fi c) 512 fullShare (S1 I fi c) ∗ lnd I c fi 0 ∗ lnd I c fi 1 ∗ R0 c fi ∗ R1 c fi ∗ cA c fi 2 ∗ ph0 c fi 2)
  | 11 => iprop(rd c fi (klo fi c) 512 fullShare (S2 I fi c) ∗ lnd I c fi 0 ∗ lnd I c fi 1 ∗ R0 c fi ∗ R1 c fi ∗ cA c fi 2 ∗ ph0 c fi 2)
  | 12 => iprop(lnd I c fi 0 ∗ lnd I c fi 1 ∗ R0 c fi ∗ R1 c fi ∗ ph1 c fi 2)
  | 13 => iprop(rd c fi (klo fi c) 512 fullShare (S2 I fi c) ∗ lnd I c fi 0 ∗ lnd I c fi 1 ∗ R0 c fi ∗ R1 c fi ∗ ph2 c fi 2)
  | 14 => iprop(rd c fi (klo fi c) 512 fullShare (S2 I fi c) ∗ lnd I c fi 0 ∗ lnd I c fi 1 ∗ lnd I c fi 2 ∗ R0 c fi ∗ R1 c fi ∗ ph0 c fi 3)
  | 15 => iprop(rd c fi (klo fi c) 512 fullShare (S3 I fi c) ∗ lnd I c fi 0 ∗ lnd I c fi 1 ∗ lnd I c fi 2 ∗ R0 c fi ∗ R1 c fi ∗ ph0 c fi 3)
  | 16 => iprop(lnd I c fi 0 ∗ lnd I c fi 1 ∗ lnd I c fi 2 ∗ R0 c fi ∗ ph1 c fi 3)
  | 17 => iprop(rd c fi (klo fi c) 512 fullShare (S3 I fi c) ∗ lnd I c fi 0 ∗ lnd I c fi 1 ∗ lnd I c fi 2 ∗ R0 c fi ∗ ph2 c fi 3)
  | 18 => iprop(rd c fi (hlo fi c) 1024 fullShare (fin I fi c) ∗ lnd I c fi 0 ∗ lnd I c fi 1 ∗ lnd I c fi 2 ∗ R0 c fi ∗ ph0 c fi 4)
  | 19 => iprop(rd c fi (hlo fi c) 1024 fullShare.right (fin I fi c) ∗ lnd I c fi 0 ∗ lnd I c fi 1 ∗ lnd I c fi 2 ∗ ph1 c fi 4)
  | 20 => iprop(rd c fi (hlo fi c) 1024 fullShare (fin I fi c) ∗ lnd I c fi 0 ∗ lnd I c fi 1 ∗ lnd I c fi 2 ∗ ph2 c fi 4)
  | _ => iprop(rd c fi (alo fi c) 1024 fullShare (fin I fi c) ∗ rd c fi (hlo fi c) 1024 fullShare (fin I fi c) ∗ lnd I c fi 0 ∗ lnd I c fi 1 ∗ lnd I c fi 2 ∗ ph0 c fi 5)

/-! ## What the numbers are -/

theorem cm_0 (c : Dev nD) (fi : Fin 3) : (fun r col => P I fi c (alo fi c + (r - clo 0)) col) = cm I fi 0 (peer fi c) := by
  funext r col
  show _ = P I fi (peer fi (peer fi c)) (hlo fi (peer fi c) + r) col
  rw [peer_peer, hlo_peer]; rfl
theorem cm_1 (c : Dev nD) (fi : Fin 3) : (fun r col => S1 I fi c (slo fi c + (r - clo 1)) col) = cm I fi 1 (peer (fi + 1) c) := by
  funext r col
  show _ = S1 I fi (peer (fi + 1) (peer (fi + 1) c)) (klo fi (peer (fi + 1) c) + (r - 1024)) col
  rw [peer_peer, klo_peer]; rfl
theorem cm_2 (c : Dev nD) (fi : Fin 3) : (fun r col => S2 I fi c (klo fi c + (r - clo 2)) col) = cm I fi 2 (peer (fi + 2) c) := by
  funext r col
  show _ = S2 I fi (peer (fi + 2) (peer (fi + 2) c)) (klo fi (peer (fi + 2) c) + (r - 1536)) col
  rw [peer_peer, klo_peer2]; rfl

/-- On the quarter a device sums, the result is its sum; -/
theorem fin_klo (c : Dev nD) (fi : Fin 3) (r col : ℕ) (h : klo fi c ≤ r) (h' : r < klo fi c + 512) : fin I fi c r col = S3 I fi c r col := by
  have h1 := side_le fi c; have h2 := side_le (fi + 1) c
  unfold klo at h h'
  unfold fin fin1
  rw [if_pos (by omega), if_pos (by omega)]
/-- on the other quarter of the half it keeps, its neighbour's. -/
theorem fin_peer1 (c : Dev nD) (fi : Fin 3) (r col : ℕ) (h : klo fi c ≤ r) (h' : r < klo fi c + 512) : fin I fi (peer (fi + 1) c) r col = S3 I fi c r col := by
  have h1 := side_le fi c; have h2 := side_le (fi + 1) c
  unfold klo at h h'
  unfold fin fin1
  rw [side_peer, side_peer_ne fi (fi + 1) c (add1_ne fi).symm, peer_peer, if_pos (by omega), if_neg (by omega)]
/-- On the half a device keeps, its neighbour across the first axis ends with the same. -/
theorem fin_peer0 (c : Dev nD) (fi : Fin 3) (r col : ℕ) (h : hlo fi c ≤ r) (h' : r < hlo fi c + 1024) : fin I fi (peer fi c) r col = fin I fi c r col := by
  have h1 := side_le fi c
  unfold hlo at h h'
  unfold fin
  rw [side_peer, peer_peer, if_neg (by omega), if_pos (by omega)]

/-- The half a device keeps is the quarter it sums and the one it sends. -/
theorem rd_half (c : Dev nD) (fi : Fin 3) (q : PosShare TreeShare) (g : ℕ → ℕ → F .bf16) :
    (rd c fi (hlo fi c) 1024 q g : sProp 𝕄) ⊣⊢ iprop(rd c fi (klo fi c) 512 q g ∗ rd c fi (slo fi c) 512 q g) := by
  have h1 := side_le fi c; have h2 := side_le (fi + 1) c
  unfold rd
  refine rp_split cc0_scratch0 c _ _ _ _ _ _ q _ (fun i => ?_) (fun i ha hb => ?_)
  · unfold hlo klo slo
    refine Iff.trans Fin.forall_fin_two (Iff.trans ?_ (or_congr Fin.forall_fin_two Fin.forall_fin_two).symm)
    show ((1024 * side fi c) ≤ (i 0 : ℕ) ∧ (i 0 : ℕ) < (1024 * side fi c) + 1024) ∧ (cs fi ≤ (i 1 : ℕ) ∧ (i 1 : ℕ) < cs fi + cw fi)
      ↔ (((1024 * side fi c + 512 * side (fi + 1) c) ≤ (i 0 : ℕ) ∧ (i 0 : ℕ) < (1024 * side fi c + 512 * side (fi + 1) c) + 512) ∧ (cs fi ≤ (i 1 : ℕ) ∧ (i 1 : ℕ) < cs fi + cw fi))
        ∨ (((1024 * side fi c + 512 * (1 - side (fi + 1) c)) ≤ (i 0 : ℕ) ∧ (i 0 : ℕ) < (1024 * side fi c + 512 * (1 - side (fi + 1) c)) + 512) ∧ (cs fi ≤ (i 1 : ℕ) ∧ (i 1 : ℕ) < cs fi + cw fi))
    omega
  · have ha' : klo fi c ≤ (i 0 : ℕ) ∧ (i 0 : ℕ) < klo fi c + 512 := ha 0
    have hb' : slo fi c ≤ (i 0 : ℕ) ∧ (i 0 : ℕ) < slo fi c + 512 := hb 0
    unfold klo at ha'; unfold slo at hb'
    omega

end

end Cert.Cube

end
-- ==== Proof.Flows.lean ====
/-
The steps of a flow: each takes a device from one of the flow's stages to the next.
-/
module

public import proofs.«01_k».proof.Proof.Stages

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {I : Inp F} {K : Dev nD × CK → ℕ}

attribute [local irreducible] amt rcvS sndS peer axs clo cn

/-! ## Transfers -/

theorem pay_0 (c : Dev nD) (fi : Fin 3) :
    iprop(cmHas fi 0 (peer (axs fi 0) c) (fun r col => P I fi c (alo fi c + (r - clo 0)) col) ∗ rd c fi (alo fi c) 1024 fullShare (P I fi c))
      ⊢ rcvPay I fi 0 (peer (axs fi 0) c) := by
  show _ ⊢ iprop(cmHas fi 0 (peer (axs fi 0) c) (cm I fi 0 (peer (axs fi 0) c)) ∗ rd (peer fi (peer (axs fi 0) c)) fi (hlo fi (peer (axs fi 0) c)) 1024 fullShare (P I fi (peer fi (peer (axs fi 0) c))))
  rw [axs0, peer_peer, hlo_peer, cm_0]
theorem pay_1 (c : Dev nD) (fi : Fin 3) :
    iprop(cmHas fi 1 (peer (axs fi 1) c) (fun r col => S1 I fi c (slo fi c + (r - clo 1)) col) ∗ rd c fi (slo fi c) 512 fullShare (S1 I fi c))
      ⊢ rcvPay I fi 1 (peer (axs fi 1) c) := by
  show _ ⊢ iprop(cmHas fi 1 (peer (axs fi 1) c) (cm I fi 1 (peer (axs fi 1) c)) ∗ rd (peer (fi + 1) (peer (axs fi 1) c)) fi (klo fi (peer (axs fi 1) c)) 512 fullShare (S1 I fi (peer (fi + 1) (peer (axs fi 1) c))))
  rw [axs1, peer_peer, klo_peer, cm_1]
theorem pay_2 (c : Dev nD) (fi : Fin 3) :
    cmHas fi 2 (peer (axs fi 2) c) (fun r col => S2 I fi c (klo fi c + (r - clo 2)) col) ⊢ rcvPay I fi 2 (peer (axs fi 2) c) := by
  show _ ⊢ cmHas fi 2 (peer (axs fi 2) c) (cm I fi 2 (peer (axs fi 2) c))
  rw [axs2, cm_2]
theorem pay_3 (c : Dev nD) (fi : Fin 3) :
    rd (peer (axs fi 3) c) fi (klo fi c) 512 fullShare (fun r col => S3 I fi c (klo fi c + (r - klo fi c)) col) ⊢ rcvPay I fi 3 (peer (axs fi 3) c) := by
  show _ ⊢ rd (peer (axs fi 3) c) fi (slo fi (peer (axs fi 3) c)) 512 fullShare (fin I fi (peer (axs fi 3) c))
  rw [axs3, slo_peer]
  refine Entails.of_eq (rd_congr _ _ _ _ _ _ _ fun r col h h' => ?_)
  rw [fin_peer1 I c fi r col h h', Nat.add_sub_cancel' h]
theorem pay_4 (c : Dev nD) (fi : Fin 3) :
    rd (peer (axs fi 4) c) fi (hlo fi c) 1024 fullShare (fun r col => fin I fi c (hlo fi c + (r - hlo fi c)) col) ⊢ rcvPay I fi 4 (peer (axs fi 4) c) := by
  show _ ⊢ rd (peer (axs fi 4) c) fi (alo fi (peer (axs fi 4) c)) 1024 fullShare (fin I fi (peer (axs fi 4) c))
  rw [axs4, alo_peer]
  refine Entails.of_eq (rd_congr _ _ _ _ _ _ _ fun r col h h' => ?_)
  rw [fin_peer0 I c fi r col h h', Nat.add_sub_cancel' h]

/-- The first transfer, -/
theorem s_snd0 (c n' : Dev nD) (fi : Fin 3) (hn' : n' = peer (axs fi 0) c) (n : ℕ) (hn : olist.drop n = (.rcv fi 0, axs fi 0, amt fi 0) :: olist.drop (n + 1))
    {m w : ℕ} {src dst : Memref sig .tc .vmem ⟨2, ![m, w]⟩ .bf16}
    (hsr : Src c src fullShare (rd c fi (alo fi c) 1024 fullShare (P I fi c)) (fun r col => P I fi c (alo fi c + r) col))
    (hd : Dst (F := F) (peer (axs fi 0) c) dst (cmAny fi 0 (peer (axs fi 0) c)) (fun g => cmHas fi 0 (peer (axs fi 0) c) fun r col => g (r - clo 0) col))
    {hsc : dst.view.ref.isScScratch = false} {qs qr : DmaSem sig} (hqs : qs = sndS fi) (hqr : qr = rcvS fi 0)
    {hsrc : src.view.WordExact} {hdst : dst.view.WordExact}
    {hsem : DmaTarget.Typed .vmem (.dma qr) (.remote (Dev.tc n' : Thread nD τ) dst (.dma qs) hsc)} (hN : dst.view.dmaCredit = amt fi 0)
    {α : Type} {Q : α → sProp 𝕄} {k : PUnit → Prog (TpuEff nD τ sig (Elt F) Λ₀ .tc) α} :
    iprop(ctx I K ∗ ow c n ∗ st I c fi 1) ⊢ iprop((ow c (n + 1) ∗ st I c fi 2 -∗ run c (k ⟨⟩) Q)
      -∗ run c (.op (.enqueueDma src (.remote (Dev.tc n' : Thread nD τ) dst (.dma qs) hsc) (.dma qr) hsrc hdst hsem) k) Q) := by
  simp only [st, cA]
  iintro ⟨#HC, Ho, HR, HH, Hpre, H1, H2, Hp⟩ Hk
  iapply (wp_send₂ (I := I) (K := K) c n' fi 0 hn' n hn hsr hd hqs hqr hN (Entails.refl _) (pay_0 c fi)) $$ [Ho Hp HR Hpre]
  · isplitr; · iexact HC
    isplitl [Ho]; · iexact Ho
    isplitl [Hp]; · iexact Hp
    isplitl [HR]; · iexact HR
    rw [axs0]; iexact Hpre
  iintro ⟨Ho, Hp⟩
  iapply Hk
  iframe Ho HH H1 H2 Hp

/-- the second, -/
theorem s_snd1 (c n' : Dev nD) (fi : Fin 3) (hn' : n' = peer (axs fi 1) c) (n : ℕ) (hn : olist.drop n = (.rcv fi 1, axs fi 1, amt fi 1) :: olist.drop (n + 1))
    {m w : ℕ} {src dst : Memref sig .tc .vmem ⟨2, ![m, w]⟩ .bf16}
    (hsr : Src c src fullShare (rd c fi (slo fi c) 512 fullShare (S1 I fi c)) (fun r col => S1 I fi c (slo fi c + r) col))
    (hd : Dst (F := F) (peer (axs fi 1) c) dst (cmAny fi 1 (peer (axs fi 1) c)) (fun g => cmHas fi 1 (peer (axs fi 1) c) fun r col => g (r - clo 1) col))
    {hsc : dst.view.ref.isScScratch = false} {qs qr : DmaSem sig} (hqs : qs = sndS fi) (hqr : qr = rcvS fi 1)
    {hsrc : src.view.WordExact} {hdst : dst.view.WordExact}
    {hsem : DmaTarget.Typed .vmem (.dma qr) (.remote (Dev.tc n' : Thread nD τ) dst (.dma qs) hsc)} (hN : dst.view.dmaCredit = amt fi 1)
    {α : Type} {Q : α → sProp 𝕄} {k : PUnit → Prog (TpuEff nD τ sig (Elt F) Λ₀ .tc) α} :
    iprop(ctx I K ∗ ow c n ∗ st I c fi 6) ⊢ iprop((ow c (n + 1) ∗ st I c fi 7 -∗ run c (k ⟨⟩) Q)
      -∗ run c (.op (.enqueueDma src (.remote (Dev.tc n' : Thread nD τ) dst (.dma qs) hsc) (.dma qr) hsrc hdst hsem) k) Q) := by
  simp only [st, cA]
  iintro ⟨#HC, Ho, HK, HR, HL, H0, Hpre, H2, Hp⟩ Hk
  iapply (wp_send₂ (I := I) (K := K) c n' fi 1 hn' n hn hsr hd hqs hqr hN (Entails.refl _) (pay_1 c fi)) $$ [Ho Hp HR Hpre]
  · isplitr; · iexact HC
    isplitl [Ho]; · iexact Ho
    isplitl [Hp]; · iexact Hp
    isplitl [HR]; · iexact HR
    rw [axs1]; iexact Hpre
  iintro ⟨Ho, Hp⟩
  iapply Hk
  iframe Ho HK HL H0 H2 Hp

/-- the third, -/
theorem s_snd2 (c n' : Dev nD) (fi : Fin 3) (hn' : n' = peer (axs fi 2) c) (n : ℕ) (hn : olist.drop n = (.rcv fi 2, axs fi 2, amt fi 2) :: olist.drop (n + 1))
    {m w : ℕ} {src dst : Memref sig .tc .vmem ⟨2, ![m, w]⟩ .bf16}
    (hsr : Src c src fullShare (rd c fi (klo fi c) 512 fullShare (S2 I fi c)) (fun r col => S2 I fi c (klo fi c + r) col))
    (hd : Dst (F := F) (peer (axs fi 2) c) dst (cmAny fi 2 (peer (axs fi 2) c)) (fun g => cmHas fi 2 (peer (axs fi 2) c) fun r col => g (r - clo 2) col))
    {hsc : dst.view.ref.isScScratch = false} {qs qr : DmaSem sig} (hqs : qs = sndS fi) (hqr : qr = rcvS fi 2)
    {hsrc : src.view.WordExact} {hdst : dst.view.WordExact}
    {hsem : DmaTarget.Typed .vmem (.dma qr) (.remote (Dev.tc n' : Thread nD τ) dst (.dma qs) hsc)} (hN : dst.view.dmaCredit = amt fi 2)
    {α : Type} {Q : α → sProp 𝕄} {k : PUnit → Prog (TpuEff nD τ sig (Elt F) Λ₀ .tc) α} :
    iprop(ctx I K ∗ ow c n ∗ st I c fi 11) ⊢ iprop((ow c (n + 1) ∗ st I c fi 12 -∗ run c (k ⟨⟩) Q)
      -∗ run c (.op (.enqueueDma src (.remote (Dev.tc n' : Thread nD τ) dst (.dma qs) hsc) (.dma qr) hsrc hdst hsem) k) Q) := by
  simp only [st, cA]
  iintro ⟨#HC, Ho, HR, HL, HL1, H0, H1, Hpre, Hp⟩ Hk
  iapply (wp_send₁ (I := I) (K := K) c n' fi 2 hn' n hn hsr hd hqs hqr hN (Entails.refl _) (pay_2 c fi)) $$ [Ho Hp HR Hpre]
  · isplitr; · iexact HC
    isplitl [Ho]; · iexact Ho
    isplitl [Hp]; · iexact Hp
    isplitl [HR]; · iexact HR
    rw [axs2]; iexact Hpre
  iintro ⟨Ho, Hp⟩
  iapply Hk
  iframe Ho HL HL1 H0 H1 Hp

/-- the fourth, -/
theorem s_snd3 (c n' : Dev nD) (fi : Fin 3) (hn' : n' = peer (axs fi 3) c) (n : ℕ) (hn : olist.drop n = (.rcv fi 3, axs fi 3, amt fi 3) :: olist.drop (n + 1))
    {m w : ℕ} {src dst : Memref sig .tc .vmem ⟨2, ![m, w]⟩ .bf16}
    (hsr : Src c src fullShare (rd c fi (klo fi c) 512 fullShare (S3 I fi c)) (fun r col => S3 I fi c (klo fi c + r) col))
    (hd : Dst (F := F) (peer (axs fi 3) c) dst iprop(∃ g, rd (peer (axs fi 3) c) fi (klo fi c) 512 fullShare g) (fun g => rd (peer (axs fi 3) c) fi (klo fi c) 512 fullShare fun r col => g (r - klo fi c) col))
    {hsc : dst.view.ref.isScScratch = false} {qs qr : DmaSem sig} (hqs : qs = sndS fi) (hqr : qr = rcvS fi 3)
    {hsrc : src.view.WordExact} {hdst : dst.view.WordExact}
    {hsem : DmaTarget.Typed .vmem (.dma qr) (.remote (Dev.tc n' : Thread nD τ) dst (.dma qs) hsc)} (hN : dst.view.dmaCredit = amt fi 3)
    {α : Type} {Q : α → sProp 𝕄} {k : PUnit → Prog (TpuEff nD τ sig (Elt F) Λ₀ .tc) α} :
    iprop(ctx I K ∗ ow c n ∗ st I c fi 15) ⊢ iprop((ow c (n + 1) ∗ st I c fi 16 -∗ run c (k ⟨⟩) Q)
      -∗ run c (.op (.enqueueDma src (.remote (Dev.tc n' : Thread nD τ) dst (.dma qs) hsc) (.dma qr) hsrc hdst hsem) k) Q) := by
  simp only [st, cA]
  iintro ⟨#HC, Ho, HR, HL, HL1, HL2, H0, Hpre, Hp⟩ Hk
  iapply (wp_send₁ (I := I) (K := K) c n' fi 3 hn' n hn hsr hd hqs hqr hN (Entails.refl _) (pay_3 c fi)) $$ [Ho Hp HR Hpre]
  · isplitr; · iexact HC
    isplitl [Ho]; · iexact Ho
    isplitl [Hp]; · iexact Hp
    isplitl [HR]; · iexact HR
    rw [axs3]; unfold R1 rdAny; iexact Hpre
  iintro ⟨Ho, Hp⟩
  iapply Hk
  iframe Ho HL HL1 HL2 H0 Hp

/-- Half a share of rows and the other half are the whole. -/
theorem rd_halves (c : Dev nD) (fi : Fin 3) (lo n : ℕ) (g : ℕ → ℕ → F .bf16) :
    (rd c fi lo n fullShare g : sProp 𝕄) ⊣⊢ iprop(rd c fi lo n fullShare.left g ∗ rd c fi lo n fullShare.right g) := by
  unfold rd rp
  exact pointsTo_share (PosShare.mem_left_op_right fullShare)

/-- the fifth. -/
theorem s_snd4 (c n' : Dev nD) (fi : Fin 3) (hn' : n' = peer (axs fi 4) c) (n : ℕ) (hn : olist.drop n = (.rcv fi 4, axs fi 4, amt fi 4) :: olist.drop (n + 1))
    {m w : ℕ} {src dst : Memref sig .tc .vmem ⟨2, ![m, w]⟩ .bf16}
    (hsr : Src c src fullShare.left (rd c fi (hlo fi c) 1024 fullShare.left (fin I fi c)) (fun r col => fin I fi c (hlo fi c + r) col))
    (hd : Dst (F := F) (peer (axs fi 4) c) dst iprop(∃ g, rd (peer (axs fi 4) c) fi (hlo fi c) 1024 fullShare g) (fun g => rd (peer (axs fi 4) c) fi (hlo fi c) 1024 fullShare fun r col => g (r - hlo fi c) col))
    {hsc : dst.view.ref.isScScratch = false} {qs qr : DmaSem sig} (hqs : qs = sndS fi) (hqr : qr = rcvS fi 4)
    {hsrc : src.view.WordExact} {hdst : dst.view.WordExact}
    {hsem : DmaTarget.Typed .vmem (.dma qr) (.remote (Dev.tc n' : Thread nD τ) dst (.dma qs) hsc)} (hN : dst.view.dmaCredit = amt fi 4)
    {α : Type} {Q : α → sProp 𝕄} {k : PUnit → Prog (TpuEff nD τ sig (Elt F) Λ₀ .tc) α} :
    iprop(ctx I K ∗ ow c n ∗ st I c fi 18) ⊢ iprop((ow c (n + 1) ∗ st I c fi 19 -∗ run c (k ⟨⟩) Q)
      -∗ run c (.op (.enqueueDma src (.remote (Dev.tc n' : Thread nD τ) dst (.dma qs) hsc) (.dma qr) hsrc hdst hsem) k) Q) := by
  simp only [st, cA]
  iintro ⟨#HC, Ho, HF, HL, HL1, HL2, Hpre, Hp⟩ Hk
  ihave HF' := (rd_halves c fi (hlo fi c) 1024 (fin I fi c)).1 $$ HF
  icases HF' with ⟨HR, HS⟩
  iapply (wp_send₁ (I := I) (K := K) c n' fi 4 hn' n hn hsr hd hqs hqr hN (Entails.refl _) (pay_4 c fi)) $$ [Ho Hp HR Hpre]
  · isplitr; · iexact HC
    isplitl [Ho]; · iexact Ho
    isplitl [Hp]; · iexact Hp
    isplitl [HR]; · iexact HR
    rw [axs4]; unfold R0 rdAny; iexact Hpre
  iintro ⟨Ho, Hp⟩
  iapply Hk
  iframe Ho HS HL HL1 HL2 Hp

/-! ## Waits -/

/-- The first transfer has left; -/
theorem s_ws0 (c : Dev nD) (fi : Fin 3) (n : ℕ) (hl : (olist.drop n).all (fun x => decide (lvk (kindOf (csem (.snd fi))) < lvk x.1)) = true)
    {qs : DmaSem sig} (hqs : qs = sndS fi) {s s' : Shape} {e e' : EltTy} {sp sp' : Space} {src : Memref sig .tc sp s e} {dst : Memref sig .tc sp' s' e'}
    {hsrc : src.view.WordExact} {hdst : dst.view.WordExact} (hN : dst.view.dmaCredit = amt fi 0)
    {α : Type} {Q : α → sProp 𝕄} {k : PUnit → Prog (TpuEff nD τ sig (Elt F) Λ₀ .tc) α} :
    iprop(ctx I K ∗ ow c n ∗ st I c fi 3) ⊢ iprop((ow c n ∗ st I c fi 4 -∗ run c (k ⟨⟩) Q)
      -∗ run c (.op (.waitDma2 qs src dst hsrc hdst) k) Q) := by
  simp only [st, cA]
  iintro ⟨#HC, Ho, HH, H1, H2, Hp⟩ Hk
  iapply (wp_wait₁ (I := I) (K := K) c fi 0 n hl hqs hN) $$ [Ho Hp]
  · isplitr; · iexact HC
    isplitl [Ho] <;> iassumption
  iintro ⟨Ho, Hp, Hy⟩
  iapply Hk
  iframe Ho HH H1 H2 Hp

/-- the neighbour's has landed, and its rows are given. -/
theorem s_wr0 (c : Dev nD) (fi : Fin 3) (n : ℕ) (hl : (olist.drop n).all (fun x => decide (lvk (kindOf (csem (.rcv fi 0))) < lvk x.1)) = true)
    {qs : DmaSem sig} (hqs : qs = rcvS fi 0) {s s' : Shape} {e e' : EltTy} {sp sp' : Space} {src : Memref sig .tc sp s e} {dst : Memref sig .tc sp' s' e'}
    {hsrc : src.view.WordExact} {hdst : dst.view.WordExact} (hN : dst.view.dmaCredit = amt fi 0)
    {α : Type} {Q : α → sProp 𝕄} {k : PUnit → Prog (TpuEff nD τ sig (Elt F) Λ₀ .tc) α} :
    iprop(ctx I K ∗ ow c n ∗ st I c fi 4) ⊢ iprop((ow c n ∗ st I c fi 5 -∗ run c (k ⟨⟩) Q)
      -∗ run c (.op (.waitDma2 qs src dst hsrc hdst) k) Q) := by
  simp only [st, cA]
  iintro ⟨#HC, Ho, HH, H1, H2, Hp⟩ Hk
  iapply (wp_wait₂ (I := I) (K := K) c fi 0 n hl hqs hN) $$ [Ho Hp]
  · isplitr; · iexact HC
    isplitl [Ho] <;> iassumption
  iintro ⟨Ho, Hp, Hy⟩
  iapply Hk
  dsimp only [rcvPay]
  icases Hy with ⟨HL, HR⟩
  ihave HR := (show _ ⊢ R0 c fi from exists_intro (Φ := fun g => rd (peer fi c) fi (hlo fi c) 1024 fullShare g) (P I fi (peer fi c))) $$ HR
  unfold lnd
  iframe Ho HH HL HR H1 H2 Hp

/-- The second has left; -/
theorem s_ws1 (c : Dev nD) (fi : Fin 3) (n : ℕ) (hl : (olist.drop n).all (fun x => decide (lvk (kindOf (csem (.snd fi))) < lvk x.1)) = true)
    {qs : DmaSem sig} (hqs : qs = sndS fi) {s s' : Shape} {e e' : EltTy} {sp sp' : Space} {src : Memref sig .tc sp s e} {dst : Memref sig .tc sp' s' e'}
    {hsrc : src.view.WordExact} {hdst : dst.view.WordExact} (hN : dst.view.dmaCredit = amt fi 1)
    {α : Type} {Q : α → sProp 𝕄} {k : PUnit → Prog (TpuEff nD τ sig (Elt F) Λ₀ .tc) α} :
    iprop(ctx I K ∗ ow c n ∗ st I c fi 8) ⊢ iprop((ow c n ∗ st I c fi 9 -∗ run c (k ⟨⟩) Q)
      -∗ run c (.op (.waitDma2 qs src dst hsrc hdst) k) Q) := by
  simp only [st, cA]
  iintro ⟨#HC, Ho, HK, HL, H0, H2, Hp⟩ Hk
  iapply (wp_wait₁ (I := I) (K := K) c fi 1 n hl hqs hN) $$ [Ho Hp]
  · isplitr; · iexact HC
    isplitl [Ho] <;> iassumption
  iintro ⟨Ho, Hp, Hy⟩
  iapply Hk
  iframe Ho HK HL H0 H2 Hp

/-- the neighbour's has landed, and its rows are given. -/
theorem s_wr1 (c : Dev nD) (fi : Fin 3) (n : ℕ) (hl : (olist.drop n).all (fun x => decide (lvk (kindOf (csem (.rcv fi 1))) < lvk x.1)) = true)
    {qs : DmaSem sig} (hqs : qs = rcvS fi 1) {s s' : Shape} {e e' : EltTy} {sp sp' : Space} {src : Memref sig .tc sp s e} {dst : Memref sig .tc sp' s' e'}
    {hsrc : src.view.WordExact} {hdst : dst.view.WordExact} (hN : dst.view.dmaCredit = amt fi 1)
    {α : Type} {Q : α → sProp 𝕄} {k : PUnit → Prog (TpuEff nD τ sig (Elt F) Λ₀ .tc) α} :
    iprop(ctx I K ∗ ow c n ∗ st I c fi 9) ⊢ iprop((ow c n ∗ st I c fi 10 -∗ run c (k ⟨⟩) Q)
      -∗ run c (.op (.waitDma2 qs src dst hsrc hdst) k) Q) := by
  simp only [st, cA]
  iintro ⟨#HC, Ho, HK, HL, H0, H2, Hp⟩ Hk
  iapply (wp_wait₂ (I := I) (K := K) c fi 1 n hl hqs hN) $$ [Ho Hp]
  · isplitr; · iexact HC
    isplitl [Ho] <;> iassumption
  iintro ⟨Ho, Hp, Hy⟩
  iapply Hk
  dsimp only [rcvPay]
  icases Hy with ⟨HL1, HR⟩
  ihave HR := (show _ ⊢ R1 c fi from exists_intro (Φ := fun g => rd (peer (fi + 1) c) fi (klo fi c) 512 fullShare g) (S1 I fi (peer (fi + 1) c))) $$ HR
  unfold lnd
  iframe Ho HK HL HL1 H0 HR H2 Hp

/-- The third has left; -/
theorem s_ws2 (c : Dev nD) (fi : Fin 3) (n : ℕ) (hl : (olist.drop n).all (fun x => decide (lvk (kindOf (csem (.snd fi))) < lvk x.1)) = true)
    {qs : DmaSem sig} (hqs : qs = sndS fi) {s s' : Shape} {e e' : EltTy} {sp sp' : Space} {src : Memref sig .tc sp s e} {dst : Memref sig .tc sp' s' e'}
    {hsrc : src.view.WordExact} {hdst : dst.view.WordExact} (hN : dst.view.dmaCredit = amt fi 2)
    {α : Type} {Q : α → sProp 𝕄} {k : PUnit → Prog (TpuEff nD τ sig (Elt F) Λ₀ .tc) α} :
    iprop(ctx I K ∗ ow c n ∗ st I c fi 12) ⊢ iprop((ow c n ∗ st I c fi 13 -∗ run c (k ⟨⟩) Q)
      -∗ run c (.op (.waitDma2 qs src dst hsrc hdst) k) Q) := by
  simp only [st, cA]
  iintro ⟨#HC, Ho, HL, HL1, H0, H1, Hp⟩ Hk
  iapply (wp_wait₁ (I := I) (K := K) c fi 2 n hl hqs hN) $$ [Ho Hp]
  · isplitr; · iexact HC
    isplitl [Ho] <;> iassumption
  iintro ⟨Ho, Hp, Hy⟩
  iapply Hk
  dsimp only [sndPay]
  iframe Ho Hy HL HL1 H0 H1 Hp

/-- the neighbour's has landed. -/
theorem s_wr2 (c : Dev nD) (fi : Fin 3) (n : ℕ) (hl : (olist.drop n).all (fun x => decide (lvk (kindOf (csem (.rcv fi 2))) < lvk x.1)) = true)
    {qs : DmaSem sig} (hqs : qs = rcvS fi 2) {s s' : Shape} {e e' : EltTy} {sp sp' : Space} {src : Memref sig .tc sp s e} {dst : Memref sig .tc sp' s' e'}
    {hsrc : src.view.WordExact} {hdst : dst.view.WordExact} (hN : dst.view.dmaCredit = amt fi 2)
    {α : Type} {Q : α → sProp 𝕄} {k : PUnit → Prog (TpuEff nD τ sig (Elt F) Λ₀ .tc) α} :
    iprop(ctx I K ∗ ow c n ∗ st I c fi 13) ⊢ iprop((ow c n ∗ st I c fi 14 -∗ run c (k ⟨⟩) Q)
      -∗ run c (.op (.waitDma2 qs src dst hsrc hdst) k) Q) := by
  simp only [st, cA]
  iintro ⟨#HC, Ho, HK, HL, HL1, H0, H1, Hp⟩ Hk
  iapply (wp_wait₂ (I := I) (K := K) c fi 2 n hl hqs hN) $$ [Ho Hp]
  · isplitr; · iexact HC
    isplitl [Ho] <;> iassumption
  iintro ⟨Ho, Hp, Hy⟩
  iapply Hk
  dsimp only [rcvPay]
  unfold lnd
  iframe Ho HK HL HL1 Hy H0 H1 Hp

/-- The fourth has left; -/
theorem s_ws3 (c : Dev nD) (fi : Fin 3) (n : ℕ) (hl : (olist.drop n).all (fun x => decide (lvk (kindOf (csem (.snd fi))) < lvk x.1)) = true)
    {qs : DmaSem sig} (hqs : qs = sndS fi) {s s' : Shape} {e e' : EltTy} {sp sp' : Space} {src : Memref sig .tc sp s e} {dst : Memref sig .tc sp' s' e'}
    {hsrc : src.view.WordExact} {hdst : dst.view.WordExact} (hN : dst.view.dmaCredit = amt fi 3)
    {α : Type} {Q : α → sProp 𝕄} {k : PUnit → Prog (TpuEff nD τ sig (Elt F) Λ₀ .tc) α} :
    iprop(ctx I K ∗ ow c n ∗ st I c fi 16) ⊢ iprop((ow c n ∗ st I c fi 17 -∗ run c (k ⟨⟩) Q)
      -∗ run c (.op (.waitDma2 qs src dst hsrc hdst) k) Q) := by
  simp only [st, cA]
  iintro ⟨#HC, Ho, HL, HL1, HL2, H0, Hp⟩ Hk
  iapply (wp_wait₁ (I := I) (K := K) c fi 3 n hl hqs hN) $$ [Ho Hp]
  · isplitr; · iexact HC
    isplitl [Ho] <;> iassumption
  iintro ⟨Ho, Hp, Hy⟩
  iapply Hk
  dsimp only [sndPay]
  iframe Ho Hy HL HL1 HL2 H0 Hp

/-- the neighbour's has landed: the half kept is finished. -/
theorem s_wr3 (c : Dev nD) (fi : Fin 3) (n : ℕ) (hl : (olist.drop n).all (fun x => decide (lvk (kindOf (csem (.rcv fi 3))) < lvk x.1)) = true)
    {qs : DmaSem sig} (hqs : qs = rcvS fi 3) {s s' : Shape} {e e' : EltTy} {sp sp' : Space} {src : Memref sig .tc sp s e} {dst : Memref sig .tc sp' s' e'}
    {hsrc : src.view.WordExact} {hdst : dst.view.WordExact} (hN : dst.view.dmaCredit = amt fi 3)
    {α : Type} {Q : α → sProp 𝕄} {k : PUnit → Prog (TpuEff nD τ sig (Elt F) Λ₀ .tc) α} :
    iprop(ctx I K ∗ ow c n ∗ st I c fi 17) ⊢ iprop((ow c n ∗ st I c fi 18 -∗ run c (k ⟨⟩) Q)
      -∗ run c (.op (.waitDma2 qs src dst hsrc hdst) k) Q) := by
  simp only [st, cA]
  iintro ⟨#HC, Ho, HK, HL, HL1, HL2, H0, Hp⟩ Hk
  iapply (wp_wait₂ (I := I) (K := K) c fi 3 n hl hqs hN) $$ [Ho Hp]
  · isplitr; · iexact HC
    isplitl [Ho] <;> iassumption
  iintro ⟨Ho, Hp, Hy⟩
  iapply Hk
  dsimp only [rcvPay]
  ihave HK := (Entails.of_eq (rd_congr c fi (klo fi c) 512 fullShare (S3 I fi c) (fin I fi c) fun r col h h' => (fin_klo I c fi r col h h').symm)) $$ HK
  ihave HF := (rd_half c fi fullShare (fin I fi c)).2 $$ [HK Hy]
  · isplitl [HK] <;> iassumption
  iframe Ho HF HL HL1 HL2 H0 Hp

/-- The fifth has left; -/
theorem s_ws4 (c : Dev nD) (fi : Fin 3) (n : ℕ) (hl : (olist.drop n).all (fun x => decide (lvk (kindOf (csem (.snd fi))) < lvk x.1)) = true)
    {qs : DmaSem sig} (hqs : qs = sndS fi) {s s' : Shape} {e e' : EltTy} {sp sp' : Space} {src : Memref sig .tc sp s e} {dst : Memref sig .tc sp' s' e'}
    {hsrc : src.view.WordExact} {hdst : dst.view.WordExact} (hN : dst.view.dmaCredit = amt fi 4)
    {α : Type} {Q : α → sProp 𝕄} {k : PUnit → Prog (TpuEff nD τ sig (Elt F) Λ₀ .tc) α} :
    iprop(ctx I K ∗ ow c n ∗ st I c fi 19) ⊢ iprop((ow c n ∗ st I c fi 20 -∗ run c (k ⟨⟩) Q)
      -∗ run c (.op (.waitDma2 qs src dst hsrc hdst) k) Q) := by
  simp only [st, cA]
  iintro ⟨#HC, Ho, HS, HL, HL1, HL2, Hp⟩ Hk
  iapply (wp_wait₁ (I := I) (K := K) c fi 4 n hl hqs hN) $$ [Ho Hp]
  · isplitr; · iexact HC
    isplitl [Ho] <;> iassumption
  iintro ⟨Ho, Hp, Hy⟩
  iapply Hk
  dsimp only [sndPay]
  ihave HF := (rd_halves c fi (hlo fi c) 1024 (fin I fi c)).2 $$ [Hy HS]
  · isplitl [Hy] <;> iassumption
  iframe Ho HF HL HL1 HL2 Hp

/-- the neighbour's has landed: all is finished. -/
theorem s_wr4 (c : Dev nD) (fi : Fin 3) (n : ℕ) (hl : (olist.drop n).all (fun x => decide (lvk (kindOf (csem (.rcv fi 4))) < lvk x.1)) = true)
    {qs : DmaSem sig} (hqs : qs = rcvS fi 4) {s s' : Shape} {e e' : EltTy} {sp sp' : Space} {src : Memref sig .tc sp s e} {dst : Memref sig .tc sp' s' e'}
    {hsrc : src.view.WordExact} {hdst : dst.view.WordExact} (hN : dst.view.dmaCredit = amt fi 4)
    {α : Type} {Q : α → sProp 𝕄} {k : PUnit → Prog (TpuEff nD τ sig (Elt F) Λ₀ .tc) α} :
    iprop(ctx I K ∗ ow c n ∗ st I c fi 20) ⊢ iprop((ow c n ∗ st I c fi 21 -∗ run c (k ⟨⟩) Q)
      -∗ run c (.op (.waitDma2 qs src dst hsrc hdst) k) Q) := by
  simp only [st, cA]
  iintro ⟨#HC, Ho, HF, HL, HL1, HL2, Hp⟩ Hk
  iapply (wp_wait₂ (I := I) (K := K) c fi 4 n hl hqs hN) $$ [Ho Hp]
  · isplitr; · iexact HC
    isplitl [Ho] <;> iassumption
  iintro ⟨Ho, Hp, Hy⟩
  iapply Hk
  dsimp only [rcvPay]
  iframe Ho Hy HF HL HL1 HL2 Hp

end

end Cert.Cube

end
-- ==== Proof.Local.lean ====
/-
The steps within a device: the loads of the inputs, the stores of the products, the sums into the reduction buffer, and
the copies of the finished rows into the result.
-/
module

public import proofs.«01_k».proof.Proof.Flows

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {I : Inp F} {α : Type}

/-- The end of a program. -/
theorem run_ret (c : Dev nD) (a : α) {Q : α → sProp 𝕄} : Q a ⊢ run c (.ret a) Q := by
  unfold run
  rw [wp_ret]
  iintro H; imodintro; iexact H

/-! ## The inputs -/

/-- A whole buffer of a device. -/
def bw (b : Ref sig .tc) (c : Dev nD) (f : b.ty.Contents (Elt F)) : sProp 𝕄 := ((c : Thread nD τ).loc b) ↦{fullShare} f

/-- A load from a whole buffer. -/
theorem wp_ldB (i : Fin (sig.nNear .tc .vmem)) (h : sig.names .tc .vmem i = true) (c : Dev nD)
    (off size : Fin (vb i h).ty.shape.rank → ℕ) (inb : ∀ a, off a + size a ≤ (vb i h).ty.shape.size a) (f : (vb i h).ty.Contents (Elt F))
    {hl : (Memref.whole (vb i h)).view.LoadsAt (Rect.unit off size inb).toLoadRect}
    {Q : α → sProp 𝕄} {k : _ → Prog (TpuEff nD τ sig (Elt F) Λ₀ .tc) α} :
    bw (vb i h) c f ⊢ iprop((bw (vb i h) c f -∗ run c (k fun j => f ((Rect.unit off size inb).emb j)) Q)
      -∗ run c (.op (.load (Memref.whole (vb i h)) (Rect.unit off size inb).toLoadRect hl) k) Q) := by
  have := wp_load_rect (defs := defs₀ (F := F)) 𝒱₀ (c : Thread nD τ) none Set.univ (m := Memref.whole (vb i h)) (r := Rect.unit off size inb)
    (hl := hl) (S := Finset.univ) (q := fullShare) (f := f) (Q := Q) (k := k) (Γ := .empty) (Finset.subset_univ _)
  exact this

variable (I) in
/-- A device's inputs, staged. -/
def ins (c : Dev nD) : sProp 𝕄 := iprop(bw cc0_stg0_0 c (I.x c) ∗ bw cc0_stg1_0 c (I.r c) ∗ bw cc0_stg2_0 c (I.w c))

theorem wp_ldX (c : Dev nD) (b : ℕ) {off : Fin 2 → ℕ} (ho : off = ![1024 * b, 0]) {inb : ∀ a, off a + (![1024, 512] : Fin 2 → ℕ) a ≤ S2048x512.size a}
    {hl : (Memref.whole cc0_stg0_0).view.LoadsAt (Rect.unit (s := S2048x512) off ![1024, 512] inb).toLoadRect}
    {Q : α → sProp 𝕄} {k : ((⟨2, ![1024, 512]⟩ : Shape).Idx → Elt F .f32) → Prog (TpuEff nD τ sig (Elt F) Λ₀ .tc) α} :
    ins I c ⊢ iprop((ins I c -∗ run c (k (xblk I c b)) Q) -∗ run c (.op (.load (Memref.whole cc0_stg0_0) (Rect.unit (s := S2048x512) off ![1024, 512] inb).toLoadRect hl) k) Q) := by
  subst ho
  rw [show xblk I c b = fun j => I.x c ((Rect.unit (s := S2048x512) ![1024 * b, 0] ![1024, 512] inb).emb j) from by
    funext j; unfold xblk; refine congrArg _ (eq_ix2 _ _ _ ?_ ?_).symm
    · show 1024 * b + 1 * (j 0 : ℕ) = _; rw [Nat.one_mul]
    · show 0 + 1 * (j 1 : ℕ) = _; rw [Nat.one_mul, Nat.zero_add]]
  unfold ins
  iintro ⟨HX, HR, HW⟩ Hk
  iapply (wp_ldB 0 rfl c _ _ inb (I.x c)) $$ HX; iintro HX
  iapply Hk; iframe HX HR HW
theorem wp_ldRt (c : Dev nD) (b : ℕ) {off : Fin 2 → ℕ} (ho : off = ![1024 * b, 0]) {inb : ∀ a, off a + (![1024, 1] : Fin 2 → ℕ) a ≤ S2048x1.size a}
    {hl : (Memref.whole cc0_stg1_0).view.LoadsAt (Rect.unit (s := S2048x1) off ![1024, 1] inb).toLoadRect}
    {Q : α → sProp 𝕄} {k : ((⟨2, ![1024, 1]⟩ : Shape).Idx → Elt F .i32) → Prog (TpuEff nD τ sig (Elt F) Λ₀ .tc) α} :
    ins I c ⊢ iprop((ins I c -∗ run c (k (rblk I c b)) Q) -∗ run c (.op (.load (Memref.whole cc0_stg1_0) (Rect.unit (s := S2048x1) off ![1024, 1] inb).toLoadRect hl) k) Q) := by
  subst ho
  rw [show rblk I c b = fun j => I.r c ((Rect.unit (s := S2048x1) ![1024 * b, 0] ![1024, 1] inb).emb j) from by
    funext j; unfold rblk; refine congrArg _ (eq_ix2 _ _ _ ?_ ?_).symm
    · show 1024 * b + 1 * (j 0 : ℕ) = _; rw [Nat.one_mul]
    · show 0 + 1 * (j 1 : ℕ) = _; rw [Nat.one_mul, Nat.zero_add]]
  unfold ins
  iintro ⟨HX, HR, HW⟩ Hk
  iapply (wp_ldB 1 rfl c _ _ inb (I.r c)) $$ HR; iintro HR
  iapply Hk; iframe HX HR HW
theorem wp_ldE (c : Dev nD) (e o : ℕ) {off : Fin 3 → ℕ} (ho : off = ![e, 0, o]) {inb : ∀ a, off a + (![1, 512, 384] : Fin 3 → ℕ) a ≤ S4x512x1024.size a}
    {hl : (Memref.whole cc0_stg2_0).view.LoadsAt (Rect.unit (s := S4x512x1024) off ![1, 512, 384] inb).toLoadRect}
    {Q : α → sProp 𝕄} {k : ((⟨3, ![1, 512, 384]⟩ : Shape).Idx → Elt F .f32) → Prog (TpuEff nD τ sig (Elt F) Λ₀ .tc) α} :
    ins I c ⊢ iprop((ins I c -∗ run c (k (wblk I c e o)) Q) -∗ run c (.op (.load (Memref.whole cc0_stg2_0) (Rect.unit (s := S4x512x1024) off ![1, 512, 384] inb).toLoadRect hl) k) Q) := by
  subst ho
  rw [show wblk I c e o = fun j => I.w c ((Rect.unit (s := S4x512x1024) ![e, 0, o] ![1, 512, 384] inb).emb j) from by
    funext j; unfold wblk; refine congrArg _ (eq_ix3 _ _ _ _ ?_ ?_ ?_).symm
    · show e + 1 * (j 0 : ℕ) = _; rw [Nat.one_mul]
    · show 0 + 1 * (j 1 : ℕ) = _; rw [Nat.one_mul, Nat.zero_add]
    · show o + 1 * (j 2 : ℕ) = _; rw [Nat.one_mul]]
  unfold ins
  iintro ⟨HX, HR, HW⟩ Hk
  iapply (wp_ldB 2 rfl c _ _ inb (I.w c)) $$ HW; iintro HW
  iapply Hk; iframe HX HR HW
theorem wp_ldE' (c : Dev nD) (e o : ℕ) {off : Fin 3 → ℕ} (ho : off = ![e, 0, o]) {inb : ∀ a, off a + (![1, 512, 256] : Fin 3 → ℕ) a ≤ S4x512x1024.size a}
    {hl : (Memref.whole cc0_stg2_0).view.LoadsAt (Rect.unit (s := S4x512x1024) off ![1, 512, 256] inb).toLoadRect}
    {Q : α → sProp 𝕄} {k : ((⟨3, ![1, 512, 256]⟩ : Shape).Idx → Elt F .f32) → Prog (TpuEff nD τ sig (Elt F) Λ₀ .tc) α} :
    ins I c ⊢ iprop((ins I c -∗ run c (k (wblk' I c e o)) Q) -∗ run c (.op (.load (Memref.whole cc0_stg2_0) (Rect.unit (s := S4x512x1024) off ![1, 512, 256] inb).toLoadRect hl) k) Q) := by
  subst ho
  rw [show wblk' I c e o = fun j => I.w c ((Rect.unit (s := S4x512x1024) ![e, 0, o] ![1, 512, 256] inb).emb j) from by
    funext j; unfold wblk'; refine congrArg _ (eq_ix3 _ _ _ _ ?_ ?_ ?_).symm
    · show e + 1 * (j 0 : ℕ) = _; rw [Nat.one_mul]
    · show 0 + 1 * (j 1 : ℕ) = _; rw [Nat.one_mul, Nat.zero_add]
    · show o + 1 * (j 2 : ℕ) = _; rw [Nat.one_mul]]
  unfold ins
  iintro ⟨HX, HR, HW⟩ Hk
  iapply (wp_ldB 2 rfl c _ _ inb (I.w c)) $$ HW; iintro HW
  iapply Hk; iframe HX HR HW

/-! ## The products -/

/-- A load of the rows to be written, whatever they hold; and the store. -/
theorem s_ldA (c : Dev nD) (fi : Fin 3) {off : Fin 2 → ℕ} (ho : off = ![alo fi c, cs fi]) {inb : ∀ a, off a + (![1024, cw fi] : Fin 2 → ℕ) a ≤ S2048x1024.size a}
    {hl : (Memref.whole cc0_scratch0).view.LoadsAt (Rect.unit (s := S2048x1024) off ![1024, cw fi] inb).toLoadRect}
    {Q : α → sProp 𝕄} {k : ((⟨2, ![1024, cw fi]⟩ : Shape).Idx → Elt F .bf16) → Prog (TpuEff nD τ sig (Elt F) Λ₀ .tc) α} :
    st I c fi 0 ⊢ iprop((∀ v, st I c fi 0 -∗ run c (k v) Q)
      -∗ run c (.op (.load (Memref.whole cc0_scratch0) (Rect.unit (s := S2048x1024) off ![1024, cw fi] inb).toLoadRect hl) k) Q) := by
  simp only [st, rdAny]
  iintro ⟨⟨%g, HA⟩, HH, Hr⟩ Hk
  iapply (wp_ldR c fi _ 1024 _ 1024 fullShare g ⟨le_rfl, le_rfl⟩ ho) $$ HA; iintro HA
  iapply Hk
  iframe HH Hr
  iexists g; iexact HA
theorem s_putA (c : Dev nD) (fi : Fin 3) {off : Fin 2 → ℕ} (ho : off = ![alo fi c, cs fi]) {inb : ∀ a, off a + (![1024, cw fi] : Fin 2 → ℕ) a ≤ S2048x1024.size a}
    {w : (⟨2, ![1024, cw fi]⟩ : Shape).Idx → Elt F .bf16} (hw : ∀ j, w j = P I fi c (alo fi c + j 0) (j 1))
    {hx : ((Memref.whole cc0_scratch0).access (Rect.unit (s := S2048x1024) off ![1024, cw fi] inb)).Stores Finset.univ}
    {hm : (Finset.univ : Finset (Rect.unit (s := S2048x1024) off ![1024, cw fi] inb).shape.Idx) = Finset.univ ∨ ∀ a, (Rect.unit (s := S2048x1024) off ![1024, cw fi] inb).stride a = 1}
    {Q : α → sProp 𝕄} {k : PUnit → Prog (TpuEff nD τ sig (Elt F) Λ₀ .tc) α} :
    st I c fi 0 ⊢ iprop((st I c fi 1 -∗ run c (k ⟨⟩) Q)
      -∗ run c (.op (.store (Memref.whole cc0_scratch0) (Rect.unit (s := S2048x1024) off ![1024, cw fi] inb) w Finset.univ hx hm) k) Q) := by
  simp only [st, rdAny]
  iintro ⟨⟨%g, HA⟩, HH, Hr⟩ Hk
  iapply (wp_put c fi _ 1024 g _ ho hw) $$ HA; iintro HA
  iapply Hk
  iframe HA HH Hr
theorem s_ldH (c : Dev nD) (fi : Fin 3) {off : Fin 2 → ℕ} (ho : off = ![hlo fi c, cs fi]) {inb : ∀ a, off a + (![1024, cw fi] : Fin 2 → ℕ) a ≤ S2048x1024.size a}
    {hl : (Memref.whole cc0_scratch0).view.LoadsAt (Rect.unit (s := S2048x1024) off ![1024, cw fi] inb).toLoadRect}
    {Q : α → sProp 𝕄} {k : ((⟨2, ![1024, cw fi]⟩ : Shape).Idx → Elt F .bf16) → Prog (TpuEff nD τ sig (Elt F) Λ₀ .tc) α} :
    st I c fi 2 ⊢ iprop((∀ v, st I c fi 2 -∗ run c (k v) Q)
      -∗ run c (.op (.load (Memref.whole cc0_scratch0) (Rect.unit (s := S2048x1024) off ![1024, cw fi] inb).toLoadRect hl) k) Q) := by
  simp only [st, rdAny]
  iintro ⟨⟨%g, HA⟩, Hr⟩ Hk
  iapply (wp_ldR c fi _ 1024 _ 1024 fullShare g ⟨le_rfl, le_rfl⟩ ho) $$ HA; iintro HA
  iapply Hk
  iframe Hr
  iexists g; iexact HA
theorem s_putH (c : Dev nD) (fi : Fin 3) {off : Fin 2 → ℕ} (ho : off = ![hlo fi c, cs fi]) {inb : ∀ a, off a + (![1024, cw fi] : Fin 2 → ℕ) a ≤ S2048x1024.size a}
    {w : (⟨2, ![1024, cw fi]⟩ : Shape).Idx → Elt F .bf16} (hw : ∀ j, w j = P I fi c (hlo fi c + j 0) (j 1))
    {hx : ((Memref.whole cc0_scratch0).access (Rect.unit (s := S2048x1024) off ![1024, cw fi] inb)).Stores Finset.univ}
    {hm : (Finset.univ : Finset (Rect.unit (s := S2048x1024) off ![1024, cw fi] inb).shape.Idx) = Finset.univ ∨ ∀ a, (Rect.unit (s := S2048x1024) off ![1024, cw fi] inb).stride a = 1}
    {Q : α → sProp 𝕄} {k : PUnit → Prog (TpuEff nD τ sig (Elt F) Λ₀ .tc) α} :
    st I c fi 2 ⊢ iprop((st I c fi 3 -∗ run c (k ⟨⟩) Q)
      -∗ run c (.op (.store (Memref.whole cc0_scratch0) (Rect.unit (s := S2048x1024) off ![1024, cw fi] inb) w Finset.univ hx hm) k) Q) := by
  simp only [st, rdAny]
  iintro ⟨⟨%g, HA⟩, Hr⟩ Hk
  iapply (wp_put c fi _ 1024 g _ ho hw) $$ HA; iintro HA
  iapply Hk
  iframe HA Hr

/-- What is stored is the device's product: its block at half `b` of the rows. -/
theorem put_0 (c : Dev nD) (b : ℕ) (j : (⟨2, ![1024, 384]⟩ : Shape).Idx) :
    blk (dnum c) (xblk I c b) (rblk I c b) (wblk I c 0 0) (wblk I c 1 0) (wblk I c 2 0) (wblk I c 3 0) j = P I 0 c (1024 * b + j 0) (j 1) := by
  have hj : (j 0 : ℕ) < 1024 := (j 0).isLt
  show _ = Pb I 0 c ((1024 * b + j 0) / 1024) ((1024 * b + j 0) % 1024) (j 1)
  rw [show (1024 * b + (j 0 : ℕ)) / 1024 = b by omega, show (1024 * b + (j 0 : ℕ)) % 1024 = j 0 by omega]
  exact congrArg _ (eq_ix2 j _ _ rfl rfl)
theorem put_1 (c : Dev nD) (b : ℕ) (j : (⟨2, ![1024, 384]⟩ : Shape).Idx) :
    blk (dnum c) (xblk I c b) (rblk I c b) (wblk I c 0 384) (wblk I c 1 384) (wblk I c 2 384) (wblk I c 3 384) j = P I 1 c (1024 * b + j 0) (j 1) := by
  have hj : (j 0 : ℕ) < 1024 := (j 0).isLt
  show _ = Pb I 1 c ((1024 * b + j 0) / 1024) ((1024 * b + j 0) % 1024) (j 1)
  rw [show (1024 * b + (j 0 : ℕ)) / 1024 = b by omega, show (1024 * b + (j 0 : ℕ)) % 1024 = j 0 by omega]
  exact congrArg _ (eq_ix2 j _ _ rfl rfl)
theorem put_2 (c : Dev nD) (b : ℕ) (j : (⟨2, ![1024, 256]⟩ : Shape).Idx) :
    blk' (dnum c) (xblk I c b) (rblk I c b) (wblk' I c 0 768) (wblk' I c 1 768) (wblk' I c 2 768) (wblk' I c 3 768) j = P I 2 c (1024 * b + j 0) (j 1) := by
  have hj : (j 0 : ℕ) < 1024 := (j 0).isLt
  show _ = Pb I 2 c ((1024 * b + j 0) / 1024) ((1024 * b + j 0) % 1024) (j 1)
  rw [show (1024 * b + (j 0 : ℕ)) / 1024 = b by omega, show (1024 * b + (j 0 : ℕ)) % 1024 = j 0 by omega]
  exact congrArg _ (eq_ix2 j _ _ rfl rfl)

/-! ## The sums -/

/-- Adding what has landed in a flow's landing buffer into the reduction buffer: flow 0, flow 1, flow 2. -/
theorem wp_addC0 (c : Dev nD) (k' : Fin 3) (lo lo' : ℕ) (g g' gc : ℕ → ℕ → F .bf16) (hsub : clo k' ≤ lo' ∧ lo' + 512 ≤ clo k' + cn k')
    {off off' : Fin 2 → ℕ} (ho : off = ![lo, cs 0]) (ho' : off' = ![lo', 0]) {inb : ∀ a, off a + (![512, 384] : Fin 2 → ℕ) a ≤ S2048x1024.size a}
    {inb' : ∀ a, off' a + (![512, 384] : Fin 2 → ℕ) a ≤ S2048x384.size a}
    {hl hl' : (Memref.whole cc0_scratch0).view.LoadsAt (Rect.unit (s := S2048x1024) off ![512, 384] inb).toLoadRect}
    {hl'' : (Memref.whole cc0_scratch1).view.LoadsAt (Rect.unit (s := S2048x384) off' ![512, 384] inb').toLoadRect}
    {pay : ((⟨2, ![512, 384]⟩ : Shape).Idx → Elt F .bf16) → ((⟨2, ![512, 384]⟩ : Shape).Idx → Elt F .bf16) → (⟨2, ![512, 384]⟩ : Shape).Idx → Elt F .bf16}
    (hpay : ∀ v v' j, pay v v' j = FloatOps.addf (F := F) (φ := .bf16) (v j) (v' j))
    (hg : ∀ j col, FloatOps.addf (F := F) (φ := .bf16) (g (lo + j) col) (gc (lo' + j) col) = g' (lo + j) col)
    {hx : ((Memref.whole cc0_scratch0).access (Rect.unit (s := S2048x1024) off ![512, 384] inb)).Stores Finset.univ}
    {hm : (Finset.univ : Finset (Rect.unit (s := S2048x1024) off ![512, 384] inb).shape.Idx) = Finset.univ ∨ ∀ a, (Rect.unit (s := S2048x1024) off ![512, 384] inb).stride a = 1}
    {Q : α → sProp 𝕄} {k : PUnit → Prog (TpuEff nD τ sig (Elt F) Λ₀ .tc) α} :
    iprop(rd c 0 lo 512 fullShare g ∗ cmHas 0 k' c gc) ⊢ iprop((rd c 0 lo 512 fullShare g' ∗ cmHas 0 k' c gc -∗ run c (k ⟨⟩) Q)
      -∗ run c (.op (.load (Memref.whole cc0_scratch0) (Rect.unit (s := S2048x1024) off ![512, 384] inb).toLoadRect hl) fun v =>
        .op (.load (Memref.whole cc0_scratch1) (Rect.unit (s := S2048x384) off' ![512, 384] inb').toLoadRect hl'') fun v' =>
        .op (.load (Memref.whole cc0_scratch0) (Rect.unit (s := S2048x1024) off ![512, 384] inb).toLoadRect hl') fun _ =>
        .op (.store (Memref.whole cc0_scratch0) (Rect.unit (s := S2048x1024) off ![512, 384] inb) (pay v v') Finset.univ hx hm) k) Q) := by
  iintro ⟨Hr, Hc⟩ Hk
  iapply (wp_ldR c 0 lo 512 lo 512 fullShare g ⟨le_rfl, le_rfl⟩ ho) $$ Hr; iintro Hr
  iapply (wp_ldC0 c k' gc lo' 512 hsub ho') $$ Hc; iintro Hc
  iapply (wp_ldR c 0 lo 512 lo 512 fullShare g ⟨le_rfl, le_rfl⟩ ho) $$ Hr; iintro Hr
  iapply (wp_put c 0 lo 512 g g' ho (fun j => (hpay _ _ j).trans (hg (j 0) (j 1)))) $$ Hr; iintro Hr
  iapply Hk
  iframe Hr Hc

/-- Adding what has landed in a flow's landing buffer into the reduction buffer. -/
theorem wp_addC1 (c : Dev nD) (k' : Fin 3) (lo lo' : ℕ) (g g' gc : ℕ → ℕ → F .bf16) (hsub : clo k' ≤ lo' ∧ lo' + 512 ≤ clo k' + cn k')
    {off off' : Fin 2 → ℕ} (ho : off = ![lo, cs 1]) (ho' : off' = ![lo', 0]) {inb : ∀ a, off a + (![512, 384] : Fin 2 → ℕ) a ≤ S2048x1024.size a}
    {inb' : ∀ a, off' a + (![512, 384] : Fin 2 → ℕ) a ≤ S2048x384.size a}
    {hl hl' : (Memref.whole cc0_scratch0).view.LoadsAt (Rect.unit (s := S2048x1024) off ![512, 384] inb).toLoadRect}
    {hl'' : (Memref.whole cc0_scratch2).view.LoadsAt (Rect.unit (s := S2048x384) off' ![512, 384] inb').toLoadRect}
    {pay : ((⟨2, ![512, 384]⟩ : Shape).Idx → Elt F .bf16) → ((⟨2, ![512, 384]⟩ : Shape).Idx → Elt F .bf16) → (⟨2, ![512, 384]⟩ : Shape).Idx → Elt F .bf16}
    (hpay : ∀ v v' j, pay v v' j = FloatOps.addf (F := F) (φ := .bf16) (v j) (v' j))
    (hg : ∀ j col, FloatOps.addf (F := F) (φ := .bf16) (g (lo + j) col) (gc (lo' + j) col) = g' (lo + j) col)
    {hx : ((Memref.whole cc0_scratch0).access (Rect.unit (s := S2048x1024) off ![512, 384] inb)).Stores Finset.univ}
    {hm : (Finset.univ : Finset (Rect.unit (s := S2048x1024) off ![512, 384] inb).shape.Idx) = Finset.univ ∨ ∀ a, (Rect.unit (s := S2048x1024) off ![512, 384] inb).stride a = 1}
    {Q : α → sProp 𝕄} {k : PUnit → Prog (TpuEff nD τ sig (Elt F) Λ₀ .tc) α} :
    iprop(rd c 1 lo 512 fullShare g ∗ cmHas 1 k' c gc) ⊢ iprop((rd c 1 lo 512 fullShare g' ∗ cmHas 1 k' c gc -∗ run c (k ⟨⟩) Q)
      -∗ run c (.op (.load (Memref.whole cc0_scratch0) (Rect.unit (s := S2048x1024) off ![512, 384] inb).toLoadRect hl) fun v =>
        .op (.load (Memref.whole cc0_scratch2) (Rect.unit (s := S2048x384) off' ![512, 384] inb').toLoadRect hl'') fun v' =>
        .op (.load (Memref.whole cc0_scratch0) (Rect.unit (s := S2048x1024) off ![512, 384] inb).toLoadRect hl') fun _ =>
        .op (.store (Memref.whole cc0_scratch0) (Rect.unit (s := S2048x1024) off ![512, 384] inb) (pay v v') Finset.univ hx hm) k) Q) := by
  iintro ⟨Hr, Hc⟩ Hk
  iapply (wp_ldR c 1 lo 512 lo 512 fullShare g ⟨le_rfl, le_rfl⟩ ho) $$ Hr; iintro Hr
  iapply (wp_ldC1 c k' gc lo' 512 hsub ho') $$ Hc; iintro Hc
  iapply (wp_ldR c 1 lo 512 lo 512 fullShare g ⟨le_rfl, le_rfl⟩ ho) $$ Hr; iintro Hr
  iapply (wp_put c 1 lo 512 g g' ho (fun j => (hpay _ _ j).trans (hg (j 0) (j 1)))) $$ Hr; iintro Hr
  iapply Hk
  iframe Hr Hc

/-- Adding what has landed in a flow's landing buffer into the reduction buffer. -/
theorem wp_addC2 (c : Dev nD) (k' : Fin 3) (lo lo' : ℕ) (g g' gc : ℕ → ℕ → F .bf16) (hsub : clo k' ≤ lo' ∧ lo' + 512 ≤ clo k' + cn k')
    {off off' : Fin 2 → ℕ} (ho : off = ![lo, cs 2]) (ho' : off' = ![lo', 0]) {inb : ∀ a, off a + (![512, 256] : Fin 2 → ℕ) a ≤ S2048x1024.size a}
    {inb' : ∀ a, off' a + (![512, 256] : Fin 2 → ℕ) a ≤ S2048x256.size a}
    {hl hl' : (Memref.whole cc0_scratch0).view.LoadsAt (Rect.unit (s := S2048x1024) off ![512, 256] inb).toLoadRect}
    {hl'' : (Memref.whole cc0_scratch3).view.LoadsAt (Rect.unit (s := S2048x256) off' ![512, 256] inb').toLoadRect}
    {pay : ((⟨2, ![512, 256]⟩ : Shape).Idx → Elt F .bf16) → ((⟨2, ![512, 256]⟩ : Shape).Idx → Elt F .bf16) → (⟨2, ![512, 256]⟩ : Shape).Idx → Elt F .bf16}
    (hpay : ∀ v v' j, pay v v' j = FloatOps.addf (F := F) (φ := .bf16) (v j) (v' j))
    (hg : ∀ j col, FloatOps.addf (F := F) (φ := .bf16) (g (lo + j) col) (gc (lo' + j) col) = g' (lo + j) col)
    {hx : ((Memref.whole cc0_scratch0).access (Rect.unit (s := S2048x1024) off ![512, 256] inb)).Stores Finset.univ}
    {hm : (Finset.univ : Finset (Rect.unit (s := S2048x1024) off ![512, 256] inb).shape.Idx) = Finset.univ ∨ ∀ a, (Rect.unit (s := S2048x1024) off ![512, 256] inb).stride a = 1}
    {Q : α → sProp 𝕄} {k : PUnit → Prog (TpuEff nD τ sig (Elt F) Λ₀ .tc) α} :
    iprop(rd c 2 lo 512 fullShare g ∗ cmHas 2 k' c gc) ⊢ iprop((rd c 2 lo 512 fullShare g' ∗ cmHas 2 k' c gc -∗ run c (k ⟨⟩) Q)
      -∗ run c (.op (.load (Memref.whole cc0_scratch0) (Rect.unit (s := S2048x1024) off ![512, 256] inb).toLoadRect hl) fun v =>
        .op (.load (Memref.whole cc0_scratch3) (Rect.unit (s := S2048x256) off' ![512, 256] inb').toLoadRect hl'') fun v' =>
        .op (.load (Memref.whole cc0_scratch0) (Rect.unit (s := S2048x1024) off ![512, 256] inb).toLoadRect hl') fun _ =>
        .op (.store (Memref.whole cc0_scratch0) (Rect.unit (s := S2048x1024) off ![512, 256] inb) (pay v v') Finset.univ hx hm) k) Q) := by
  iintro ⟨Hr, Hc⟩ Hk
  iapply (wp_ldR c 2 lo 512 lo 512 fullShare g ⟨le_rfl, le_rfl⟩ ho) $$ Hr; iintro Hr
  iapply (wp_ldC2 c k' gc lo' 512 hsub ho') $$ Hc; iintro Hc
  iapply (wp_ldR c 2 lo 512 lo 512 fullShare g ⟨le_rfl, le_rfl⟩ ho) $$ Hr; iintro Hr
  iapply (wp_put c 2 lo 512 g g' ho (fun j => (hpay _ _ j).trans (hg (j 0) (j 1)))) $$ Hr; iintro Hr
  iapply Hk
  iframe Hr Hc

/-- The sum of the quarter sent in the second transfer; -/
theorem s_add0 (c : Dev nD) (fi : Fin 3) {Q : α → sProp 𝕄} {p : Prog (TpuEff nD τ sig (Elt F) Λ₀ .tc) α} {k : PUnit → Prog (TpuEff nD τ sig (Elt F) Λ₀ .tc) α}
    (h : iprop(rd c fi (slo fi c) 512 fullShare (P I fi c) ∗ cmHas fi 0 c (cm I fi 0 c))
      ⊢ iprop((rd c fi (slo fi c) 512 fullShare (S1 I fi c) ∗ cmHas fi 0 c (cm I fi 0 c) -∗ run c (k ⟨⟩) Q) -∗ run c p Q)) :
    st I c fi 5 ⊢ iprop((st I c fi 6 -∗ run c (k ⟨⟩) Q) -∗ run c p Q) := by
  simp only [st, lnd]
  iintro ⟨HH, HL, H0, H1, H2, Hp⟩ Hk
  ihave HH' := (rd_half c fi fullShare (P I fi c)).1 $$ HH
  icases HH' with ⟨HK, Hx⟩
  iapply h $$ [Hx HL]
  · isplitl [Hx] <;> iassumption
  iintro ⟨Hx, HL⟩
  iapply Hk
  iframe HK Hx HL H0 H1 H2 Hp

/-- of the quarter kept, -/
theorem s_add1 (c : Dev nD) (fi : Fin 3) {Q : α → sProp 𝕄} {p : Prog (TpuEff nD τ sig (Elt F) Λ₀ .tc) α} {k : PUnit → Prog (TpuEff nD τ sig (Elt F) Λ₀ .tc) α}
    (h : iprop(rd c fi (klo fi c) 512 fullShare (P I fi c) ∗ cmHas fi 0 c (cm I fi 0 c))
      ⊢ iprop((rd c fi (klo fi c) 512 fullShare (S1 I fi c) ∗ cmHas fi 0 c (cm I fi 0 c) -∗ run c (k ⟨⟩) Q) -∗ run c p Q)) :
    st I c fi 7 ⊢ iprop((st I c fi 8 -∗ run c (k ⟨⟩) Q) -∗ run c p Q) := by
  simp only [st, lnd]
  iintro ⟨Hx, HL, Hr⟩ Hk
  iapply h $$ [Hx HL]
  · isplitl [Hx] <;> iassumption
  iintro ⟨Hx, HL⟩
  iapply Hk
  iframe Hx HL Hr

/-- with the second neighbour's, -/
theorem s_add2 (c : Dev nD) (fi : Fin 3) {Q : α → sProp 𝕄} {p : Prog (TpuEff nD τ sig (Elt F) Λ₀ .tc) α} {k : PUnit → Prog (TpuEff nD τ sig (Elt F) Λ₀ .tc) α}
    (h : iprop(rd c fi (klo fi c) 512 fullShare (S1 I fi c) ∗ cmHas fi 1 c (cm I fi 1 c))
      ⊢ iprop((rd c fi (klo fi c) 512 fullShare (S2 I fi c) ∗ cmHas fi 1 c (cm I fi 1 c) -∗ run c (k ⟨⟩) Q) -∗ run c p Q)) :
    st I c fi 10 ⊢ iprop((st I c fi 11 -∗ run c (k ⟨⟩) Q) -∗ run c p Q) := by
  simp only [st, lnd]
  iintro ⟨Hx, HL0, HL, Hr⟩ Hk
  iapply h $$ [Hx HL]
  · isplitl [Hx] <;> iassumption
  iintro ⟨Hx, HL⟩
  iapply Hk
  iframe Hx HL0 HL Hr

/-- and with the third's. -/
theorem s_add3 (c : Dev nD) (fi : Fin 3) {Q : α → sProp 𝕄} {p : Prog (TpuEff nD τ sig (Elt F) Λ₀ .tc) α} {k : PUnit → Prog (TpuEff nD τ sig (Elt F) Λ₀ .tc) α}
    (h : iprop(rd c fi (klo fi c) 512 fullShare (S2 I fi c) ∗ cmHas fi 2 c (cm I fi 2 c))
      ⊢ iprop((rd c fi (klo fi c) 512 fullShare (S3 I fi c) ∗ cmHas fi 2 c (cm I fi 2 c) -∗ run c (k ⟨⟩) Q) -∗ run c p Q)) :
    st I c fi 14 ⊢ iprop((st I c fi 15 -∗ run c (k ⟨⟩) Q) -∗ run c p Q) := by
  simp only [st, lnd]
  iintro ⟨Hx, HL0, HL1, HL, Hr⟩ Hk
  iapply h $$ [Hx HL]
  · isplitl [Hx] <;> iassumption
  iintro ⟨Hx, HL⟩
  iapply Hk
  iframe Hx HL0 HL1 HL Hr

theorem hlo_le_slo (c : Dev nD) (fi : Fin 3) : hlo fi c ≤ slo fi c ∧ slo fi c - hlo fi c ≤ 512 := by unfold hlo slo; omega
theorem hlo_le_klo (c : Dev nD) (fi : Fin 3) : hlo fi c ≤ klo fi c ∧ klo fi c - hlo fi c ≤ 512 := by
  have := side_le (fi + 1) c; unfold hlo klo; omega

theorem sub_0 (c : Dev nD) (fi : Fin 3) : clo 0 ≤ slo fi c - hlo fi c ∧ slo fi c - hlo fi c + 512 ≤ clo 0 + cn 0 := by
  have := (hlo_le_slo c fi).2; show 0 ≤ _ ∧ _ ≤ 0 + 1024; omega
theorem sub_1 (c : Dev nD) (fi : Fin 3) : clo 0 ≤ klo fi c - hlo fi c ∧ klo fi c - hlo fi c + 512 ≤ clo 0 + cn 0 := by
  have := (hlo_le_klo c fi).2; show 0 ≤ _ ∧ _ ≤ 0 + 1024; omega

theorem add_0 (c : Dev nD) (fi : Fin 3) (j col : ℕ) :
    FloatOps.addf (F := F) (φ := .bf16) (P I fi c (slo fi c + j) col) (cm I fi 0 c (slo fi c - hlo fi c + j) col) = S1 I fi c (slo fi c + j) col := by
  have := (hlo_le_slo c fi).1
  show _ = FloatOps.addf _ (P I fi (peer fi c) _ col)
  unfold cm; dsimp only
  rw [show hlo fi c + (slo fi c - hlo fi c + j) = slo fi c + j by omega]
theorem add_1 (c : Dev nD) (fi : Fin 3) (j col : ℕ) :
    FloatOps.addf (F := F) (φ := .bf16) (P I fi c (klo fi c + j) col) (cm I fi 0 c (klo fi c - hlo fi c + j) col) = S1 I fi c (klo fi c + j) col := by
  have := (hlo_le_klo c fi).1
  show _ = FloatOps.addf _ (P I fi (peer fi c) _ col)
  unfold cm; dsimp only
  rw [show hlo fi c + (klo fi c - hlo fi c + j) = klo fi c + j by omega]
theorem add_2 (c : Dev nD) (fi : Fin 3) (j col : ℕ) :
    FloatOps.addf (F := F) (φ := .bf16) (S1 I fi c (klo fi c + j) col) (cm I fi 1 c (1024 + j) col) = S2 I fi c (klo fi c + j) col := by
  show FloatOps.addf _ (S1 I fi (peer (fi + 1) c) (klo fi c + (1024 + j - 1024)) col) = _
  rw [Nat.add_sub_cancel_left]; rfl
theorem add_3 (c : Dev nD) (fi : Fin 3) (j col : ℕ) :
    FloatOps.addf (F := F) (φ := .bf16) (S2 I fi c (klo fi c + j) col) (cm I fi 2 c (1536 + j) col) = S3 I fi c (klo fi c + j) col := by
  show FloatOps.addf _ (S2 I fi (peer (fi + 2) c) (klo fi c + (1536 + j - 1536)) col) = _
  rw [Nat.add_sub_cancel_left]; rfl

/-! ## The result -/

/-- Loads of finished rows: of the half kept, while it is being sent; of either half at the end. -/
theorem s_ldF (c : Dev nD) (fi : Fin 3) {w : ℕ} (hw : cw fi = w) {off : Fin 2 → ℕ} (ho : off = ![hlo fi c, cs fi]) {inb : ∀ a, off a + (![1024, w] : Fin 2 → ℕ) a ≤ S2048x1024.size a}
    {hl : (Memref.whole cc0_scratch0).view.LoadsAt (Rect.unit (s := S2048x1024) off ![1024, w] inb).toLoadRect}
    {Q : α → sProp 𝕄} {k : ((⟨2, ![1024, w]⟩ : Shape).Idx → Elt F .bf16) → Prog (TpuEff nD τ sig (Elt F) Λ₀ .tc) α} :
    st I c fi 19 ⊢ iprop((st I c fi 19 -∗ run c (k fun j => fin I fi c (hlo fi c + j 0) (j 1)) Q)
      -∗ run c (.op (.load (Memref.whole cc0_scratch0) (Rect.unit (s := S2048x1024) off ![1024, w] inb).toLoadRect hl) k) Q) := by
  subst hw
  simp only [st]
  iintro ⟨HA, Hr⟩ Hk
  iapply (wp_ldR c fi _ 1024 _ 1024 fullShare.right (fin I fi c) ⟨le_rfl, le_rfl⟩ ho) $$ HA; iintro HA
  iapply Hk
  iframe HA Hr
theorem s_ldG (c : Dev nD) (fi : Fin 3) {w : ℕ} (hw : cw fi = w) {off : Fin 2 → ℕ} (ho : off = ![alo fi c, cs fi]) {inb : ∀ a, off a + (![1024, w] : Fin 2 → ℕ) a ≤ S2048x1024.size a}
    {hl : (Memref.whole cc0_scratch0).view.LoadsAt (Rect.unit (s := S2048x1024) off ![1024, w] inb).toLoadRect}
    {Q : α → sProp 𝕄} {k : ((⟨2, ![1024, w]⟩ : Shape).Idx → Elt F .bf16) → Prog (TpuEff nD τ sig (Elt F) Λ₀ .tc) α} :
    st I c fi 21 ⊢ iprop((st I c fi 21 -∗ run c (k fun j => fin I fi c (alo fi c + j 0) (j 1)) Q)
      -∗ run c (.op (.load (Memref.whole cc0_scratch0) (Rect.unit (s := S2048x1024) off ![1024, w] inb).toLoadRect hl) k) Q) := by
  subst hw
  simp only [st]
  iintro ⟨HA, Hr⟩ Hk
  iapply (wp_ldR c fi _ 1024 _ 1024 fullShare (fin I fi c) ⟨le_rfl, le_rfl⟩ ho) $$ HA; iintro HA
  iapply Hk
  iframe HA Hr

variable (I) in
/-- The result's staging buffer, with the pieces of a list (a flow and a first row) written. -/
def outS (c : Dev nD) (l : List (Fin 3 × ℕ)) : sProp 𝕄 :=
  iprop(∃ f, ⌜∀ i : S2048x1024.Idx, (∃ x ∈ l, i ∈ box S2048x1024 ![x.2, cs x.1] ![1024, cw x.1]) → f i = OUT I c i⌝ ∗ bw cc0_stg3_0 c f)

theorem wp_ldO (c : Dev nD) (l : List (Fin 3 × ℕ)) (fi : Fin 3) {off : Fin 2 → ℕ} {inb : ∀ a, off a + (![1024, cw fi] : Fin 2 → ℕ) a ≤ S2048x1024.size a}
    {hl : (Memref.whole cc0_stg3_0).view.LoadsAt (Rect.unit (s := S2048x1024) off ![1024, cw fi] inb).toLoadRect}
    {Q : α → sProp 𝕄} {k : ((⟨2, ![1024, cw fi]⟩ : Shape).Idx → Elt F .f32) → Prog (TpuEff nD τ sig (Elt F) Λ₀ .tc) α} :
    outS I c l ⊢ iprop((∀ v, outS I c l -∗ run c (k v) Q)
      -∗ run c (.op (.load (Memref.whole cc0_stg3_0) (Rect.unit (s := S2048x1024) off ![1024, cw fi] inb).toLoadRect hl) k) Q) := by
  unfold outS
  iintro ⟨%f, %hf, HO⟩ Hk
  iapply (wp_ldB 3 rfl c _ _ inb f) $$ HO; iintro HO
  iapply Hk
  iexists f
  isplitr; · ipureintro; exact hf
  iexact HO

theorem flow_cs (fi : Fin 3) (j : ℕ) (h : j < cw fi) : flow (cs fi + j) = fi := by
  match fi with
  | 0 => exact if_pos (show 0 + j < 384 by have : j < 384 := h; omega)
  | 1 =>
    have : j < 384 := h
    show (if 384 + j < 384 then (0 : Fin 3) else if 384 + j < 768 then 1 else 2) = 1
    rw [if_neg (by omega), if_pos (by omega)]
  | 2 =>
    have : j < 256 := h
    show (if 768 + j < 384 then (0 : Fin 3) else if 768 + j < 768 then 1 else 2) = 2
    rw [if_neg (by omega), if_neg (by omega)]

theorem wp_stO (c : Dev nD) (l : List (Fin 3 × ℕ)) (fi : Fin 3) (lo : ℕ) {off : Fin 2 → ℕ} (ho : off = ![lo, cs fi])
    {inb : ∀ a, off a + (![1024, cw fi] : Fin 2 → ℕ) a ≤ S2048x1024.size a}
    {w : (⟨2, ![1024, cw fi]⟩ : Shape).Idx → Elt F .f32} (hw : ∀ j, w j = FloatOps.extf .f32 bitsLt_bf16_f32 (fin I fi c (lo + j 0) (j 1)))
    {hx : ((Memref.whole cc0_stg3_0).access (Rect.unit (s := S2048x1024) off ![1024, cw fi] inb)).Stores Finset.univ}
    {hm : (Finset.univ : Finset (Rect.unit (s := S2048x1024) off ![1024, cw fi] inb).shape.Idx) = Finset.univ ∨ ∀ a, (Rect.unit (s := S2048x1024) off ![1024, cw fi] inb).stride a = 1}
    {Q : α → sProp 𝕄} {k : PUnit → Prog (TpuEff nD τ sig (Elt F) Λ₀ .tc) α} :
    outS I c l ⊢ iprop((outS I c ((fi, lo) :: l) -∗ run c (k ⟨⟩) Q)
      -∗ run c (.op (.store (Memref.whole cc0_stg3_0) (Rect.unit (s := S2048x1024) off ![1024, cw fi] inb) w Finset.univ hx hm) k) Q) := by
  subst ho
  unfold outS
  iintro ⟨%f, %hf, HO⟩ Hk
  have h : bw cc0_stg3_0 c f ⊢ iprop((bw cc0_stg3_0 c (((Memref.whole cc0_stg3_0).access (Rect.unit (s := S2048x1024) ![lo, cs fi] ![1024, cw fi] inb)).write (Elt F) f w Finset.univ) -∗ run c (k ⟨⟩) Q)
      -∗ run c (.op (.store (Memref.whole cc0_stg3_0) (Rect.unit (s := S2048x1024) ![lo, cs fi] ![1024, cw fi] inb) w Finset.univ hx hm) k) Q) := wp_store (defs := defs₀ (F := F)) 𝒱₀ (c : Thread nD τ) none Set.univ (m := Memref.whole cc0_stg3_0)
    (r := Rect.unit (s := S2048x1024) ![lo, cs fi] ![1024, cw fi] inb) (w := w)
    (Mk := Finset.univ) (hx := hx) (hm := hm) (S := Finset.univ) (f := f) (Q := Q) (k := k) (Γ := .empty) (Finset.subset_univ _)
  iapply h $$ [HO]
  · iexact HO
  iintro HO
  iapply Hk
  iexists (((Memref.whole cc0_stg3_0).access (Rect.unit (s := S2048x1024) ![lo, cs fi] ![1024, cw fi] inb)).write (Elt F) f w Finset.univ)
  isplitr
  · ipureintro
    intro i hi
    by_cases hm : i ∈ ((Memref.whole cc0_stg3_0).access (Rect.unit (s := S2048x1024) ![lo, cs fi] ![1024, cw fi] inb)).setOn Finset.univ
    · obtain ⟨j, -, rfl⟩ := Finset.mem_map.mp hm
      refine (View.write_emb_of_mem (v := (Memref.whole cc0_stg3_0).access (Rect.unit (s := S2048x1024) ![lo, cs fi] ![1024, cw fi] inb)) f w (Finset.mem_univ j)).trans ?_
      rw [hw]
      have hj : (j 1 : ℕ) < cw fi := (j 1).isLt
      show _ = FloatOps.extf .f32 bitsLt_bf16_f32 (fin I (flow (cs fi + 1 * (j 1 : ℕ))) c (lo + 1 * (j 0 : ℕ)) (cs fi + 1 * (j 1 : ℕ) - cs (flow (cs fi + 1 * (j 1 : ℕ)))))
      rw [Nat.one_mul, Nat.one_mul, flow_cs fi _ hj, Nat.add_sub_cancel_left]; rfl
    · refine (View.write_of_not_mem (v := (Memref.whole cc0_stg3_0).access (Rect.unit (s := S2048x1024) ![lo, cs fi] ![1024, cw fi] inb)) f w Finset.univ hm).trans (hf i ?_)
      obtain ⟨x, hx, hb⟩ := hi
      rcases List.mem_cons.mp hx with rfl | hx
      · exact absurd (by rw [View.setOn_univ, access_set]; exact hb) hm
      · exact ⟨x, hx, hb⟩
  iexact HO

end

end Cert.Cube

end
-- ==== Proof.Body.lean ====
/-
The device's program, part by part: each part takes the three flows from stage to stage.
-/
module

public import proofs.«01_k».proof.Proof.Local

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {I : Inp F} {K : Dev nD × CK → ℕ}

/-- What the sums store: the sum, entry by entry. -/
theorem sum_384 {h : (⟨2, ![512, 384]⟩ : Shape).ShapeCasts ⟨2, ![512, 384]⟩} (v v' : (⟨2, ![512, 384]⟩ : Shape).Idx → Elt F .bf16) (j : (⟨2, ![512, 384]⟩ : Shape).Idx) :
    shapeCast ⟨2, ![512, 384]⟩ (addf (F := F) (φ := .bf16) v v') h j = FloatOps.addf (F := F) (φ := .bf16) (v j) (v' j) := by
  show FloatOps.addf (v (Shape.reshapeEquiv h j)) (v' (Shape.reshapeEquiv h j)) = _
  rw [Shape.reshapeEquiv_self]
theorem sum_256 {h : (⟨2, ![512, 256]⟩ : Shape).ShapeCasts ⟨2, ![512, 256]⟩} (v v' : (⟨2, ![512, 256]⟩ : Shape).Idx → Elt F .bf16) (j : (⟨2, ![512, 256]⟩ : Shape).Idx) :
    shapeCast ⟨2, ![512, 256]⟩ (addf (F := F) (φ := .bf16) v v') h j = FloatOps.addf (F := F) (φ := .bf16) (v j) (v' j) := by
  show FloatOps.addf (v (Shape.reshapeEquiv h j)) (v' (Shape.reshapeEquiv h j)) = _
  rw [Shape.reshapeEquiv_self]

/-- Flow 0's first product. -/
theorem part2 (c : Dev nD) {Q : _ → sProp 𝕄} :
    iprop(ins I c) ⊢ iprop((ins I c -∗ Q ⟨k0_pay6 (dnum c) (k0_pay2 (xblk I c (1 - side 0 c))) (k0_pay3 (rblk I c (1 - side 0 c))) k0_pay4 (k0_pay5 c (rblk I c (1 - side 0 c))) (wblk I c 0 0) (wblk I c 1 0) (wblk I c 2 0), Scalar.muli (dnum c) 4#32, 3#32⟩)
      -∗ run c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 (dnum c) (k0_pay2 (xblk I c (1 - side 0 c))) (k0_pay3 (rblk I c (1 - side 0 c))) k0_pay4 (k0_pay5 c (rblk I c (1 - side 0 c)))) Q) := by
  rw [k0_part2_eq_skeleton]; unfold k0_part2_skel
  simp only [Prog.lift, Prog.bind_op, Prog.bind_ret, Prog.pure_eq_ret]
  iintro Hi Hk
  iapply (wp_ldE c 0 0 rfl) $$ Hi; iintro Hi
  iapply (wp_ldE c 1 0 rfl) $$ Hi; iintro Hi
  iapply (wp_ldE c 2 0 rfl) $$ Hi; iintro Hi
  iapply run_ret; iapply Hk
  iframe Hi

/-- It is stored and sent. -/
theorem part3 (c : Dev nD) (v15 v17 : BitVec 32) {Q : _ → sProp 𝕄} :
    iprop(ctx I K ∗ ow c 3 ∗ ins I c ∗ st I c 0 0) ⊢ iprop((∀ r, ow c 4 ∗ ins I c ∗ st I c 0 2 -∗ Q r)
      -∗ run c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v15 v17 (k0_pay2 (xblk I c (1 - side 0 c))) (k0_pay3 (rblk I c (1 - side 0 c))) (k0_pay6 (dnum c) (k0_pay2 (xblk I c (1 - side 0 c))) (k0_pay3 (rblk I c (1 - side 0 c))) k0_pay4 (k0_pay5 c (rblk I c (1 - side 0 c))) (wblk I c 0 0) (wblk I c 1 0) (wblk I c 2 0)) (Scalar.muli (dnum c) 4#32) 3#32) Q) := by
  rw [k0_part3_eq_skeleton]; unfold k0_part3_skel
  simp only [Prog.lift, Prog.bind_op, Prog.bind_ret, Prog.pure_eq_ret]
  iintro ⟨#HC, Ho, Hi, H0⟩ Hk
  iapply (wp_ldE c 3 0 rfl) $$ Hi; iintro Hi
  iapply (s_ldA c 0 (off3_eq c)) $$ H0; iintro %_ H0
  iapply (s_putA c 0 (off3_eq c) (fun j => (congrFun (pay_a0 c _ _ _ _ _ _) j).trans (put_0 c (1 - side 0 c) j))) $$ H0; iintro H0
  iapply (s_snd0 c _ 0 (dev4_eq c) 3 rfl (src_red c 0 (alo 0 c) 1024 fullShare _ (off4_eq c) _ _) (dst_cm0 _ 0 _ _) rfl rfl rfl) $$ [Ho H0]
  · iframe HC Ho H0
  iintro ⟨Ho, H0⟩
  iapply run_ret; iapply Hk
  iframe Ho Hi H0

/-- Flow 1's first product. -/
theorem part4 (c : Dev nD) (v102 : BitVec 32) {Q : _ → sProp 𝕄} :
    iprop(ins I c) ⊢ iprop((ins I c -∗ Q ⟨k0_pay8 (xblk I c (1 - side 1 c)), k0_pay9 (rblk I c (1 - side 1 c)), k0_pay10 (dnum c) (xblk I c (1 - side 1 c)) (rblk I c (1 - side 1 c)) (wblk I c 0 384) (wblk I c 1 384), k0_pay11, k0_pay12 (dnum c) (rblk I c (1 - side 1 c))⟩)
      -∗ run c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v102) Q) := by
  rw [k0_part4_eq_skeleton]; unfold k0_part4_skel
  simp only [Prog.lift, Prog.bind_op, Prog.bind_ret, Prog.pure_eq_ret]
  iintro Hi Hk
  iapply (wp_ldX c (1 - side 1 c) (off5_1_eq c)) $$ Hi; iintro Hi
  iapply (wp_ldRt c (1 - side 1 c) (off6_1_eq c)) $$ Hi; iintro Hi
  iapply (wp_ldE c 0 384 rfl) $$ Hi; iintro Hi
  iapply (wp_ldE c 1 384 rfl) $$ Hi; iintro Hi
  iapply run_ret; iapply Hk
  iframe Hi

/-- It is stored. -/
theorem part5 (c : Dev nD) (v100 v102 : BitVec 32) {Q : _ → sProp 𝕄} :
    iprop(ins I c ∗ st I c 1 0) ⊢ iprop((∀ r, ins I c ∗ st I c 1 1 -∗ Q r)
      -∗ run c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v100 v102 (k0_pay8 (xblk I c (1 - side 1 c))) (k0_pay9 (rblk I c (1 - side 1 c))) (k0_pay10 (dnum c) (xblk I c (1 - side 1 c)) (rblk I c (1 - side 1 c)) (wblk I c 0 384) (wblk I c 1 384)) k0_pay11 (k0_pay12 (dnum c) (rblk I c (1 - side 1 c)))) Q) := by
  rw [k0_part5_eq_skeleton]; unfold k0_part5_skel
  simp only [Prog.lift, Prog.bind_op, Prog.bind_ret, Prog.pure_eq_ret]
  iintro ⟨Hi, H1⟩ Hk
  iapply (wp_ldE c 2 384 rfl) $$ Hi; iintro Hi
  iapply (wp_ldE c 3 384 rfl) $$ Hi; iintro Hi
  iapply (s_ldA c 1 (off7_eq c)) $$ H1; iintro %_ H1
  iapply (s_putA c 1 (off7_eq c) (fun j => (congrFun (pay_a1 _ _ _ _ _ _ _) j).trans (put_1 c (1 - side 1 c) j))) $$ H1; iintro H1
  iapply run_ret; iapply Hk
  iframe Hi H1

/-- It is sent; flow 2's first product. -/
theorem part6 (c : Dev nD) (v100 : BitVec 32) {Q : _ → sProp 𝕄} :
    iprop(ctx I K ∗ ow c 4 ∗ ins I c ∗ st I c 1 1) ⊢ iprop((∀ v183 v185 v187, ow c 5 ∗ ins I c ∗ st I c 1 2 -∗ Q ⟨v183, v185, v187, k0_pay14 (xblk I c (1 - side 2 c)), k0_pay15 (rblk I c (1 - side 2 c)), k0_pay16 (dnum c) (xblk I c (1 - side 2 c)) (rblk I c (1 - side 2 c)) (wblk' I c 0 768), k0_pay17 (dnum c) (xblk I c (1 - side 2 c)) (rblk I c (1 - side 2 c))⟩)
      -∗ run c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v100) Q) := by
  rw [k0_part6_eq_skeleton]; unfold k0_part6_skel
  simp only [Prog.lift, Prog.bind_op, Prog.bind_ret, Prog.pure_eq_ret]
  iintro ⟨#HC, Ho, Hi, H1⟩ Hk
  iapply (s_snd0 c _ 1 (dev5_eq c) 4 rfl (src_red c 1 (alo 1 c) 1024 fullShare _ (off8_eq c) _ _) (dst_cm1 _ 0 _ _) rfl rfl rfl) $$ [Ho H1]
  · iframe HC Ho H1
  iintro ⟨Ho, H1⟩
  iapply (wp_ldX c (1 - side 2 c) (off5_2_eq c)) $$ Hi; iintro Hi
  iapply (wp_ldRt c (1 - side 2 c) (off6_2_eq c)) $$ Hi; iintro Hi
  iapply (wp_ldE' c 0 768 rfl) $$ Hi; iintro Hi
  iapply run_ret; iapply Hk
  iframe Ho Hi H1

/-- It is stored. -/
theorem part7 (c : Dev nD) (v185 v187 : BitVec 32) {Q : _ → sProp 𝕄} :
    iprop(ins I c ∗ st I c 2 0) ⊢ iprop((∀ r, ins I c ∗ st I c 2 1 -∗ Q r)
      -∗ run c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v185 v187 (k0_pay14 (xblk I c (1 - side 2 c))) (k0_pay15 (rblk I c (1 - side 2 c))) (k0_pay16 (dnum c) (xblk I c (1 - side 2 c)) (rblk I c (1 - side 2 c)) (wblk' I c 0 768)) (k0_pay17 (dnum c) (xblk I c (1 - side 2 c)) (rblk I c (1 - side 2 c)))) Q) := by
  rw [k0_part7_eq_skeleton]; unfold k0_part7_skel
  simp only [Prog.lift, Prog.bind_op, Prog.bind_ret, Prog.pure_eq_ret]
  iintro ⟨Hi, H2⟩ Hk
  iapply (wp_ldE' c 1 768 rfl) $$ Hi; iintro Hi
  iapply (wp_ldE' c 2 768 rfl) $$ Hi; iintro Hi
  iapply (wp_ldE' c 3 768 rfl) $$ Hi; iintro Hi
  iapply (s_ldA c 2 (off9_eq c)) $$ H2; iintro %_ H2
  iapply (s_putA c 2 (off9_eq c) (fun j => (congrFun (pay_a2 _ _ _ _ _ _ _) j).trans (put_2 c (1 - side 2 c) j))) $$ H2; iintro H2
  iapply run_ret; iapply Hk
  iframe Hi H2

/-- It is sent; flow 0's second product. -/
theorem part8 (c : Dev nD) (v98 v185 c4 : BitVec 32) {Q : _ → sProp 𝕄} :
    iprop(ctx I K ∗ ow c 5 ∗ ins I c ∗ st I c 2 1) ⊢ iprop((∀ v259 v268, ow c 6 ∗ ins I c ∗ st I c 2 2 -∗ Q ⟨v259, v268, k0_pay19 (xblk I c (side 0 c)), k0_pay20 (rblk I c (side 0 c)), k0_pay21 (dnum c) (xblk I c (side 0 c)) (rblk I c (side 0 c)) (wblk I c 0 0), k0_pay22 (dnum c) (rblk I c (side 0 c)), k0_pay23⟩)
      -∗ run c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v98 v185 c4) Q) := by
  rw [k0_part8_eq_skeleton]; unfold k0_part8_skel
  simp only [Prog.lift, Prog.bind_op, Prog.bind_ret, Prog.pure_eq_ret]
  iintro ⟨#HC, Ho, Hi, H2⟩ Hk
  iapply (s_snd0 c _ 2 (dev6_eq c) 5 rfl (src_red c 2 (alo 2 c) 1024 fullShare _ (off10_eq c) _ _) (dst_cm2 _ 0 _ _) rfl rfl rfl) $$ [Ho H2]
  · iframe HC Ho H2
  iintro ⟨Ho, H2⟩
  iapply (wp_ldX c (side 0 c) (off11_eq c)) $$ Hi; iintro Hi
  iapply (wp_ldRt c (side 0 c) (off12_eq c)) $$ Hi; iintro Hi
  iapply (wp_ldE c 0 0 rfl) $$ Hi; iintro Hi
  iapply run_ret; iapply Hk
  iframe Ho Hi H2

/-- The rest of it. -/
theorem part9 (c : Dev nD) (v98 : BitVec 32) {Q : _ → sProp 𝕄} :
    iprop(ins I c ∗ st I c 0 2) ⊢ iprop((ins I c ∗ st I c 0 2 -∗ Q (k0_pay24 (dnum c) (k0_pay19 (xblk I c (side 0 c))) (k0_pay20 (rblk I c (side 0 c))) (k0_pay21 (dnum c) (xblk I c (side 0 c)) (rblk I c (side 0 c)) (wblk I c 0 0)) (k0_pay22 (dnum c) (rblk I c (side 0 c))) k0_pay23 (wblk I c 1 0) (wblk I c 2 0) (wblk I c 3 0)))
      -∗ run c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v98 (k0_pay19 (xblk I c (side 0 c))) (k0_pay20 (rblk I c (side 0 c))) (k0_pay21 (dnum c) (xblk I c (side 0 c)) (rblk I c (side 0 c)) (wblk I c 0 0)) (k0_pay22 (dnum c) (rblk I c (side 0 c))) k0_pay23) Q) := by
  rw [k0_part9_eq_skeleton]; unfold k0_part9_skel
  simp only [Prog.lift, Prog.bind_op, Prog.bind_ret, Prog.pure_eq_ret]
  iintro ⟨Hi, H0⟩ Hk
  iapply (wp_ldE c 1 0 rfl) $$ Hi; iintro Hi
  iapply (wp_ldE c 2 0 rfl) $$ Hi; iintro Hi
  iapply (wp_ldE c 3 0 rfl) $$ Hi; iintro Hi
  iapply (s_ldH c 0 (off13_eq c)) $$ H0; iintro %_ H0
  iapply run_ret; iapply Hk
  iframe Hi H0

/-- It is stored; flow 1's second product. -/
theorem part10 (c : Dev nD) (v183 : BitVec 32) {Q : _ → sProp 𝕄} :
    iprop(ins I c ∗ st I c 0 2) ⊢ iprop((ins I c ∗ st I c 0 3 -∗ Q ⟨k0_pay26 (xblk I c (side 1 c)), k0_pay27 (rblk I c (side 1 c)), k0_pay28 (dnum c) (xblk I c (side 1 c)) (rblk I c (side 1 c)) (wblk I c 0 384) (wblk I c 1 384), k0_pay29 (dnum c)⟩)
      -∗ run c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v183 (k0_pay24 (dnum c) (k0_pay19 (xblk I c (side 0 c))) (k0_pay20 (rblk I c (side 0 c))) (k0_pay21 (dnum c) (xblk I c (side 0 c)) (rblk I c (side 0 c)) (wblk I c 0 0)) (k0_pay22 (dnum c) (rblk I c (side 0 c))) k0_pay23 (wblk I c 1 0) (wblk I c 2 0) (wblk I c 3 0))) Q) := by
  rw [k0_part10_eq_skeleton]; unfold k0_part10_skel
  simp only [Prog.lift, Prog.bind_op, Prog.bind_ret, Prog.pure_eq_ret]
  iintro ⟨Hi, H0⟩ Hk
  iapply (s_putH c 0 (off13_eq c) (fun j => (congrFun (pay_h0 _ _ _ _ _ _ _) j).trans (put_0 c (side 0 c) j))) $$ H0; iintro H0
  iapply (wp_ldX c (side 1 c) (off14_1_eq c)) $$ Hi; iintro Hi
  iapply (wp_ldRt c (side 1 c) (off15_1_eq c)) $$ Hi; iintro Hi
  iapply (wp_ldE c 0 384 rfl) $$ Hi; iintro Hi
  iapply (wp_ldE c 1 384 rfl) $$ Hi; iintro Hi
  iapply run_ret; iapply Hk
  iframe Hi H0

/-- It is stored; flow 2's second product. -/
theorem part11 (c : Dev nD) (v183 v268 : BitVec 32) {Q : _ → sProp 𝕄} :
    iprop(ins I c ∗ st I c 1 2) ⊢ iprop((ins I c ∗ st I c 1 3 -∗ Q ⟨k0_pay31 (xblk I c (side 2 c)), k0_pay32 (rblk I c (side 2 c)), k0_pay33, k0_pay34 (dnum c)⟩)
      -∗ run c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v183 v268 (k0_pay26 (xblk I c (side 1 c))) (k0_pay27 (rblk I c (side 1 c))) (k0_pay28 (dnum c) (xblk I c (side 1 c)) (rblk I c (side 1 c)) (wblk I c 0 384) (wblk I c 1 384)) (k0_pay29 (dnum c))) Q) := by
  rw [k0_part11_eq_skeleton]; unfold k0_part11_skel
  simp only [Prog.lift, Prog.bind_op, Prog.bind_ret, Prog.pure_eq_ret]
  iintro ⟨Hi, H1⟩ Hk
  iapply (wp_ldE c 2 384 rfl) $$ Hi; iintro Hi
  iapply (wp_ldE c 3 384 rfl) $$ Hi; iintro Hi
  iapply (s_ldH c 1 (off16_eq c)) $$ H1; iintro %_ H1
  iapply (s_putH c 1 (off16_eq c) (fun j => (congrFun (pay_h1 _ _ _ _ _ _ _) j).trans (put_1 c (side 1 c) j))) $$ H1; iintro H1
  iapply (wp_ldX c (side 2 c) (off14_2_eq c)) $$ Hi; iintro Hi
  iapply (wp_ldRt c (side 2 c) (off15_2_eq c)) $$ Hi; iintro Hi
  iapply run_ret; iapply Hk
  iframe Hi H1

/-- The rest of it. -/
theorem part12 (c : Dev nD) {Q : _ → sProp 𝕄} :
    iprop(ins I c) ⊢ iprop((ins I c -∗ Q ⟨k0_pay35 (dnum c) (k0_pay31 (xblk I c (side 2 c))) (k0_pay32 (rblk I c (side 2 c))) k0_pay33 (k0_pay34 (dnum c)) (wblk' I c 0 768) (wblk' I c 1 768) (wblk' I c 2 768), Scalar.muli (dnum c) 4#32⟩)
      -∗ run c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 (dnum c) (k0_pay31 (xblk I c (side 2 c))) (k0_pay32 (rblk I c (side 2 c))) k0_pay33 (k0_pay34 (dnum c))) Q) := by
  rw [k0_part12_eq_skeleton]; unfold k0_part12_skel
  simp only [Prog.lift, Prog.bind_op, Prog.bind_ret, Prog.pure_eq_ret]
  iintro Hi Hk
  iapply (wp_ldE' c 0 768 rfl) $$ Hi; iintro Hi
  iapply (wp_ldE' c 1 768 rfl) $$ Hi; iintro Hi
  iapply (wp_ldE' c 2 768 rfl) $$ Hi; iintro Hi
  iapply run_ret; iapply Hk
  iframe Hi

/-- It is stored; the waits of flow 0's first transfers. -/
theorem part13 (c : Dev nD) (v89 v268 : BitVec 32) {Q : _ → sProp 𝕄} :
    iprop(ctx I K ∗ ow c 6 ∗ ins I c ∗ st I c 0 3 ∗ st I c 2 2) ⊢ iprop((∀ r, ow c 6 ∗ ins I c ∗ st I c 0 5 ∗ st I c 2 3 -∗ Q r)
      -∗ run c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v89 v268 (k0_pay31 (xblk I c (side 2 c))) (k0_pay32 (rblk I c (side 2 c))) (k0_pay35 (dnum c) (k0_pay31 (xblk I c (side 2 c))) (k0_pay32 (rblk I c (side 2 c))) k0_pay33 (k0_pay34 (dnum c)) (wblk' I c 0 768) (wblk' I c 1 768) (wblk' I c 2 768)) (Scalar.muli (dnum c) 4#32)) Q) := by
  rw [k0_part13_eq_skeleton]; unfold k0_part13_skel
  simp only [Prog.lift, Prog.bind_op, Prog.bind_ret, Prog.pure_eq_ret]
  iintro ⟨#HC, Ho, Hi, H0, H2⟩ Hk
  iapply (wp_ldE' c 3 768 rfl) $$ Hi; iintro Hi
  iapply (s_ldH c 2 (off17_eq c)) $$ H2; iintro %_ H2
  iapply (s_putH c 2 (off17_eq c) (fun j => (congrFun (pay_h2 _ _ _ _ _ _ _) j).trans (put_2 c (side 2 c) j))) $$ H2; iintro H2
  iapply (s_ws0 c 0 6 rfl rfl rfl) $$ [Ho H0]
  · iframe HC Ho H0
  iintro ⟨Ho, H0⟩
  iapply (s_wr0 c 0 6 rfl rfl rfl) $$ [Ho H0]
  · iframe HC Ho H0
  iintro ⟨Ho, H0⟩
  iapply run_ret; iapply Hk
  iframe Ho Hi H0 H2

/-- Flow 0: the first sums, and the second transfer. -/
theorem part14 (c : Dev nD) (v98 v487 v488 c512 : BitVec 32) {Q : _ → sProp 𝕄} :
    iprop(ctx I K ∗ ow c 6 ∗ st I c 0 5) ⊢ iprop((∀ r, ow c 7 ∗ st I c 0 8 -∗ Q r)
      -∗ run c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v98 v487 v488 c512) Q) := by
  rw [k0_part14_eq_skeleton]; unfold k0_part14_skel
  simp only [Prog.lift, Prog.bind_op, Prog.bind_ret, Prog.pure_eq_ret]
  iintro ⟨#HC, Ho, H0⟩ Hk
  iapply (s_add0 c 0 (wp_addC0 c 0 (slo 0 c) (slo 0 c - hlo 0 c) _ _ _ (sub_0 c 0) (off18_eq c) (off19_eq c) (sum_384 (h := shapeCasts_S512x384_S512x384)) (add_0 c 0))) $$ H0; iintro H0
  iapply (s_snd1 c _ 0 (dev7_eq c) 6 rfl (src_red c 0 (slo 0 c) 512 fullShare _ (off20_eq c) _ _) (dst_cm0 _ 1 _ _) rfl rfl rfl) $$ [Ho H0]
  · iframe HC Ho H0
  iintro ⟨Ho, H0⟩
  iapply (s_add1 c 0 (wp_addC0 c 0 (klo 0 c) (klo 0 c - hlo 0 c) _ _ _ (sub_1 c 0) (off21_eq c) (off22_eq c) (sum_384 (h := shapeCasts_S512x384_S512x384)) (add_1 c 0))) $$ H0; iintro H0
  iapply run_ret; iapply Hk
  iframe Ho H0

/-- Flow 1: the waits of the first transfers, a first sum. -/
theorem part15 (c : Dev nD) (v174 v183 : BitVec 32) {Q : _ → sProp 𝕄} :
    iprop(ctx I K ∗ ow c 7 ∗ st I c 1 3) ⊢ iprop((∀ r, ow c 7 ∗ st I c 1 6 -∗ Q r)
      -∗ run c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v174 v183) Q) := by
  rw [k0_part15_eq_skeleton]; unfold k0_part15_skel
  simp only [Prog.lift, Prog.bind_op, Prog.bind_ret, Prog.pure_eq_ret]
  iintro ⟨#HC, Ho, H1⟩ Hk
  iapply (s_ws0 c 1 7 rfl rfl rfl) $$ [Ho H1]
  · iframe HC Ho H1
  iintro ⟨Ho, H1⟩
  iapply (s_wr0 c 1 7 rfl rfl rfl) $$ [Ho H1]
  · iframe HC Ho H1
  iintro ⟨Ho, H1⟩
  iapply (s_add0 c 1 (wp_addC1 c 0 (slo 1 c) (slo 1 c - hlo 1 c) _ _ _ (sub_0 c 1) (off23_eq c) (off24_eq c) (sum_384 (h := shapeCasts_S512x384_S512x384)) (add_0 c 1))) $$ H1; iintro H1
  iapply run_ret; iapply Hk
  iframe Ho H1

/-- Flow 1: the second transfer, the other first sum. Flow 2: the waits of the first transfers. -/
theorem part16 (c : Dev nD) (v183 v259 v540 : BitVec 32) {Q : _ → sProp 𝕄} :
    iprop(ctx I K ∗ ow c 7 ∗ st I c 1 6 ∗ st I c 2 3) ⊢ iprop((∀ r, ow c 8 ∗ st I c 1 8 ∗ st I c 2 5 -∗ Q r)
      -∗ run c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v183 v259 v540) Q) := by
  rw [k0_part16_eq_skeleton]; unfold k0_part16_skel
  simp only [Prog.lift, Prog.bind_op, Prog.bind_ret, Prog.pure_eq_ret]
  iintro ⟨#HC, Ho, H1, H2⟩ Hk
  iapply (s_snd1 c _ 1 (dev8_eq c) 7 rfl (src_red c 1 (slo 1 c) 512 fullShare _ (off25_eq c) _ _) (dst_cm1 _ 1 _ _) rfl rfl rfl) $$ [Ho H1]
  · iframe HC Ho H1
  iintro ⟨Ho, H1⟩
  iapply (s_add1 c 1 (wp_addC1 c 0 (klo 1 c) (klo 1 c - hlo 1 c) _ _ _ (sub_1 c 1) (off26_eq c) (off27_eq c) (sum_384 (h := shapeCasts_S512x384_S512x384)) (add_1 c 1))) $$ H1; iintro H1
  iapply (s_ws0 c 2 8 rfl rfl rfl) $$ [Ho H2]
  · iframe HC Ho H2
  iintro ⟨Ho, H2⟩
  iapply (s_wr0 c 2 8 rfl rfl rfl) $$ [Ho H2]
  · iframe HC Ho H2
  iintro ⟨Ho, H2⟩
  iapply run_ret; iapply Hk
  iframe Ho H1 H2

/-- Flow 2: the first sums, and the second transfer. -/
theorem part17 (c : Dev nD) (v268 v584 v585 : BitVec 32) {Q : _ → sProp 𝕄} :
    iprop(ctx I K ∗ ow c 8 ∗ st I c 2 5) ⊢ iprop((∀ r, ow c 9 ∗ st I c 2 8 -∗ Q r)
      -∗ run c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v268 v584 v585) Q) := by
  rw [k0_part17_eq_skeleton]; unfold k0_part17_skel
  simp only [Prog.lift, Prog.bind_op, Prog.bind_ret, Prog.pure_eq_ret]
  iintro ⟨#HC, Ho, H2⟩ Hk
  iapply (s_add0 c 2 (wp_addC2 c 0 (slo 2 c) (slo 2 c - hlo 2 c) _ _ _ (sub_0 c 2) (off28_eq c) (off29_eq c) (sum_256 (h := shapeCasts_S512x256_S512x256)) (add_0 c 2))) $$ H2; iintro H2
  iapply (s_snd1 c _ 2 (dev9_eq c) 8 rfl (src_red c 2 (slo 2 c) 512 fullShare _ (off30_eq c) _ _) (dst_cm2 _ 1 _ _) rfl rfl rfl) $$ [Ho H2]
  · iframe HC Ho H2
  iintro ⟨Ho, H2⟩
  iapply (s_add1 c 2 (wp_addC2 c 0 (klo 2 c) (klo 2 c - hlo 2 c) _ _ _ (sub_1 c 2) (off31_eq c) (off32_eq c) (sum_256 (h := shapeCasts_S512x256_S512x256)) (add_1 c 2))) $$ H2; iintro H2
  iapply run_ret; iapply Hk
  iframe Ho H2

/-- Flow 0: the waits of the second transfers, the second sum, and the third transfer. -/
theorem part18 (c : Dev nD) (v492 v504 : BitVec 32) {Q : _ → sProp 𝕄} :
    iprop(ctx I K ∗ ow c 9 ∗ st I c 0 8) ⊢ iprop((∀ r, ow c 10 ∗ st I c 0 12 -∗ Q r)
      -∗ run c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v492 v504) Q) := by
  rw [k0_part18_eq_skeleton]; unfold k0_part18_skel
  simp only [Prog.lift, Prog.bind_op, Prog.bind_ret, Prog.pure_eq_ret]
  iintro ⟨#HC, Ho, H0⟩ Hk
  iapply (s_ws1 c 0 9 rfl rfl rfl) $$ [Ho H0]
  · iframe HC Ho H0
  iintro ⟨Ho, H0⟩
  iapply (s_wr1 c 0 9 rfl rfl rfl) $$ [Ho H0]
  · iframe HC Ho H0
  iintro ⟨Ho, H0⟩
  iapply (s_add2 c 0 (wp_addC0 c 1 (klo 0 c) 1024 _ _ _ ⟨by decide, by decide⟩ (off21_eq c) rfl (sum_384 (h := shapeCasts_S512x384_S512x384)) (add_2 c 0))) $$ H0; iintro H0
  iapply (s_snd2 c _ 0 (dev10_eq c) 9 rfl (src_red c 0 (klo 0 c) 512 fullShare _ (off33_eq c) _ _) (dst_cm0 _ 2 _ _) rfl rfl rfl) $$ [Ho H0]
  · iframe HC Ho H0
  iintro ⟨Ho, H0⟩
  iapply run_ret; iapply Hk
  iframe Ho H0

/-- Flow 1: the waits of the second transfers, the second sum, and the third transfer. -/
theorem part19 (c : Dev nD) (v540 v552 : BitVec 32) {Q : _ → sProp 𝕄} :
    iprop(ctx I K ∗ ow c 10 ∗ st I c 1 8) ⊢ iprop((∀ r, ow c 11 ∗ st I c 1 12 -∗ Q r)
      -∗ run c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v540 v552) Q) := by
  rw [k0_part19_eq_skeleton]; unfold k0_part19_skel
  simp only [Prog.lift, Prog.bind_op, Prog.bind_ret, Prog.pure_eq_ret]
  iintro ⟨#HC, Ho, H1⟩ Hk
  iapply (s_ws1 c 1 10 rfl rfl rfl) $$ [Ho H1]
  · iframe HC Ho H1
  iintro ⟨Ho, H1⟩
  iapply (s_wr1 c 1 10 rfl rfl rfl) $$ [Ho H1]
  · iframe HC Ho H1
  iintro ⟨Ho, H1⟩
  iapply (s_add2 c 1 (wp_addC1 c 1 (klo 1 c) 1024 _ _ _ ⟨by decide, by decide⟩ (off26_eq c) rfl (sum_384 (h := shapeCasts_S512x384_S512x384)) (add_2 c 1))) $$ H1; iintro H1
  iapply (s_snd2 c _ 1 (dev11_eq c) 10 rfl (src_red c 1 (klo 1 c) 512 fullShare _ (off34_eq c) _ _) (dst_cm1 _ 2 _ _) rfl rfl rfl) $$ [Ho H1]
  · iframe HC Ho H1
  iintro ⟨Ho, H1⟩
  iapply run_ret; iapply Hk
  iframe Ho H1

/-- Flow 2: the waits of the second transfers, the second sum, and the third transfer. -/
theorem part20 (c : Dev nD) (v589 v601 : BitVec 32) {Q : _ → sProp 𝕄} :
    iprop(ctx I K ∗ ow c 11 ∗ st I c 2 8) ⊢ iprop((∀ r, ow c 12 ∗ st I c 2 12 -∗ Q r)
      -∗ run c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v589 v601) Q) := by
  rw [k0_part20_eq_skeleton]; unfold k0_part20_skel
  simp only [Prog.lift, Prog.bind_op, Prog.bind_ret, Prog.pure_eq_ret]
  iintro ⟨#HC, Ho, H2⟩ Hk
  iapply (s_ws1 c 2 11 rfl rfl rfl) $$ [Ho H2]
  · iframe HC Ho H2
  iintro ⟨Ho, H2⟩
  iapply (s_wr1 c 2 11 rfl rfl rfl) $$ [Ho H2]
  · iframe HC Ho H2
  iintro ⟨Ho, H2⟩
  iapply (s_add2 c 2 (wp_addC2 c 1 (klo 2 c) 1024 _ _ _ ⟨by decide, by decide⟩ (off31_eq c) rfl (sum_256 (h := shapeCasts_S512x256_S512x256)) (add_2 c 2))) $$ H2; iintro H2
  iapply (s_snd2 c _ 2 (dev12_eq c) 11 rfl (src_red c 2 (klo 2 c) 512 fullShare _ (off35_eq c) _ _) (dst_cm2 _ 2 _ _) rfl rfl rfl) $$ [Ho H2]
  · iframe HC Ho H2
  iintro ⟨Ho, H2⟩
  iapply run_ret; iapply Hk
  iframe Ho H2

/-- Flow 0: the waits of the third transfers, the last sum, and the transfer of the quarter summed. -/
theorem part21 (c : Dev nD) (v492 v639 : BitVec 32) {Q : _ → sProp 𝕄} :
    iprop(ctx I K ∗ ow c 12 ∗ st I c 0 12) ⊢ iprop((∀ r, ow c 13 ∗ st I c 0 16 -∗ Q r)
      -∗ run c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v492 v639) Q) := by
  rw [k0_part21_eq_skeleton]; unfold k0_part21_skel
  simp only [Prog.lift, Prog.bind_op, Prog.bind_ret, Prog.pure_eq_ret]
  iintro ⟨#HC, Ho, H0⟩ Hk
  iapply (s_ws2 c 0 12 rfl rfl rfl) $$ [Ho H0]
  · iframe HC Ho H0
  iintro ⟨Ho, H0⟩
  iapply (s_wr2 c 0 12 rfl rfl rfl) $$ [Ho H0]
  · iframe HC Ho H0
  iintro ⟨Ho, H0⟩
  iapply (s_add3 c 0 (wp_addC0 c 2 (klo 0 c) 1536 _ _ _ ⟨by decide, by decide⟩ (off21_eq c) rfl (sum_384 (h := shapeCasts_S512x384_S512x384)) (add_3 c 0))) $$ H0; iintro H0
  iapply (s_snd3 c _ 0 (dev13_eq c) 12 rfl (src_red c 0 (klo 0 c) 512 fullShare _ (off33_eq c) _ _) (dst_red _ 0 (klo 0 c) 512 (off33_eq c) _ _) rfl rfl rfl) $$ [Ho H0]
  · iframe HC Ho H0
  iintro ⟨Ho, H0⟩
  iapply run_ret; iapply Hk
  iframe Ho H0

/-- Flow 1: the waits of the third transfers, the last sum, and the transfer of the quarter summed. -/
theorem part22 (c : Dev nD) (v540 v666 : BitVec 32) {Q : _ → sProp 𝕄} :
    iprop(ctx I K ∗ ow c 13 ∗ st I c 1 12) ⊢ iprop((∀ r, ow c 14 ∗ st I c 1 16 -∗ Q r)
      -∗ run c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v540 v666) Q) := by
  rw [k0_part22_eq_skeleton]; unfold k0_part22_skel
  simp only [Prog.lift, Prog.bind_op, Prog.bind_ret, Prog.pure_eq_ret]
  iintro ⟨#HC, Ho, H1⟩ Hk
  iapply (s_ws2 c 1 13 rfl rfl rfl) $$ [Ho H1]
  · iframe HC Ho H1
  iintro ⟨Ho, H1⟩
  iapply (s_wr2 c 1 13 rfl rfl rfl) $$ [Ho H1]
  · iframe HC Ho H1
  iintro ⟨Ho, H1⟩
  iapply (s_add3 c 1 (wp_addC1 c 2 (klo 1 c) 1536 _ _ _ ⟨by decide, by decide⟩ (off26_eq c) rfl (sum_384 (h := shapeCasts_S512x384_S512x384)) (add_3 c 1))) $$ H1; iintro H1
  iapply (s_snd3 c _ 1 (dev14_eq c) 13 rfl (src_red c 1 (klo 1 c) 512 fullShare _ (off34_eq c) _ _) (dst_red _ 1 (klo 1 c) 512 (off34_eq c) _ _) rfl rfl rfl) $$ [Ho H1]
  · iframe HC Ho H1
  iintro ⟨Ho, H1⟩
  iapply run_ret; iapply Hk
  iframe Ho H1

/-- Flow 2: the waits of the third transfers and the last sum. -/
theorem part23 (c : Dev nD) (v540 v589 v693 v760 c1 : BitVec 32) {Q : _ → sProp 𝕄} :
    iprop(ctx I K ∗ ow c 14 ∗ st I c 2 12) ⊢ iprop((∀ r, ow c 14 ∗ st I c 2 15 -∗ Q r)
      -∗ run c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v540 v589 v693 v760 c1) Q) := by
  rw [k0_part23_eq_skeleton]; unfold k0_part23_skel
  simp only [Prog.lift, Prog.bind_op, Prog.bind_ret, Prog.pure_eq_ret]
  iintro ⟨#HC, Ho, H2⟩ Hk
  iapply (s_ws2 c 2 14 rfl rfl rfl) $$ [Ho H2]
  · iframe HC Ho H2
  iintro ⟨Ho, H2⟩
  iapply (s_wr2 c 2 14 rfl rfl rfl) $$ [Ho H2]
  · iframe HC Ho H2
  iintro ⟨Ho, H2⟩
  iapply (s_add3 c 2 (wp_addC2 c 2 (klo 2 c) 1536 _ _ _ ⟨by decide, by decide⟩ (off31_eq c) rfl (sum_256 (h := shapeCasts_S512x256_S512x256)) (add_3 c 2))) $$ H2; iintro H2
  iapply run_ret; iapply Hk
  iframe Ho H2

/-- Flow 2: the transfer of the quarter summed. Flow 0: its waits, the transfer of the half, and a load of it. -/
theorem part24 (c : Dev nD) (v589 v720 v732 : BitVec 32) {Q : _ → sProp 𝕄} :
    iprop(ctx I K ∗ ow c 14 ∗ st I c 0 16 ∗ st I c 2 15 ∗ outS I c ([])) ⊢ iprop((∀ v795 v806, ow c 16 ∗ st I c 0 19 ∗ st I c 2 16 ∗ outS I c ([]) -∗ Q ⟨v795, v806, k0_pay49 (fun j => fin I 0 c (hlo 0 c + j 0) (j 1))⟩)
      -∗ run c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v589 v720 v732) Q) := by
  rw [k0_part24_eq_skeleton]; unfold k0_part24_skel
  simp only [Prog.lift, Prog.bind_op, Prog.bind_ret, Prog.pure_eq_ret]
  iintro ⟨#HC, Ho, H0, H2, HO⟩ Hk
  iapply (s_snd3 c _ 2 (dev15_eq c) 14 rfl (src_red c 2 (klo 2 c) 512 fullShare _ (off35_eq c) _ _) (dst_red _ 2 (klo 2 c) 512 (off35_eq c) _ _) rfl rfl rfl) $$ [Ho H2]
  · iframe HC Ho H2
  iintro ⟨Ho, H2⟩
  iapply (s_ws3 c 0 15 rfl rfl rfl) $$ [Ho H0]
  · iframe HC Ho H0
  iintro ⟨Ho, H0⟩
  iapply (s_wr3 c 0 15 rfl rfl rfl) $$ [Ho H0]
  · iframe HC Ho H0
  iintro ⟨Ho, H0⟩
  iapply (s_snd4 c _ 0 (dev16_eq c) 15 rfl (src_red c 0 (hlo 0 c) 1024 fullShare.left _ (off36_eq c) _ _) (dst_red _ 0 (hlo 0 c) 1024 (off36_eq c) _ _) rfl rfl rfl) $$ [Ho H0]
  · iframe HC Ho H0
  iintro ⟨Ho, H0⟩
  iapply (s_ldF (w := 384) c 0 rfl (off37_eq c)) $$ H0; iintro H0
  iapply (wp_ldO c _ 0) $$ HO; iintro %_ HO
  iapply run_ret; iapply Hk
  iframe Ho H0 H2 HO

/-- Flow 0: the half goes to the result. Flow 1: the waits, the transfer of the half, and its half to the result. -/
theorem part25 (c : Dev nD) (v751 v763 : BitVec 32) {Q : _ → sProp 𝕄} :
    iprop(ctx I K ∗ ow c 16 ∗ st I c 1 16 ∗ outS I c ([])) ⊢ iprop((∀ r, ow c 17 ∗ st I c 1 19 ∗ outS I c ((1, hlo 1 c) :: (0, hlo 0 c) :: []) -∗ Q r)
      -∗ run c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v751 v763 (k0_pay49 (fun j => fin I 0 c (hlo 0 c + j 0) (j 1)))) Q) := by
  rw [k0_part25_eq_skeleton]; unfold k0_part25_skel
  simp only [Prog.lift, Prog.bind_op, Prog.bind_ret, Prog.pure_eq_ret]
  iintro ⟨#HC, Ho, H1, HO⟩ Hk
  iapply (wp_stO c _ 0 (hlo 0 c) (off37_eq c) (fun j => rfl)) $$ HO; iintro HO
  iapply (s_ws3 c 1 16 rfl rfl rfl) $$ [Ho H1]
  · iframe HC Ho H1
  iintro ⟨Ho, H1⟩
  iapply (s_wr3 c 1 16 rfl rfl rfl) $$ [Ho H1]
  · iframe HC Ho H1
  iintro ⟨Ho, H1⟩
  iapply (s_snd4 c _ 1 (dev17_eq c) 16 rfl (src_red c 1 (hlo 1 c) 1024 fullShare.left _ (off38_eq c) _ _) (dst_red _ 1 (hlo 1 c) 1024 (off38_eq c) _ _) rfl rfl rfl) $$ [Ho H1]
  · iframe HC Ho H1
  iintro ⟨Ho, H1⟩
  iapply (s_ldF (w := 384) c 1 rfl (off39_eq c)) $$ H1; iintro H1
  iapply (wp_ldO c _ 1) $$ HO; iintro %_ HO
  iapply (wp_stO c _ 1 (hlo 1 c) (off39_eq c) (fun j => rfl)) $$ HO; iintro HO
  iapply run_ret; iapply Hk
  iframe Ho H1 HO

/-- Flow 2 likewise; a wait of flow 0's last transfer. -/
theorem part26 (c : Dev nD) (v782 v795 v806 : BitVec 32) {Q : _ → sProp 𝕄} :
    iprop(ctx I K ∗ ow c 17 ∗ st I c 0 19 ∗ st I c 2 16 ∗ outS I c ((1, hlo 1 c) :: (0, hlo 0 c) :: [])) ⊢ iprop((∀ r, ow c 18 ∗ st I c 0 20 ∗ st I c 2 19 ∗ outS I c ((2, hlo 2 c) :: (1, hlo 1 c) :: (0, hlo 0 c) :: []) -∗ Q r)
      -∗ run c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v782 v795 v806) Q) := by
  rw [k0_part26_eq_skeleton]; unfold k0_part26_skel
  simp only [Prog.lift, Prog.bind_op, Prog.bind_ret, Prog.pure_eq_ret]
  iintro ⟨#HC, Ho, H0, H2, HO⟩ Hk
  iapply (s_ws3 c 2 17 rfl rfl rfl) $$ [Ho H2]
  · iframe HC Ho H2
  iintro ⟨Ho, H2⟩
  iapply (s_wr3 c 2 17 rfl rfl rfl) $$ [Ho H2]
  · iframe HC Ho H2
  iintro ⟨Ho, H2⟩
  iapply (s_snd4 c _ 2 (dev18_eq c) 17 rfl (src_red c 2 (hlo 2 c) 1024 fullShare.left _ (off40_eq c) _ _) (dst_red _ 2 (hlo 2 c) 1024 (off40_eq c) _ _) rfl rfl rfl) $$ [Ho H2]
  · iframe HC Ho H2
  iintro ⟨Ho, H2⟩
  iapply (s_ldF (w := 256) c 2 rfl (off41_eq c)) $$ H2; iintro H2
  iapply (wp_ldO c _ 2) $$ HO; iintro %_ HO
  iapply (wp_stO c _ 2 (hlo 2 c) (off41_eq c) (fun j => rfl)) $$ HO; iintro HO
  iapply (s_ws4 c 0 18 rfl rfl rfl) $$ [Ho H0]
  · iframe HC Ho H0
  iintro ⟨Ho, H0⟩
  iapply run_ret; iapply Hk
  iframe Ho H0 H2 HO

/-- Flow 0: the other wait, the other half to the result. Flow 1: the waits of the last transfers. -/
theorem part27 (c : Dev nD) (v830 v872 c0 : BitVec 32) {Q : _ → sProp 𝕄} :
    iprop(ctx I K ∗ ow c 18 ∗ st I c 0 20 ∗ st I c 1 19 ∗ outS I c ((2, hlo 2 c) :: (1, hlo 1 c) :: (0, hlo 0 c) :: [])) ⊢ iprop((∀ r, ow c 18 ∗ st I c 0 21 ∗ st I c 1 21 ∗ outS I c ((0, alo 0 c) :: (2, hlo 2 c) :: (1, hlo 1 c) :: (0, hlo 0 c) :: []) -∗ Q r)
      -∗ run c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c (dnum c) v830 v872 c0) Q) := by
  rw [k0_part27_eq_skeleton]; unfold k0_part27_skel
  simp only [Prog.lift, Prog.bind_op, Prog.bind_ret, Prog.pure_eq_ret]
  iintro ⟨#HC, Ho, H0, H1, HO⟩ Hk
  iapply (s_wr4 c 0 18 rfl rfl rfl) $$ [Ho H0]
  · iframe HC Ho H0
  iintro ⟨Ho, H0⟩
  iapply (s_ldG (w := 384) c 0 rfl (off3_eq c)) $$ H0; iintro H0
  iapply (wp_ldO c _ 0) $$ HO; iintro %_ HO
  iapply (wp_stO c _ 0 (alo 0 c) (off3_eq c) (fun j => rfl)) $$ HO; iintro HO
  iapply (s_ws4 c 1 18 rfl rfl rfl) $$ [Ho H1]
  · iframe HC Ho H1
  iintro ⟨Ho, H1⟩
  iapply (s_wr4 c 1 18 rfl rfl rfl) $$ [Ho H1]
  · iframe HC Ho H1
  iintro ⟨Ho, H1⟩
  iapply run_ret; iapply Hk
  iframe Ho H0 H1 HO

end

end Cert.Cube

end
-- ==== Proof.Whole.lean ====
/-
The whole kernel body on one device: the barrier, then the parts in the program's order.
-/
module

public import proofs.«01_k».proof.Proof.Body

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {I : Inp F} {K : Dev nD × CK → ℕ}

/-! ## The barrier -/

/-- What a device hands over with its signal along axis `A`: the parts of its own landing buffers that the neighbour fills. -/
def sends (c : Dev nD) (A : Fin 3) : sProp 𝕄 := iprop(cmAny 0 (A - 0) c ∗ cmAny 1 (A - 1) c ∗ cmAny 2 (A - 2) c)

theorem barPay_peer (c : Dev nD) (A : Fin 3) : barPay (F := F) A (peer A c) = sends c A := by
  unfold barPay sends; rw [peer_peer]

/-- A program that runs `p` first: `p` is run, and then the rest. -/
theorem bind_run {c : Dev nD} {α β : Type} {p : Prog (TpuEff nD τ sig (Elt F) Λ₀ .tc) α} {k : α → Prog (TpuEff nD τ sig (Elt F) Λ₀ .tc) β} {Q : β → sProp 𝕄} :
    run c p (fun a => run c (k a) Q) ⊢ run c (p >>= k) Q := Entails.of_eq (wp_bind _ _ _ _ _ _).symm

/-- A signal to the neighbour along axis `A`. -/
theorem wp_sig (c n' : Dev nD) (A : Fin 3) (hn' : n' = peer A c) (n : ℕ) (hn : olist.drop n = (.bar, A, 1) :: olist.drop (n + 1))
    {α : Type} {Q : α → sProp 𝕄} {k : PUnit → Prog (TpuEff nD τ sig (Elt F) Λ₀ .tc) α} :
    iprop(ctx I K ∗ ow c n ∗ dutyTok ER (cell (peer A c) .bar) 0 A ∗ sends c A)
      ⊢ iprop((ow c (n + 1) -∗ run c (k ⟨⟩) Q) -∗ run c (.op (.semSignal (n' : Thread nD τ) barS (1#32).toInt) k) Q) := by
  subst hn'
  unfold ow
  iintro ⟨#HC, ⟨%W, Ho⟩, Ht, Hg⟩ Hk
  iapply (Rounds.wp_signal 𝒱₀ ER (Rd I) (c : Thread nD τ) none (dst := (peer A c : Thread nD τ)) (κ := K (peer A c, .bar)) (r := 0)
      (d := A) (by show A ∈ (Rd I).duties (cell (peer A c) .bar) 0; rw [duties_bar]; exact Finset.mem_univ _) ((amount_bar I (peer A c) A)) () (owe c (n + 1)) (owe_step hn)) $$ [Ho Ht Hg]
  · isplitr; · iapply (ctx_inv I K (peer A c) .bar); iexact HC
    isplitl [Ho]; · iexact Ho
    isplitl [Ht]; · iexact Ht
    isplitl [Hg]
    · iapply (show sends c A ⊢ (Rd I).payload ((peer A c : Thread nD τ), SemLoc.reg barS) 0 A from Entails.of_eq ((barPay_peer c A).symm.trans (payload_bar I (peer A c) A).symm)); iexact Hg
    iapply (ctx_reached I K (peer A c) .bar); iexact HC
  iintro Ho
  iapply Hk
  iexists W; iexact Ho

/-- The wait for the three neighbours' signals. -/
theorem wp_bwait (c : Dev nD) {α : Type} {Q : α → sProp 𝕄} {k : PUnit → Prog (TpuEff nD τ sig (Elt F) Λ₀ .tc) α} :
    iprop(ctx I K ∗ ow c 3 ∗ cred (tallyAt (cell c .bar) () 3) ∗ atPos ER (cell c .bar) 0 ∅ 0)
      ⊢ iprop((ow c 3 ∗ atPos ER (cell c .bar) 1 ∅ 0 ∗ (barPay 0 c ∗ barPay 1 c ∗ barPay 2 c) -∗ run c (k ⟨⟩) Q)
        -∗ run c (.op (.semWait barS (3#32).toInt) k) Q) := by
  unfold ow
  iintro ⟨#HC, ⟨%W, Ho⟩, Hc, Hat⟩ Hk
  iapply (Rounds.wp_wait_rest_token 𝒱₀ ER (Rd I) (c : Thread nD τ) none (κ := K (c, .bar))
      (wpE_semWait_eq 𝒱₀ (c : Thread nD τ) none Set.univ) (Set.mem_univ _) () (O := owe c 3) (W := W) (R := 0) (m := 0) (T := ∅)
      (by show _ = (Rd I).expect (cell c .bar) 0; rw [expect_bar]; decide)) $$ [Hc Ho Hat]
  · isplitr; · iapply (ctx_inv I K c .bar); iexact HC
    isplitl [Hc]; · iexact Hc
    isplitl [Ho]; · iexact Ho
    isplitr
    · iapply (mayWait c (csem .bar) 3 (by decide)); iapply (ctx_lev I K); iexact HC
    iexact Hat
  iintro ⟨Ho, Hat, -, Hpay⟩
  ihave Hp := (show bigSep ((Rd I).duties ((c : Thread nD τ), SemLoc.reg barS) 0 \ ∅) (fun d => (Rd I).payload ((c : Thread nD τ), SemLoc.reg barS) 0 d)
      ⊢ iprop(barPay 0 c ∗ barPay 1 c ∗ barPay 2 c) from Entails.of_eq (rest_bar I c)) $$ Hpay
  iapply Hk
  isplitl [Ho]; · iexists _; iexact Ho
  iframe Hat Hp

/-- What a device starts a flow with, but for the neighbours' landing buffers. -/
def init (c : Dev nD) (fi : Fin 3) : sProp 𝕄 := iprop(rdAny c fi (alo fi c) 1024 ∗ rdAny c fi (hlo fi c) 1024 ∗ ph0 c fi 0)

/-- What it holds for the barrier. -/
def barr (c : Dev nD) : sProp 𝕄 :=
  iprop(cred (tallyAt (cell c .bar) () 3) ∗ atPos ER (cell c .bar) 0 ∅ 0
    ∗ (dutyTok ER (cell (peer 0 c) .bar) 0 0 ∗ dutyTok ER (cell (peer 1 c) .bar) 0 1 ∗ dutyTok ER (cell (peer 2 c) .bar) 0 2)
    ∗ sends c 0 ∗ sends c 1 ∗ sends c 2)

/-- The neighbours' landing buffers, as the flows use them. -/
theorem st_zero (c : Dev nD) : iprop((barPay 0 c ∗ barPay 1 c ∗ barPay 2 c) ∗ init c 0 ∗ init c 1 ∗ init c 2)
    ⊢ iprop(st I c 0 0 ∗ st I c 1 0 ∗ st I c 2 0) := by
  simp only [st, cA, init, barPay]
  iintro ⟨⟨⟨H00, H12, H21⟩, ⟨H01, H10, H22⟩, ⟨H02, H11, H20⟩⟩, ⟨A0, B0, C0⟩, ⟨A1, B1, C1⟩, ⟨A2, B2, C2⟩⟩
  isplitl [H00 H01 H02 A0 B0 C0]
  · iframe A0 B0 C0
    isplitl [H00]; · iexact H00
    isplitl [H01]; · iexact H01
    iexact H02
  isplitl [H10 H11 H12 A1 B1 C1]
  · iframe A1 B1 C1
    isplitl [H10]; · iexact H10
    isplitl [H11]; · iexact H11
    iexact H12
  iframe A2 B2 C2
  isplitl [H20]; · iexact H20
  isplitl [H21]; · iexact H21
  iexact H22

/-- The barrier; and the first block of rows is loaded. -/
theorem part1 (c : Dev nD) {Q : _ → sProp 𝕄} :
    iprop(ctx I K ∗ ow c 0 ∗ ins I c ∗ barr c ∗ init c 0 ∗ init c 1 ∗ init c 2)
      ⊢ iprop((∀ v15 v17, ow c 3 ∗ ins I c ∗ atPos ER (cell c .bar) 1 ∅ 0 ∗ (st I c 0 0 ∗ st I c 1 0 ∗ st I c 2 0)
          -∗ Q ⟨c, dnum c, v15, v17, k0_pay2 (xblk I c (1 - side 0 c)), k0_pay3 (rblk I c (1 - side 0 c)), k0_pay4, k0_pay5 c (rblk I c (1 - side 0 c))⟩)
      -∗ run c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) Q) := by
  rw [k0_part1_eq_skeleton]; unfold k0_part1_skel
  simp only [semSignalWord, semWaitWord, Prog.lift, Prog.bind_op, Prog.bind_ret, Prog.pure_eq_ret, wp_deviceId]
  unfold barr
  iintro ⟨#HC, Ho, Hi, ⟨Hc, Hat, ⟨T0, T1, T2⟩, G0, G1, G2⟩, HI⟩ Hk
  iapply (wp_sig c _ 0 (dev1_eq c) 0 rfl) $$ [Ho T0 G0]
  · iframe HC Ho T0 G0
  iintro Ho
  iapply (wp_sig c _ 1 (dev2_eq c) 1 rfl) $$ [Ho T1 G1]
  · iframe HC Ho T1 G1
  iintro Ho
  iapply (wp_sig c _ 2 (dev3_eq c) 2 rfl) $$ [Ho T2 G2]
  · iframe HC Ho T2 G2
  iintro Ho
  iapply (wp_bwait c) $$ [Ho Hc Hat]
  · iframe HC Ho Hc Hat
  iintro ⟨Ho, Hat, Hp⟩
  ihave Hst := (st_zero (I := I) c) $$ [Hp HI]
  · iframe Hp HI
  iapply (wp_ldX c (1 - side 0 c) (off1_eq c)) $$ Hi; iintro Hi
  iapply (wp_ldRt c (1 - side 0 c) (off2_eq c)) $$ Hi; iintro Hi
  rw [show Scalar.remsi (Scalar.divsi (Dev.word c) 1#32) 8#32 = dnum c from rfl]
  iapply run_ret; iapply Hk
  iframe Ho Hi Hat Hst

set_option maxHeartbeats 4000000 in
/-- All parts; the last but one piece of the result is stored, and flow 2 ends. -/
theorem part28 (c : Dev nD) {Q : _ → sProp 𝕄} :
    iprop(ctx I K ∗ ow c 0 ∗ ins I c ∗ barr c ∗ (init c 0 ∗ init c 1 ∗ init c 2) ∗ outS I c [])
      ⊢ iprop((∀ v917, ow c 18 ∗ ins I c ∗ atPos ER (cell c .bar) 1 ∅ 0 ∗ (st I c 0 21 ∗ st I c 1 21 ∗ st I c 2 21)
            ∗ outS I c ((1, alo 1 c) :: (0, alo 0 c) :: (2, hlo 2 c) :: (1, hlo 1 c) :: (0, hlo 0 c) :: []) -∗ Q ⟨c, v917⟩)
      -∗ run c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) Q) := by
  unfold k0_part28
  iintro ⟨#HC, Ho, Hi, Hb, HI, HO⟩ Hk
  iapply bind_run
  iapply (part1 c) $$ [Ho Hi Hb HI]
  · iframe HC Ho Hi Hb HI
  iintro %_ %_ ⟨Ho, Hi, Hat, H0, H1, H2⟩
  iapply bind_run
  iapply (part2 c) $$ [Hi]
  · iframe Hi
  iintro Hi
  iapply bind_run
  iapply (part3 c _ _) $$ [Ho Hi H0]
  · iframe HC Ho Hi H0
  iintro %_ ⟨Ho, Hi, H0⟩
  iapply bind_run
  iapply (part4 c _) $$ [Hi]
  · iframe Hi
  iintro Hi
  iapply bind_run
  iapply (part5 c _ _) $$ [Hi H1]
  · iframe Hi H1
  iintro %_ ⟨Hi, H1⟩
  iapply bind_run
  iapply (part6 c _) $$ [Ho Hi H1]
  · iframe HC Ho Hi H1
  iintro %_ %_ %_ ⟨Ho, Hi, H1⟩
  iapply bind_run
  iapply (part7 c _ _) $$ [Hi H2]
  · iframe Hi H2
  iintro %_ ⟨Hi, H2⟩
  iapply bind_run
  iapply (part8 c _ _ _) $$ [Ho Hi H2]
  · iframe HC Ho Hi H2
  iintro %_ %_ ⟨Ho, Hi, H2⟩
  iapply bind_run
  iapply (part9 c _) $$ [Hi H0]
  · iframe Hi H0
  iintro ⟨Hi, H0⟩
  iapply bind_run
  iapply (part10 c _) $$ [Hi H0]
  · iframe Hi H0
  iintro ⟨Hi, H0⟩
  iapply bind_run
  iapply (part11 c _ _) $$ [Hi H1]
  · iframe Hi H1
  iintro ⟨Hi, H1⟩
  iapply bind_run
  iapply (part12 c) $$ [Hi]
  · iframe Hi
  iintro Hi
  iapply bind_run
  iapply (part13 c _ _) $$ [Ho Hi H0 H2]
  · iframe HC Ho Hi H0 H2
  iintro %_ ⟨Ho, Hi, H0, H2⟩
  iapply bind_run
  iapply (part14 c _ _ _ _) $$ [Ho H0]
  · iframe HC Ho H0
  iintro %_ ⟨Ho, H0⟩
  iapply bind_run
  iapply (part15 c _ _) $$ [Ho H1]
  · iframe HC Ho H1
  iintro %_ ⟨Ho, H1⟩
  iapply bind_run
  iapply (part16 c _ _ _) $$ [Ho H1 H2]
  · iframe HC Ho H1 H2
  iintro %_ ⟨Ho, H1, H2⟩
  iapply bind_run
  iapply (part17 c _ _ _) $$ [Ho H2]
  · iframe HC Ho H2
  iintro %_ ⟨Ho, H2⟩
  iapply bind_run
  iapply (part18 c _ _) $$ [Ho H0]
  · iframe HC Ho H0
  iintro %_ ⟨Ho, H0⟩
  iapply bind_run
  iapply (part19 c _ _) $$ [Ho H1]
  · iframe HC Ho H1
  iintro %_ ⟨Ho, H1⟩
  iapply bind_run
  iapply (part20 c _ _) $$ [Ho H2]
  · iframe HC Ho H2
  iintro %_ ⟨Ho, H2⟩
  iapply bind_run
  iapply (part21 c _ _) $$ [Ho H0]
  · iframe HC Ho H0
  iintro %_ ⟨Ho, H0⟩
  iapply bind_run
  iapply (part22 c _ _) $$ [Ho H1]
  · iframe HC Ho H1
  iintro %_ ⟨Ho, H1⟩
  iapply bind_run
  iapply (part23 c _ _ _ _ _) $$ [Ho H2]
  · iframe HC Ho H2
  iintro %_ ⟨Ho, H2⟩
  iapply bind_run
  iapply (part24 c _ _ _) $$ [Ho H0 H2 HO]
  · iframe HC Ho H0 H2 HO
  iintro %_ %_ ⟨Ho, H0, H2, HO⟩
  iapply bind_run
  iapply (part25 c _ _) $$ [Ho H1 HO]
  · iframe HC Ho H1 HO
  iintro %_ ⟨Ho, H1, HO⟩
  iapply bind_run
  iapply (part26 c _ _ _) $$ [Ho H0 H2 HO]
  · iframe HC Ho H0 H2 HO
  iintro %_ ⟨Ho, H0, H2, HO⟩
  iapply bind_run
  iapply (part27 c _ _ _) $$ [Ho H0 H1 HO]
  · iframe HC Ho H0 H1 HO
  iintro %_ ⟨Ho, H0, H1, HO⟩
  simp only [Prog.lift, Prog.bind_op, Prog.bind_ret, Prog.pure_eq_ret]
  iapply (s_ldG (w := 384) c 1 rfl (off7_eq c)) $$ H1; iintro H1
  iapply (wp_ldO c _ 1) $$ HO; iintro %_ HO
  iapply (wp_stO c _ 1 (alo 1 c) (off7_eq c) (fun j => rfl)) $$ HO; iintro HO
  iapply (s_ws4 c 2 18 rfl rfl rfl) $$ [Ho H2]
  · iframe HC Ho H2
  iintro ⟨Ho, H2⟩
  iapply (s_wr4 c 2 18 rfl rfl rfl) $$ [Ho H2]
  · iframe HC Ho H2
  iintro ⟨Ho, H2⟩
  iapply run_ret; iapply Hk
  iframe Ho Hi Hat H0 H1 H2 HO

/-- The kernel body on device `c`. -/
theorem whole (c : Dev nD) {Q : _ → sProp 𝕄} :
    iprop(ctx I K ∗ ow c 0 ∗ ins I c ∗ barr c ∗ (init c 0 ∗ init c 1 ∗ init c 2) ∗ outS I c [])
      ⊢ iprop((ow c 18 ∗ ins I c ∗ atPos ER (cell c .bar) 1 ∅ 0 ∗ (st I c 0 21 ∗ st I c 1 21 ∗ st I c 2 21)
            ∗ outS I c ((2, alo 2 c) :: (1, alo 1 c) :: (0, alo 0 c) :: (2, hlo 2 c) :: (1, hlo 1 c) :: (0, hlo 0 c) :: []) -∗ Q ⟨⟩)
      -∗ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) Q) := by
  rw [cc0_body_eq_skeleton]; unfold cc0_body_skel
  simp only [Prog.lift, Prog.bind_op, Prog.bind_ret, Prog.pure_eq_ret]
  iintro ⟨#HC, Ho, Hi, Hb, HI, HO⟩ Hk
  iapply bind_run
  iapply (part28 c) $$ [Ho Hi Hb HI HO]
  · iframe HC Ho Hi Hb HI HO
  iintro %_ ⟨Ho, Hi, Hat, ⟨H0, H1, H2⟩, HO⟩
  iapply (s_ldG (w := 256) c 2 rfl (off9_eq c)) $$ H2; iintro H2
  iapply (wp_ldO c _ 2) $$ HO; iintro %_ HO
  iapply (wp_stO c _ 2 (alo 2 c) (off9_eq c) (fun j => rfl)) $$ HO; iintro HO
  iapply run_ret; iapply Hk
  iframe Ho Hi Hat H0 H1 H2 HO

end

end Cert.Cube

end
-- ==== Proof.Cells.lean ====
/-
The launch's ghost resources: every semaphore of the exchange gets its cell, the tokens of the cells are dealt to the
devices that pay with them, and what the launch owes every semaphore is read off the list of payments.
-/
module

public import proofs.«01_k».proof.Proof.Whole
public import proofs.«01_k».proof.Proof.Gen.KernelIdeal.Launch

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over the semaphores -/

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The semaphores but the barrier's. -/
abbrev OK : Type := Fin 3 ⊕ (Fin 3 × Fin 5) ⊕ Fin 3
def okc (x : OK) : CK := ckEquiv.symm (.inr x)
def osem (x : OK) : SemLoc sig := csem (okc x)

theorem bigSep_ok (Φ : CK → sProp 𝕄) : bigSep Finset.univ Φ = iprop(Φ .bar ∗ bigSep Finset.univ fun x : OK => Φ (okc x)) := by
  rw [bigSep_univ_equiv ckEquiv.symm, bigSep_univ_sum, Finset.univ_unique, bigSep_singleton]; rfl
theorem bigSep_ck (Φ : CK → sProp 𝕄) : bigSep Finset.univ Φ
    = iprop(Φ .bar ∗ bigSep Finset.univ (fun fi : Fin 3 => Φ (.snd fi)) ∗ bigSep Finset.univ (fun fi : Fin 3 => bigSep Finset.univ fun r : Fin 5 => Φ (.rcv fi r))
        ∗ bigSep Finset.univ fun fi : Fin 3 => Φ (.idle fi)) := by
  rw [bigSep_ok, bigSep_univ_sum, bigSep_univ_sum, bigSep_univ_prod]; rfl

/-! ## The cells -/

theorem kcell_injective : Function.Injective (fun ck : Dev nD × CK => cell ck.1 ck.2) := fun x y h => Prod.ext (cell_inj h).1 (cell_inj h).2
def allCells : Finset (GSem nD τ sig) := Finset.univ.map ⟨fun ck : Dev nD × CK => cell ck.1 ck.2, kcell_injective⟩

/-- The tokens of a device's cells: for each flow, one of the barrier's three, five of the send semaphore, one of each
    receive semaphore. -/
abbrev TK : Type := Fin 3 × (Unit ⊕ Fin 5 ⊕ Fin 5)
def tokOf (ct : Dev nD × TK) : GSem nD τ sig × ℕ × Fin 3 := match ct.2.2 with
  | .inl _ => (cell ct.1 .bar, 0, ct.2.1)
  | .inr (.inl r) => (cell ct.1 (.snd ct.2.1), r.val, 0)
  | .inr (.inr r) => (cell ct.1 (.rcv ct.2.1 r), 0, 0)
theorem tokOf_injective : Function.Injective tokOf := by
  rintro ⟨c, fi, t⟩ ⟨c', fi', t'⟩ h
  rcases t with u | r | r <;> rcases t' with u' | r' | r'
  · obtain ⟨rfl, -⟩ := cell_inj (congrArg Prod.fst h)
    have h2 : fi = fi' := congrArg (fun x : GSem nD τ sig × ℕ × Fin 3 => x.2.2) h
    subst h2; rfl
  · exact absurd (cell_inj (congrArg Prod.fst h)).2 (fun e => by cases e)
  · exact absurd (cell_inj (congrArg Prod.fst h)).2 (fun e => by cases e)
  · exact absurd (cell_inj (congrArg Prod.fst h)).2 (fun e => by cases e)
  · obtain ⟨rfl, e⟩ := cell_inj (congrArg Prod.fst h)
    have h2 : r.val = r'.val := congrArg (fun x : GSem nD τ sig × ℕ × Fin 3 => x.2.1) h
    cases e; cases Fin.ext h2; rfl
  · exact absurd (cell_inj (congrArg Prod.fst h)).2 (fun e => by cases e)
  · exact absurd (cell_inj (congrArg Prod.fst h)).2 (fun e => by cases e)
  · exact absurd (cell_inj (congrArg Prod.fst h)).2 (fun e => by cases e)
  · obtain ⟨rfl, e⟩ := cell_inj (congrArg Prod.fst h)
    cases e; rfl
def allToks : Finset (GSem nD τ sig × ℕ × Fin 3) := Finset.univ.map ⟨tokOf, tokOf_injective⟩

abbrev tokAt (x : GSem nD τ sig × ℕ × Fin 3) : sProp 𝕄 := dutyTok ER x.1 x.2.1 x.2.2

def u₀ : UU := (initOf (Pipeline.cells cfgs cellOf_inj) (Pipeline.launchToks cfgs cellOf_inj), initOf allCells allToks)

section
variable (I : Inp F)

/-- What the launch deals a device: its cells and their tokens. -/
def G (c : Dev nD) : sProp 𝕄 :=
  iprop((bigSep Finset.univ fun k : CK => roundState ER (Rd I) (cell c k) 0)
    ∗ (bigSep Finset.univ fun k : CK => iprop(atPos ER (cell c k) 0 ∅ 0 ∗ reached ER (cell c k) 0)) ∗ bigSep Finset.univ fun t : TK => tokAt (tokOf (c, t)))

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => bigSep Finset.univ fun t : TK => tokAt (tokOf (c, t)) := by
    unfold allToks; rw [bigSep_map, bigSep_univ_prod]; rfl
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (cell c k) 0 : sProp 𝕄) := by
  rw [unscopedSems0_eq, bigSep_ok]; rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (cell c k)))
          ∗ (bigSep Finset.univ fun k => iprop(atPos ER (cell c k) 0 ∅ 0 ∗ reached ER (cell c k) 0)) ∗ bigSep Finset.univ fun t : TK => tokAt (tokOf (c, t))) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : CK => semVal (cell c k) 0) ∗ bigSep Finset.univ fun k : CK => roundState ER (Rd I) (cell c k) 0)
      ⊢ (|={Set.univ}=> bigSep Finset.univ fun k => iprop(∃ κ : ℕ, cellInv ER (Rd I) κ (cell c k)) : sProp 𝕄) from by
        rw [← bigSep_sep']
        exact (bigSep_mono fun k _ => (Rounds.body_intro ER (Rd I) (cell c k)).trans inv_alloc).trans (bigSep_fupd _ _)) $$ [Hv Hst] with Hinv
  · isplitl [Hv] <;> iassumption
  imodintro
  iframe Hinv Hat Htok

/-! ## Dealing the tokens -/

/-- The device that pays with a token of device `c`'s cells. -/
def payer (t : TK) : Dev nD ≃ Dev nD := match t.2 with
  | .inl _ => pairing t.1
  | .inr (.inl _) => Equiv.refl _
  | .inr (.inr r) => pairing (axs t.1 r)

theorem toks_around : (bigSep Finset.univ fun c : Dev nD => bigSep Finset.univ fun t : TK => (tokAt (tokOf (c, t)) : sProp 𝕄))
    = bigSep Finset.univ fun c : Dev nD => bigSep Finset.univ fun t : TK => tokAt (tokOf (payer t c, t)) := by
  rw [bigSep_univ_comm, bigSep_univ_comm fun (c : Dev nD) (t : TK) => (tokAt (tokOf (payer t c, t)) : sProp 𝕄)]
  exact bigSep_congr fun t _ => bigSep_univ_equiv (payer t) fun c => tokAt (tokOf (c, t))

/-- What stays with a device: where it is at its cells, and the tokens it pays with. -/
def linear (c : Dev nD) : sProp 𝕄 :=
  iprop((bigSep Finset.univ fun k : CK => atPos ER (cell c k) 0 ∅ 0) ∗ bigSep Finset.univ fun t : TK => tokAt (tokOf (payer t c, t)))

/-- Every cell's invariant and mark. -/
def records (K : Dev nD × CK → ℕ) : sProp 𝕄 :=
  iprop((bigSep Finset.univ fun ck : Dev nD × CK => cellInv ER (Rd I) (K ck) (cell ck.1 ck.2))
    ∗ bigSep Finset.univ fun ck : Dev nD × CK => reached ER (cell ck.1 ck.2) 0)
instance records_persistent (K : Dev nD × CK → ℕ) : BI.Persistent (records I K) := by unfold records; infer_instance

def G' (c : Dev nD) : sProp 𝕄 := iprop(∃ K, records I K ∗ linear c)

theorem bigSep_with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd I) κ (cell c k)))
          ∗ (bigSep Finset.univ fun k => iprop(atPos ER (cell c k) 0 ∅ 0 ∗ reached ER (cell c k) 0)) ∗ bigSep Finset.univ fun t : TK => tokAt (tokOf (c, t))) : sProp 𝕄)
      ⊢ bigSep Finset.univ (G' I) := by
  rw [bigSep_sep', bigSep_sep', ← bigSep_univ_prod (fun ck : Dev nD × CK => iprop(∃ κ : ℕ, cellInv ER (Rd I) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄)), toks_around]
  iintro ⟨HI, ⟨Hat, #HR⟩, Htok⟩
  ihave HK := (BI.bigSep_exists_pi Finset.univ (fun (ck : Dev nD × CK) (κ : ℕ) => (cellInv ER (Rd I) κ (cell ck.1 ck.2) : sProp 𝕄))) $$ HI
  icases HK with ⟨%K, #HI⟩
  iapply (bigSep_with_persistent (R := records I K) (Φ := linear) (Ψ := G' I) fun c _ => exists_intro (Φ := fun K => iprop(records I K ∗ linear c)) K)
  isplitr
  · unfold records; isplitl; · iexact HI
    iexact HR
  · unfold linear
    rw [bigSep_sep']
    iframe Hat Htok

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end

/-! ## What the launch owes every semaphore -/

/-- What a list of payments puts on a semaphore. -/
def paid (k : CK) : List (CK × Fin 3 × ℕ) → ℕ
  | [] => 0
  | x :: l => paid k l + if x.1 = k then x.2.2 else 0

theorem sum_oweL (c : Dev nD) (k : CK) (l : List (CK × Fin 3 × ℕ)) : ∑ d : Dev nD, oweL d l (cell c k) () = paid k l := by
  induction l with
  | nil => exact Finset.sum_const_zero
  | cons x l ih =>
    unfold oweL paid
    rw [Finset.sum_congr rfl fun (d : Dev nD) _ => by rw [Pi.add_apply, Finsupp.add_apply, tallyAt_apply], Finset.sum_add_distrib, ih]
    refine congrArg _ ?_
    by_cases hk : x.1 = k
    · rw [if_pos hk, Finset.sum_eq_single (peer x.2.1 c)]
      · rw [if_pos ⟨by rw [peer_peer, hk], rfl⟩]
      · intro d _ hd
        exact if_neg fun h => hd (by rw [(cell_inj h.1).1, peer_peer])
      · exact fun h => absurd (Finset.mem_univ _) h
    · rw [if_neg hk]
      exact Finset.sum_eq_zero fun d _ => if_neg fun h => hk (cell_inj h.1).2.symm

theorem launch_k (c : Dev nD) (k : CK) (n : ℕ) (hn : paid k olist = n) :
    tallyOn (cell c k) (launchCredit (Pipeline.owing fun c => owe c 0) 0 (cell c k)) = (tallyAt (cell c k) () n : CellTallies nD τ sig Unit) := by
  unfold tallyAt; refine congrArg _ (Finsupp.ext fun u => ?_); cases u
  rw [Pipeline.launchCredit_owing, Finsupp.single_eq_same, ← hn]
  exact sum_oweL c k olist

theorem paid_bar : paid .bar olist = 3 := by simp [paid, olist]
theorem paid_rcv (fi : Fin 3) (r : Fin 5) : paid (.rcv fi r) olist = amt fi r := by
  fin_cases fi <;> fin_cases r <;> simp [paid, olist]

theorem csem_injective : Function.Injective csem := fun _ _ h => csem_inj h

theorem launch_cells (c : Dev nD) : (Pipeline.launchCred (fun c => owe c 0) c : sProp 𝕄)
    ⊢ bigSep Finset.univ fun k : CK => cred (tallyAt (cell c k) () (paid k olist)) := by
  unfold Pipeline.launchCred
  refine (bigSep_subset (Finset.subset_univ (Finset.univ.map ⟨csem, csem_injective⟩))).trans ?_
  rw [bigSep_map]
  exact bigSep_mono fun k _ => Entails.of_eq (congrArg cred (launch_k c k _ rfl))

/-- The credit a device starts with. -/
theorem creds (c : Dev nD) : (Pipeline.launchCred (fun c => owe c 0) c : sProp 𝕄)
    ⊢ iprop(cred (tallyAt (cell c .bar) () 3) ∗ bigSep Finset.univ fun fi : Fin 3 => bigSep Finset.univ fun r : Fin 5 => cred (tallyAt (cell c (.rcv fi r)) () (amt fi r))) := by
  have h := launch_cells (F := F) c
  rw [bigSep_ck] at h
  simp only [paid_bar, paid_rcv] at h
  iintro H
  ihave H := h $$ H
  icases H with ⟨Hb, -, H, -⟩
  isplitl [Hb] <;> iassumption

end Cert.Cube

end
-- ==== Proof.Buffers.lean ====
/-
The buffers a device starts with, cut into the parts the flows use, and put together again at the end.
-/
module

public import proofs.«01_k».proof.Proof.Cells

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Part of a buffer of device `c`, holding anything. -/
def anyAt (b : Ref sig .tc) (c : Dev nD) (off size : Fin b.ty.shape.rank → ℕ) : sProp 𝕄 := iprop(∃ f, rp b c off size fullShare f)

theorem anyAt_split (b : Ref sig .tc) (c : Dev nD) (o o₁ o₂ s s₁ s₂ : Fin b.ty.shape.rank → ℕ)
    (hu : ∀ i : b.ty.shape.Idx, (∀ a, o a ≤ i a ∧ i a < o a + s a) ↔ ((∀ a, o₁ a ≤ i a ∧ i a < o₁ a + s₁ a) ∨ (∀ a, o₂ a ≤ i a ∧ i a < o₂ a + s₂ a)))
    (hd : ∀ i : b.ty.shape.Idx, (∀ a, o₁ a ≤ i a ∧ i a < o₁ a + s₁ a) → (∀ a, o₂ a ≤ i a ∧ i a < o₂ a + s₂ a) → False) :
    (anyAt (F := F) b c o s) ⊣⊢ iprop(anyAt b c o₁ s₁ ∗ anyAt b c o₂ s₂) := by
  unfold anyAt
  constructor
  · iintro ⟨%f, H⟩
    ihave H' := (rp_split b c o o₁ o₂ s s₁ s₂ fullShare f hu hd).1 $$ H
    icases H' with ⟨H1, H2⟩
    isplitl [H1]
    · iexists f; iexact H1
    · iexists f; iexact H2
  · iintro ⟨⟨%f, H1⟩, ⟨%g, H2⟩⟩
    iexists (box b.ty.shape o₂ s₂).piecewise g f
    unfold rp
    rw [show box b.ty.shape o s = box b.ty.shape o₁ s₁ ∪ box b.ty.shape o₂ s₂ from by
      ext i; rw [Finset.mem_union, mem_box, mem_box, mem_box]; exact hu i]
    iapply (pointsTo_join (Finset.disjoint_left.mpr fun i h₁ h₂ => hd i (mem_box.mp h₁) (mem_box.mp h₂)))
    isplitl [H1] <;> iassumption

theorem all2 {m n : ℕ} (i : (⟨2, ![m, n]⟩ : Shape).Idx) (a b s t : ℕ) :
    (∀ k, (![a, b] : Fin 2 → ℕ) k ≤ (i k : ℕ) ∧ (i k : ℕ) < (![a, b] : Fin 2 → ℕ) k + (![s, t] : Fin 2 → ℕ) k) ↔ (a ≤ (i 0 : ℕ) ∧ (i 0 : ℕ) < a + s) ∧ (b ≤ (i 1 : ℕ) ∧ (i 1 : ℕ) < b + t) :=
  Fin.forall_fin_two

/-- A rectangle cut along its rows, and along its columns. -/
theorem cut_rows {m n : ℕ} {r r₁ r₂ s s₁ s₂ b t : ℕ} (h : ∀ x, (r ≤ x ∧ x < r + s) ↔ ((r₁ ≤ x ∧ x < r₁ + s₁) ∨ (r₂ ≤ x ∧ x < r₂ + s₂))) (i : (⟨2, ![m, n]⟩ : Shape).Idx) :
    (∀ k, (![r, b] : Fin 2 → ℕ) k ≤ (i k : ℕ) ∧ (i k : ℕ) < (![r, b] : Fin 2 → ℕ) k + (![s, t] : Fin 2 → ℕ) k)
      ↔ ((∀ k, (![r₁, b] : Fin 2 → ℕ) k ≤ (i k : ℕ) ∧ (i k : ℕ) < (![r₁, b] : Fin 2 → ℕ) k + (![s₁, t] : Fin 2 → ℕ) k)
        ∨ (∀ k, (![r₂, b] : Fin 2 → ℕ) k ≤ (i k : ℕ) ∧ (i k : ℕ) < (![r₂, b] : Fin 2 → ℕ) k + (![s₂, t] : Fin 2 → ℕ) k)) := by
  rw [all2, all2, all2, h, or_and_right]
theorem cut_cols {m n : ℕ} {r s b b₁ b₂ t t₁ t₂ : ℕ} (h : ∀ x, (b ≤ x ∧ x < b + t) ↔ ((b₁ ≤ x ∧ x < b₁ + t₁) ∨ (b₂ ≤ x ∧ x < b₂ + t₂))) (i : (⟨2, ![m, n]⟩ : Shape).Idx) :
    (∀ k, (![r, b] : Fin 2 → ℕ) k ≤ (i k : ℕ) ∧ (i k : ℕ) < (![r, b] : Fin 2 → ℕ) k + (![s, t] : Fin 2 → ℕ) k)
      ↔ ((∀ k, (![r, b₁] : Fin 2 → ℕ) k ≤ (i k : ℕ) ∧ (i k : ℕ) < (![r, b₁] : Fin 2 → ℕ) k + (![s, t₁] : Fin 2 → ℕ) k)
        ∨ (∀ k, (![r, b₂] : Fin 2 → ℕ) k ≤ (i k : ℕ) ∧ (i k : ℕ) < (![r, b₂] : Fin 2 → ℕ) k + (![s, t₂] : Fin 2 → ℕ) k)) := by
  rw [all2, all2, all2, h, and_or_left]

/-! ## The landing buffers -/

theorem landing_cut (b : Ref sig .tc) (c : Dev nD) (w : ℕ) (o₀ s₀ o₁ s₁ o₂ s₂ o₃ s₃ o₄ s₄ : Fin b.ty.shape.rank → ℕ)
    (h1 : (anyAt (F := F) b c o₀ s₀) ⊣⊢ iprop(anyAt b c o₁ s₁ ∗ anyAt b c o₂ s₂)) (h2 : (anyAt (F := F) b c o₂ s₂) ⊣⊢ iprop(anyAt b c o₃ s₃ ∗ anyAt b c o₄ s₄)) :
    (anyAt (F := F) b c o₀ s₀) ⊣⊢ iprop(anyAt b c o₁ s₁ ∗ anyAt b c o₃ s₃ ∗ anyAt b c o₄ s₄) :=
  ⟨h1.1.trans (sep_mono_right h2.1), (sep_mono_right h2.2).trans h1.2⟩

theorem all_of {s : Shape} {o z : Fin s.rank → ℕ} (h : ∀ a, o a = 0 ∧ z a = s.size a) : box s o z = Finset.univ := by
  ext i; rw [mem_box]
  exact ⟨fun _ => Finset.mem_univ _, fun _ a => ⟨by rw [(h a).1]; exact Nat.zero_le _, by rw [(h a).1, (h a).2, Nat.zero_add]; exact (i a).isLt⟩⟩

theorem anyAt_whole (b : Ref sig .tc) (c : Dev nD) (o z : Fin b.ty.shape.rank → ℕ) (h : ∀ a, o a = 0 ∧ z a = b.ty.shape.size a) :
    (anyAt (F := F) b c o z) = iprop(∃ f : Buf (Elt F) ((c : Thread nD τ).loc b), ((c : Thread nD τ).loc b) ↦{fullShare} f) := by
  unfold anyAt rp; rw [all_of h]

/-- A landing buffer is its three parts. -/
theorem landing (fi : Fin 3) (c : Dev nD) :
    (match fi with
      | 0 => iprop(∃ f : Buf (Elt F) ((c : Thread nD τ).loc cc0_scratch1), ((c : Thread nD τ).loc cc0_scratch1) ↦{fullShare} f)
      | 1 => iprop(∃ f : Buf (Elt F) ((c : Thread nD τ).loc cc0_scratch2), ((c : Thread nD τ).loc cc0_scratch2) ↦{fullShare} f)
      | 2 => iprop(∃ f : Buf (Elt F) ((c : Thread nD τ).loc cc0_scratch3), ((c : Thread nD τ).loc cc0_scratch3) ↦{fullShare} f) : sProp 𝕄)
      ⊣⊢ iprop(cmAny fi 0 c ∗ cmAny fi 1 c ∗ cmAny fi 2 c) := by
  match fi with
  | 0 =>
    have h := landing_cut (F := F) cc0_scratch1 c 384 ![0, 0] ![2048, 384] ![0, 0] ![1024, 384] ![1024, 0] ![1024, 384] ![1024, 0] ![512, 384] ![1536, 0] ![512, 384]
      (anyAt_split cc0_scratch1 c _ _ _ _ _ _ (cut_rows (fun x => by omega)) (fun i h h' => by have := h 0; have := h' 0; simp at *; omega))
      (anyAt_split cc0_scratch1 c _ _ _ _ _ _ (cut_rows (fun x => by omega)) (fun i h h' => by have := h 0; have := h' 0; simp at *; omega))
    rw [anyAt_whole cc0_scratch1 c ![0, 0] ![2048, 384] (by intro a; fin_cases a <;> exact ⟨rfl, rfl⟩)] at h
    exact h
  | 1 =>
    have h := landing_cut (F := F) cc0_scratch2 c 384 ![0, 0] ![2048, 384] ![0, 0] ![1024, 384] ![1024, 0] ![1024, 384] ![1024, 0] ![512, 384] ![1536, 0] ![512, 384]
      (anyAt_split cc0_scratch2 c _ _ _ _ _ _ (cut_rows (fun x => by omega)) (fun i h h' => by have := h 0; have := h' 0; simp at *; omega))
      (anyAt_split cc0_scratch2 c _ _ _ _ _ _ (cut_rows (fun x => by omega)) (fun i h h' => by have := h 0; have := h' 0; simp at *; omega))
    rw [anyAt_whole cc0_scratch2 c ![0, 0] ![2048, 384] (by intro a; fin_cases a <;> exact ⟨rfl, rfl⟩)] at h
    exact h
  | 2 =>
    have h := landing_cut (F := F) cc0_scratch3 c 256 ![0, 0] ![2048, 256] ![0, 0] ![1024, 256] ![1024, 0] ![1024, 256] ![1024, 0] ![512, 256] ![1536, 0] ![512, 256]
      (anyAt_split cc0_scratch3 c _ _ _ _ _ _ (cut_rows (fun x => by omega)) (fun i h h' => by have := h 0; have := h' 0; simp at *; omega))
      (anyAt_split cc0_scratch3 c _ _ _ _ _ _ (cut_rows (fun x => by omega)) (fun i h h' => by have := h 0; have := h' 0; simp at *; omega))
    rw [anyAt_whole cc0_scratch3 c ![0, 0] ![2048, 256] (by intro a; fin_cases a <;> exact ⟨rfl, rfl⟩)] at h
    exact h

/-- What has landed is something. -/
theorem lnd_any (I : Inp F) (c : Dev nD) (fi k : Fin 3) : lnd I c fi k ⊢ cmAny fi k c := by
  unfold lnd cmHas cmAny
  match fi with
  | 0 => exact exists_intro (Φ := fun f => rp cc0_scratch1 c ![clo k, 0] ![cn k, 384] fullShare f) _
  | 1 => exact exists_intro (Φ := fun f => rp cc0_scratch2 c ![clo k, 0] ![cn k, 384] fullShare f) _
  | 2 => exact exists_intro (Φ := fun f => rp cc0_scratch3 c ![clo k, 0] ![cn k, 256] fullShare f) _

/-! ## The reduction buffer -/

theorem rdAny_eq (c : Dev nD) (fi : Fin 3) (lo n : ℕ) : (rdAny (F := F) c fi lo n) ⊣⊢ anyAt cc0_scratch0 c ![lo, cs fi] ![n, cw fi] := by
  unfold rdAny anyAt rd
  constructor
  · iintro ⟨%g, H⟩; iexists _; iexact H
  · iintro ⟨%f, H⟩
    iexists fun r col => f (ix2 2048 1024 r (cs fi + col))
    iapply (Entails.of_eq (rp_congr cc0_scratch0 c ![lo, cs fi] ![n, cw fi] fullShare f (ctn fi fun r col => f (ix2 2048 1024 r (cs fi + col))) (fun i h => by
      have h1 : cs fi ≤ (i 1 : ℕ) ∧ (i 1 : ℕ) < cs fi + cw fi := h 1
      unfold ctn
      exact congrArg f (eq_ix2 i _ _ rfl (by omega)))))
    iexact H

theorem strip (c : Dev nD) (fi : Fin 3) : (anyAt (F := F) cc0_scratch0 c ![0, cs fi] ![2048, cw fi]) ⊣⊢ iprop(rdAny c fi (alo fi c) 1024 ∗ rdAny c fi (hlo fi c) 1024) := by
  have h1 := side_le fi c
  have h := anyAt_split (F := F) cc0_scratch0 c ![0, cs fi] ![alo fi c, cs fi] ![hlo fi c, cs fi] ![2048, cw fi] ![1024, cw fi] ![1024, cw fi]
    (cut_rows (fun x => by unfold alo hlo; omega)) (fun i ha hb => by
      have ha' : alo fi c ≤ (i 0 : ℕ) ∧ (i 0 : ℕ) < alo fi c + 1024 := ha 0
      have hb' : hlo fi c ≤ (i 0 : ℕ) ∧ (i 0 : ℕ) < hlo fi c + 1024 := hb 0
      unfold alo at ha'; unfold hlo at hb'; omega)
  exact ⟨h.1.trans (BI.sep_mono (rdAny_eq c fi _ _).2 (rdAny_eq c fi _ _).2), (BI.sep_mono (rdAny_eq c fi _ _).1 (rdAny_eq c fi _ _).1).trans h.2⟩

/-- The reduction buffer is the six pieces of the flows. -/
theorem reduction (c : Dev nD) :
    (iprop(∃ f : Buf (Elt F) ((c : Thread nD τ).loc cc0_scratch0), ((c : Thread nD τ).loc cc0_scratch0) ↦{fullShare} f) : sProp 𝕄)
      ⊣⊢ iprop((rdAny c 0 (alo 0 c) 1024 ∗ rdAny c 0 (hlo 0 c) 1024) ∗ (rdAny c 1 (alo 1 c) 1024 ∗ rdAny c 1 (hlo 1 c) 1024) ∗ rdAny c 2 (alo 2 c) 1024 ∗ rdAny c 2 (hlo 2 c) 1024) := by
  have h := landing_cut (F := F) cc0_scratch0 c 0 ![0, 0] ![2048, 1024] ![0, 0] ![2048, 384] ![0, 384] ![2048, 640] ![0, 384] ![2048, 384] ![0, 768] ![2048, 256]
      (anyAt_split cc0_scratch0 c _ _ _ _ _ _ (cut_cols (fun x => by omega)) (fun i h h' => by have := h 1; have := h' 1; simp at *; omega))
      (anyAt_split cc0_scratch0 c _ _ _ _ _ _ (cut_cols (fun x => by omega)) (fun i h h' => by have := h 1; have := h' 1; simp at *; omega))
  rw [anyAt_whole cc0_scratch0 c ![0, 0] ![2048, 1024] (by intro a; fin_cases a <;> exact ⟨rfl, rfl⟩)] at h
  exact ⟨h.1.trans (BI.sep_mono (strip c 0).1 (BI.sep_mono (strip c 1).1 (strip c 2).1)), (BI.sep_mono (strip c 0).2 (BI.sep_mono (strip c 1).2 (strip c 2).2)).trans h.2⟩

theorem rd_any (c : Dev nD) (fi : Fin 3) (lo n : ℕ) (g : ℕ → ℕ → F .bf16) : rd c fi lo n fullShare g ⊢ rdAny c fi lo n := by
  unfold rdAny; exact exists_intro (Φ := fun g => rd c fi lo n fullShare g) g

/-! ## The result's buffer -/

/-- Six pieces written are the whole. -/
theorem out_whole (I : Inp F) (c : Dev nD) :
    outS I c ((2, alo 2 c) :: (1, alo 1 c) :: (0, alo 0 c) :: (2, hlo 2 c) :: (1, hlo 1 c) :: (0, hlo 0 c) :: []) ⊢ bw cc0_stg3_0 c (OUT I c) := by
  unfold outS
  iintro ⟨%f, %hf, H⟩
  have e : f = OUT I c := by
    funext i
    have h0 : (i 0 : ℕ) < 2048 := (i 0).isLt
    have h1 : (i 1 : ℕ) < 1024 := (i 1).isLt
    have hs (fi : Fin 3) := side_le fi c
    have key : ∀ fi : Fin 3, cs fi ≤ (i 1 : ℕ) ∧ (i 1 : ℕ) < cs fi + cw fi → ∃ lo, (lo = alo fi c ∨ lo = hlo fi c) ∧ i ∈ box S2048x1024 ![lo, cs fi] ![1024, cw fi] := by
      intro fi h
      have hs := hs fi
      by_cases ha : alo fi c ≤ (i 0 : ℕ) ∧ (i 0 : ℕ) < alo fi c + 1024
      · exact ⟨_, Or.inl rfl, mem_box.mpr ((all2 i _ _ _ _).mpr ⟨ha, h⟩)⟩
      · exact ⟨_, Or.inr rfl, mem_box.mpr ((all2 i _ _ _ _).mpr ⟨by unfold alo at ha; unfold hlo; omega, h⟩)⟩
    apply hf
    by_cases c0 : (i 1 : ℕ) < 384
    · obtain ⟨lo, h | h, hb⟩ := key 0 ⟨Nat.zero_le _, c0⟩
      · exact ⟨(0, lo), by rw [h]; simp, hb⟩
      · exact ⟨(0, lo), by rw [h]; simp, hb⟩
    by_cases c1 : (i 1 : ℕ) < 768
    · obtain ⟨lo, h | h, hb⟩ := key 1 ⟨Nat.le_of_not_lt c0, c1⟩
      · exact ⟨(1, lo), by rw [h]; simp, hb⟩
      · exact ⟨(1, lo), by rw [h]; simp, hb⟩
    · obtain ⟨lo, h | h, hb⟩ := key 2 ⟨Nat.le_of_not_lt c1, h1⟩
      · exact ⟨(2, lo), by rw [h]; simp, hb⟩
      · exact ⟨(2, lo), by rw [h]; simp, hb⟩
  rw [← e]; iexact H

theorem out_empty (I : Inp F) (c : Dev nD) (f : (cc0_stg3_0 : Ref sig .tc).ty.Contents (Elt F)) : bw cc0_stg3_0 c f ⊢ outS I c [] := by
  unfold outS
  iintro H
  iexists f
  isplitr
  · ipureintro; rintro i ⟨x, hx, -⟩; exact absurd hx (List.not_mem_nil)
  iexact H

end Cert.Cube

end
-- ==== Proof.Run.lean ====
/-
The run of the program: the launch hands every device what its body starts from, the body runs, and every semaphore is closed.
-/
module

public import proofs.«01_k».proof.Proof.Buffers
public import Idealize.ShloMosaic.Lib.Pipeline.CollectiveSegs

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the launch finds in memory. -/
def inp : Inp F where
  x c := m ((c : Thread nD τ).loc main_arg0)
  r c := m ((c : Thread nD τ).loc main_arg2)
  w c := m ((c : Thread nD τ).loc main_arg3)

def s₀ : MemSt nD τ sig (Elt F) := ⟨m, fun _ => 0, ρ⟩

/-! ## What a device starts from -/

section
variable (I : Inp F)

/-- Its cells, its tokens, its credit. -/
def start (c : Dev nD) : sProp 𝕄 :=
  iprop(∃ K, ctx I K ∗ linear c ∗ cred (tallyAt (cell c .bar) () 3) ∗ bigSep Finset.univ fun fi : Fin 3 => bigSep Finset.univ fun r : Fin 5 => cred (tallyAt (cell c (.rcv fi r)) () (amt fi r)))

theorem todo_zero (c : Dev nD) (fi : Fin 3) : (bigSep Finset.univ fun r : Fin 5 => iprop(tok (F := F) c fi r ∗ rtk c fi r)) ⊢ todo c fi 0 := by
  rw [bigSep_fin5]
  show _ ⊢ iprop(_ ∗ _ ∗ _ ∗ _ ∗ _ ∗ emp)
  iintro ⟨H0, H1, H2, H3, H4⟩
  iframe H0 H1 H2 H3 H4

theorem past_five (c : Dev nD) (fi : Fin 3) : (past (F := F) c fi 5) ⊢ bigSep Finset.univ fun r : Fin 5 => atPos ER (cell c (.rcv fi r)) 1 ∅ 0 := by
  rw [bigSep_fin5]
  show iprop(_ ∗ _ ∗ _ ∗ _ ∗ _ ∗ emp) ⊢ _
  iintro ⟨H4, H3, H2, H1, H0, -⟩
  iframe H0 H1 H2 H3 H4

theorem ph0_intro (c : Dev nD) (fi : Fin 3) :
    iprop(atPos ER (cell c (.snd fi)) 0 ∅ 0 ∗ reached ER (cell c (.snd fi)) 0
        ∗ (bigSep Finset.univ fun r : Fin 5 => tokAt (tokOf (c, (fi, .inr (.inl r)))))
        ∗ (bigSep Finset.univ fun r : Fin 5 => tokAt (tokOf (peer (axs fi r) c, (fi, .inr (.inr r)))))
        ∗ (bigSep Finset.univ fun r : Fin 5 => cred (tallyAt (cell c (.rcv fi r)) () (amt fi r)))
        ∗ bigSep Finset.univ fun r : Fin 5 => atPos ER (cell c (.rcv fi r)) 0 ∅ 0)
      ⊢ ph0 (F := F) c fi 0 := by
  have h := todo_zero (F := F) c fi
  unfold tok rtk at h
  rw [bigSep_sep', bigSep_sep', bigSep_sep'] at h
  unfold ph0 sat past
  iintro ⟨Ha, Hr, Hs, Ht, Hc, Hp⟩
  isplitl [Ha Hr]
  · isplitl [Ha] <;> iassumption
  isplitl [Hs Ht Hc Hp]
  · iapply h
    isplitl [Hs Ht]
    · isplitl [Hs]
      · iexact Hs
      · iexact Ht
    · isplitl [Hc] <;> iassumption
  iempintro

theorem toks_eq (c : Dev nD) : (bigSep Finset.univ fun t : TK => (tokAt (tokOf (payer t c, t)) : sProp 𝕄))
    = bigSep Finset.univ fun fi : Fin 3 => iprop(dutyTok ER (cell (peer fi c) .bar) 0 fi
        ∗ (bigSep Finset.univ fun r : Fin 5 => tokAt (tokOf (c, (fi, .inr (.inl r)))))
        ∗ bigSep Finset.univ fun r : Fin 5 => tokAt (tokOf (peer (axs fi r) c, (fi, .inr (.inr r))))) := by
  rw [bigSep_univ_prod]
  refine bigSep_congr fun fi _ => ?_
  rw [bigSep_univ_sum, bigSep_univ_sum, Finset.univ_unique, bigSep_singleton]
  rfl

/-- The launch's resources, as the body takes them. -/
theorem start_elim (c : Dev nD) : iprop(start I c ∗ Pipeline.scopedRest cfg0.spec c)
    ⊢ iprop(∃ K, ctx I K ∗ barr c ∗ (init c 0 ∗ init c 1 ∗ init c 2) ∗ bigSep Finset.univ fun fi : Fin 3 => atPos ER (cell c (.idle fi)) 0 ∅ 0 : sProp 𝕄) := by
  unfold start linear
  rw [scopedRest0_eq, toks_eq, bigSep_ck]
  simp only [bigSep_fin3]
  iintro ⟨⟨%K, #HC, ⟨⟨Hb, ⟨S0, S1, S2⟩, ⟨R0, R1, R2⟩, HI⟩, ⟨B0, X0, Y0⟩, ⟨B1, X1, Y1⟩, ⟨B2, X2, Y2⟩⟩, Hc, C0, C1, C2⟩, HR, L0, L1, L2⟩
  ihave HR := (reduction (F := F) c).1 $$ HR
  icases HR with ⟨⟨A0, H0⟩, ⟨A1, H1⟩, A2, H2⟩
  ihave L0 := (landing (F := F) 0 c).1 $$ L0
  icases L0 with ⟨L00, L01, L02⟩
  ihave L1 := (landing (F := F) 1 c).1 $$ L1
  icases L1 with ⟨L10, L11, L12⟩
  ihave L2 := (landing (F := F) 2 c).1 $$ L2
  icases L2 with ⟨L20, L21, L22⟩
  iexists K
  isplitr; · iexact HC
  isplitl [Hc Hb B0 B1 B2 L00 L01 L02 L10 L11 L12 L20 L21 L22]
  · unfold barr sends
    iframe Hc Hb
    isplitl [B0 B1 B2]
    · iframe B0 B1 B2
    isplitl [L00 L12 L21]
    · isplitl [L00]; · iexact L00
      isplitl [L12]; · iexact L12
      iexact L21
    isplitl [L01 L10 L22]
    · isplitl [L01]; · iexact L01
      isplitl [L10]; · iexact L10
      iexact L22
    isplitl [L02]; · iexact L02
    isplitl [L11]; · iexact L11
    iexact L20
  isplitr [HI]
  · unfold init
    isplitl [A0 H0 S0 X0 Y0 C0 R0]
    · iframe A0 H0
      iapply (ph0_intro c 0) $$ [S0 X0 Y0 C0 R0]
      iframe S0 X0 Y0 C0 R0
      iapply (ctx_reached I K c (.snd 0)); iexact HC
    isplitl [A1 H1 S1 X1 Y1 C1 R1]
    · iframe A1 H1
      iapply (ph0_intro c 1) $$ [S1 X1 Y1 C1 R1]
      iframe S1 X1 Y1 C1 R1
      iapply (ctx_reached I K c (.snd 1)); iexact HC
    iframe A2 H2
    iapply (ph0_intro c 2) $$ [S2 X2 Y2 C2 R2]
    iframe S2 X2 Y2 C2 R2
    iapply (ctx_reached I K c (.snd 2)); iexact HC
  iexact HI

/-! ## What it ends with -/

variable (K : Dev nD × CK → ℕ)

theorem close_one (c : Dev nD) (k : CK) : iprop(ctx I K ∗ atPos ER (cell c k) (lastR k) ∅ 0) ⊢ |={Set.univ}=> (semVal (cell c k) 0 : sProp 𝕄) := by
  iintro ⟨#HC, Hat⟩
  imod (Rounds.cell_close ER (Rd I) (Set.mem_univ (K (c, k))) (fun h => h) (R := lastR k) (duties_later I c k)) $$ [Hat] with Hz
  · isplitr; · iapply (ctx_inv I K c k); iexact HC
    iexact Hat
  imodintro; iexact Hz

theorem close_all (c : Dev nD) : iprop(ctx I K ∗ bigSep Finset.univ fun k : CK => atPos ER (cell c k) (lastR k) ∅ 0)
    ⊢ |={Set.univ}=> (bigSep Finset.univ fun k : CK => semVal (cell c k) 0 : sProp 𝕄) :=
  (bigSep_with_persistent (R := ctx I K) fun k _ => close_one I K c k).trans (bigSep_fupd _ _)

/-- A flow's end: its pieces of the buffers, its semaphores' last positions. -/
theorem flow_end (c : Dev nD) (fi : Fin 3) : st I c fi 21
    ⊢ iprop((rdAny c fi (alo fi c) 1024 ∗ rdAny c fi (hlo fi c) 1024) ∗ (cmAny fi 0 c ∗ cmAny fi 1 c ∗ cmAny fi 2 c)
        ∗ atPos ER (cell c (.snd fi)) 5 ∅ 0 ∗ bigSep Finset.univ fun r : Fin 5 => atPos ER (cell c (.rcv fi r)) 1 ∅ 0) := by
  simp only [st, ph0, sat]
  iintro ⟨HA, HH, L0, L1, L2, ⟨Hs, -⟩, -, Hp⟩
  isplitl [HA HH]
  · isplitl [HA]
    · iapply (rd_any c fi _ _ _); iexact HA
    · iapply (rd_any c fi _ _ _); iexact HH
  isplitl [L0 L1 L2]
  · isplitl [L0]; · iapply (lnd_any I c fi 0); iexact L0
    isplitl [L1]; · iapply (lnd_any I c fi 1); iexact L1
    iapply (lnd_any I c fi 2); iexact L2
  isplitl [Hs]; · iexact Hs
  iapply (past_five c fi); iexact Hp

theorem finish (c : Dev nD) :
    iprop(ctx I K ∗ atPos ER (cell c .bar) 1 ∅ 0 ∗ (st I c 0 21 ∗ st I c 1 21 ∗ st I c 2 21) ∗ bigSep Finset.univ fun fi : Fin 3 => atPos ER (cell c (.idle fi)) 0 ∅ 0)
      ⊢ |={Set.univ}=> iprop((bigSep Finset.univ fun k : CK => semVal (cell c k) 0) ∗ Pipeline.scopedRest cfg0.spec c : sProp 𝕄) := by
  iintro ⟨#HC, Hb, ⟨H0, H1, H2⟩, HI⟩
  ihave H0 := (flow_end I c 0) $$ H0
  ihave H1 := (flow_end I c 1) $$ H1
  ihave H2 := (flow_end I c 2) $$ H2
  icases H0 with ⟨A0, B0, C0, D0⟩
  icases H1 with ⟨A1, B1, C1, D1⟩
  icases H2 with ⟨A2, B2, C2, D2⟩
  imod (close_all I K c) $$ [Hb HI C0 D0 C1 D1 C2 D2] with Hz
  · rw [bigSep_ck, bigSep_fin3 (fun fi => atPos ER (cell c (.snd fi)) (lastR (.snd fi)) ∅ 0), bigSep_fin3 (fun fi => bigSep Finset.univ fun r : Fin 5 => atPos ER (cell c (.rcv fi r)) (lastR (.rcv fi r)) ∅ 0)]
    isplitr; · iexact HC
    isplitl [Hb]; · iexact Hb
    isplitl [C0 C1 C2]
    · isplitl [C0]; · iexact C0
      isplitl [C1]; · iexact C1
      iexact C2
    isplitl [D0 D1 D2]
    · isplitl [D0]; · iexact D0
      isplitl [D1]; · iexact D1
      iexact D2
    iexact HI
  imodintro
  isplitl [Hz]; · iexact Hz
  rw [scopedRest0_eq]
  isplitl [A0 A1 A2]
  · iapply (reduction (F := F) c).2; iframe A0 A1 A2
  isplitl [B0]
  · iapply (landing (F := F) 0 c).2; iexact B0
  isplitl [B1]
  · iapply (landing (F := F) 1 c).2; iexact B1
  iapply (landing (F := F) 2 c).2; iexact B2

end

/-! ## The pipeline's data -/

def Φ₀ (c : Dev nD) : sProp 𝕄 := iprop(start (inp m) c ∗ Pipeline.scopedRest cfg0.spec c)
def Φ₁ (c : Dev nD) : sProp 𝕄 := iprop((bigSep Finset.univ fun k : CK => semVal (cell c k) 0) ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).r c
    | ⟨2, _⟩ => (inp m).w c
    | ⟨3, _⟩ => OUT (inp m) c
  Φ t := match t with
    | ⟨0, _⟩ => Φ₀ m c
    | ⟨_ + 1, _⟩ => Φ₁ c
  q _ := fullShare
  owed t := match t with
    | ⟨0, _⟩ => owe c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem read0 (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read1 (f : main_arg2.ty.Contents (Elt F)) : (win0_1.blk (0 : Fin 1)).view.read (Elt F) f = f :=
  Memref.read_access_unit_zero (Elt F) main_arg2 (funext fun a => by fin_cases a <;> decide) (fun a => by fin_cases a <;> decide) f
theorem read2 (f : main_arg3.ty.Contents (Elt F)) : (win0_2.blk (0 : Fin 1)).view.read (Elt F) f = f :=
  Memref.read_access_unit_zero (Elt F) main_arg3 (funext fun a => by fin_cases a <;> decide) (fun a => by fin_cases a <;> decide) f
theorem read3 (f : main_v1.ty.Contents (Elt F)) : (win0_3.blk (0 : Fin 1)).view.read (Elt F) f = f :=
  Memref.read_access_unit_zero (Elt F) main_v1 (funext fun a => by fin_cases a <;> decide) (fun a => by fin_cases a <;> decide) f

theorem before_x (c : Dev nD) (d) : (dats (F := F) m 0 c).before (0 : Fin 4) t0_0 d = (inp m).x c := by
  unfold Dat.before; rw [if_pos (fetch0_0 t0_0)]; exact read0 (F := F) _
theorem before_r (c : Dev nD) (d) : (dats (F := F) m 0 c).before (1 : Fin 4) t0_0 d = (inp m).r c := by
  unfold Dat.before; rw [if_pos (fetch0_1 t0_0)]; exact read1 (F := F) _
theorem before_w (c : Dev nD) (d) : (dats (F := F) m 0 c).before (2 : Fin 4) t0_0 d = (inp m).w c := by
  unfold Dat.before; rw [if_pos (fetch0_2 t0_0)]; exact read2 (F := F) _

def held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem held_eq (c : Dev nD) (b : Ref sig .tc) (X : b.ty.Contents (Elt F)) : held c b X ⊢ bw b c X := by
  unfold held bw
  iintro ⟨%f, %hf, H⟩
  rw [← hf]; iexact H
theorem eq_held (c : Dev nD) (b : Ref sig .tc) (X : b.ty.Contents (Elt F)) : bw b c X ⊢ held c b X := by
  unfold held bw
  iintro H
  iexists X
  isplitr; · ipureintro; rfl
  iexact H

def bodyPre (c : Dev nD) : sProp 𝕄 :=
  iprop(Φ₀ m c ∗ (dats m 0 c).owesAt () t0_0.castSucc
    ∗ (∃ d, held c cc0_stg0_0 ((dats m 0 c).before (0 : Fin 4) t0_0 d))
    ∗ (∃ d, held c cc0_stg1_0 ((dats m 0 c).before (1 : Fin 4) t0_0 d))
    ∗ (∃ d, held c cc0_stg2_0 ((dats m 0 c).before (2 : Fin 4) t0_0 d))
    ∗ (∃ d, held c cc0_stg3_0 ((dats m 0 c).before (3 : Fin 4) t0_0 d)))
def bodyPost (c : Dev nD) : sProp 𝕄 :=
  iprop(Φ₁ c ∗ (dats m 0 c).owesAt () t0_0.succ
    ∗ held c cc0_stg0_0 ((inp m).x c) ∗ held c cc0_stg1_0 ((inp m).r c) ∗ held c cc0_stg2_0 ((inp m).w c) ∗ held c cc0_stg3_0 (OUT (inp m) c))

/-- The body, from what the launch hands a device to what it hands back. -/
theorem body_run (c : Dev nD) : bodyPre m c ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) (fun _ => bodyPost m c) := by
  unfold bodyPre Φ₀ Dat.owesAt Pipeline.owesWithin
  rw [show held c cc0_stg3_0 = fun X => iprop(∃ f : Buf (Elt F) ((c : Thread nD τ).loc cc0_stg3_0), ⌜f = X⌝ ∗ (((c : Thread nD τ).loc cc0_stg3_0) ↦{fullShare} f)) from rfl]
  simp only [before_x, before_r, before_w]
  iintro ⟨HS, ⟨%W, -, HO⟩, ⟨%_, Hx⟩, ⟨%_, Hr⟩, ⟨%_, Hw⟩, ⟨%_, %fo, -, Hout⟩⟩
  ihave HS := (start_elim (inp m) c) $$ HS
  icases HS with ⟨%K, #HC, Hb, HI, Hidle⟩
  ihave Hx := (held_eq c cc0_stg0_0 _) $$ Hx
  ihave Hr := (held_eq c cc0_stg1_0 _) $$ Hr
  ihave Hw := (held_eq c cc0_stg2_0 _) $$ Hw
  have hfo := out_empty (inp m) c fo
  unfold bw at hfo
  ihave Hout := hfo $$ Hout
  iapply (wp_fupd _ _ _ _ _)
  iapply (whole (I := inp m) (K := K) c) $$ [HO Hx Hr Hw Hb HI Hout]
  · isplitr; · iexact HC
    isplitl [HO]
    · unfold ow; iexists W; iexact HO
    isplitl [Hx Hr Hw]
    · unfold ins; iframe Hx Hr Hw
    iframe Hb HI Hout
  iintro ⟨Ho, Hi, Hat, Hst, Hout⟩
  ihave Hout := (out_whole (inp m) c) $$ Hout
  unfold ow
  icases Ho with ⟨%W', HO⟩
  imod (finish (inp m) K c) $$ [Hat Hst Hidle] with ⟨Hz, Hrest⟩
  · iframe HC Hat Hst Hidle
  imodintro
  unfold bodyPost Φ₁ ins Dat.owesAt Pipeline.owesWithin
  icases Hi with ⟨Hx, Hr, Hw⟩
  isplitl [Hz Hrest]
  · isplitl [Hz] <;> iassumption
  isplitl [HO]
  · iexists W'
    isplitr; · ipureintro; exact fun _ _ => Or.inl trivial
    iexact HO
  isplitl [Hx]; · iapply (eq_held c cc0_stg0_0 _); iexact Hx
  isplitl [Hr]; · iapply (eq_held c cc0_stg1_0 _); iexact Hr
  isplitl [Hw]; · iapply (eq_held c cc0_stg2_0 _); iexact Hw
  iapply (eq_held c cc0_stg3_0 _); iexact Hout

theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_run m c

/-! ## The launch -/

theorem ownSemFacts : Pipeline.OwnSemFacts cfg0.spec osem := by decide

theorem share_eq (c : Dev nD) (w : Fin cfg0.W) : (dats m 0 c).share w = fullShare := by unfold Dat.share; split <;> rfl

theorem mayWait_stage (c : Dev nD) (q : DmaSem sig) (hq : lvk (kindOf (.dma q)) = 0) (O : CellTallies nD τ sig Unit) (hO : O = owe c 0 ∨ O = 0) :
    (levAts L lv : sProp 𝕄) ⊢ MayWait (c : Thread nD τ) (.dma q) () O := by
  rcases hO with rfl | rfl
  · exact mayWait c (.dma q) 0 (by rw [hq]; decide)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The one buffer the kernel takes no part of: the router's weights. -/
def kept (c : Dev nD) : sProp 𝕄 := bw main_arg1 c (m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred (fun c => owe c 0) c ∗ prngReg c (ρ c) ∗ G' (inp m) c)
      ⊢ |={Set.univ}=> iprop(start (inp m) c ∗ kept m c) := by
  rw [show (Pipeline.unscopedRestP Pipeline.Prefetch.none cfg0.spec c (fun b => m ((c : Thread nD τ).loc b)) : sProp 𝕄) = kept m c from
    (Pipeline.unscopedRestP_none _ _ _).trans (unscopedRest0_eq c _)]
  unfold G'
  iintro ⟨Hk, Hlev, Hcr, -, ⟨%K, Hrec, Hlin⟩⟩
  ihave Hc := (creds (F := F) c) $$ Hcr
  icases Hc with ⟨H1, HN⟩
  imodintro
  isplitr [Hk]
  · unfold start ctx records
    iexists K
    icases Hrec with ⟨HI, HR⟩
    isplitl [HI HR Hlev]
    · isplitl [HI HR]
      · isplitl [HI] <;> iassumption
      · iexact Hlev
    iframe Hlin H1 HN
  · iexact Hk

theorem phi0_intro (c : Dev nD) :
    iprop(start (inp m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  rw [← sems0_eq]
  exact BI.sep_assoc

/-! ## The run -/

def finalA (c : Dev nD) (w : Fin cfg0.W) : Buf (Elt F) ((cfg0.win w).arr.view.loc (c : Thread nD τ)) := (dats m 0 c).arrAt w cfg0.N

theorem final_in (c : Dev nD) (w : Fin cfg0.W) (h : (cfg0.win w).isOut = false) : finalA m c w = m ((cfg0.win w).arr.view.loc (c : Thread nD τ)) :=
  (dats m 0 c).arrAt_in w h _

theorem final_out (c : Dev nD) : finalA m c (3 : Fin 4) = OUT (inp m) c := by
  refine (read3 (F := F) _).symm.trans ?_
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from flush0_3 t0_0, if_pos rfl]
  exact View.read_write_univ _ _

/-- What a run ends with. -/
def Ends (s : MemSt nD τ sig (Elt F)) : Prop :=
  (∀ c : Dev nD, s.mem ((c : Thread nD τ).loc main_v1) = OUT (inp m) c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)) ∧ s.sem = fun _ => 0

/-- For any float values, from any memory with zero counters: every weakly fair execution of the program on eight devices
    terminates without fault, with the result `OUT` of the launch's memory on every device, the arguments as they were
    and every semaphore counter at zero. -/
theorem run_main : θ_run defs (onTc (τ := τ) (main (F := F))) (s₀ m ρ) (fun r => Ends m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun c => owe c 0) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_pair _ _) $$ Hu
      icases H with ⟨HP, HX⟩
      imod (fund_all (inp m)) $$ HX with HG
      imodintro
      isplitl [HP] <;> iassumption)
    (hglob := glob (inp m))
    (hA := fun _ _ => rfl) (hpf := fun _ k => k.elim0)
    (X := start (inp m)) (Y := fun c => unscopedSems0 c) (Z := kept m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold kept bw
      iintro ⟨Hu, Hk, HSI⟩
      ihave %hk := (SI_pointsTo_agree (st := s') (ℓ := (c : Thread nD τ).loc main_arg1) (I := Finset.univ) (q := fullShare) (f := m ((c : Thread nD τ).loc main_arg1))) $$ [HSI Hk]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hk i (Finset.mem_univ i)⟩
      iexact HSI)
    (hQ := fun s h hs => ⟨fun c => ⟨((h c).1 3).trans (final_out m c), ((h c).1 0).trans (final_in m c 0 rfl), (h c).2.2.2,
        ((h c).1 1).trans (final_in m c 1 rfl), ((h c).1 2).trans (final_in m c 2 rfl)⟩, sem_eq_zero hs fun c => (h c).2.2.1⟩)

end Cert.Cube

end
-- ==== Proof.Frames.lean ====
/-
The frames: each program terminates without fault, leaves its arguments as they were and every semaphore counter at zero.
-/
module

public import proofs.«01_k».proof.Proof.Run
public import proofs.«01_k».proof.Defs
public import proofs.«01_k».proof.Proof.Gen.Kernel
public import proofs.«01_k».proof.Proof.Gen.ReferenceIdeal.Run

@[expose] public section

set_option maxRecDepth 100000

noncomputable section

namespace Cert.Cube

open Idealize.ShloMosaic Idealize.SL.Sem

variable {F : FTy → Type} [FloatOps F]

/-- The kernel's text is the idealized program's: its body, -/
theorem body_eq (l : Cert.KernelIdeal.Λ₀.Label) (a : Cert.KernelIdeal.Λ₀.Args l) :
    Cert.Kernel.defs₀ (F := F) .tc l a = Cert.KernelIdeal.defs₀ (F := F) .tc l a := by
  match l, a with
  | ⟨0, _⟩, (t, s) => rfl

/-- the table of its bodies, -/
theorem bodies_eq : Cert.Kernel.defs₀ (F := F) = Cert.KernelIdeal.defs₀ (F := F) := by
  funext p l a
  cases p with
  | tc => exact body_eq l a
  | scScalar => rfl
  | scVector => rfl

/-- and the table with the launch. -/
theorem defs_eq : Cert.Kernel.defs (F := F) = Cert.KernelIdeal.defs (F := F) :=
  congrArg (Idealize.ShloMosaic.Pipeline.defs (Cert.KernelIdeal.pcfgs (F := F))) bodies_eq

/-- Over any float values, the run with the result left out. -/
theorem args_kept
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run Cert.KernelIdeal.defs _ _).mono (fun _ h => ⟨fun c => (h.1 c).2, h.2⟩) (run_main (F := F) m ρ)

/-- The kernel, at the chip's floats. -/
theorem frame_kernel : Cert.quiescent_Kernel := fun m ρ _ =>
  (congrArg (fun D => θ_run D (onTc (τ := Cert.KernelIdeal.τ) (Cert.KernelIdeal.main (F := Bits))) ⟨m, fun _ => 0, ρ⟩ _)
    (defs_eq (F := Bits))).mpr (args_kept (F := Bits) m ρ)

/-- The same program read over the extended reals. -/
theorem frame_kernelIdeal : Cert.quiescent_KernelIdeal := fun m ρ _ => args_kept (F := Ideal) m ρ

/-- The reference over the extended reals; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Cube

end
-- ==== Proof.Products.lean ====
/-
Over the extended reals: what one device's product with its four experts is, at a row and a column.
-/
module

public import proofs.«01_k».proof.Proof.Contents
public import Idealize.ShloMosaic.PureOps.Ideal.Laws
public import Idealize.ShloMosaic.Lib.MatmulPlain
public import Idealize.ShloMosaic.Lib.Layout
public import Idealize.ShloMosaic.Lib.WordCmp
public import Idealize.ShloMosaic.Lib.Pipeline.Value

@[expose] public section

set_option maxRecDepth 16384

noncomputable section

namespace Cert.Cube

open Cert.KernelIdeal Cert.KernelIdeal.Gen
open Idealize.ShloMosaic
open scoped BigOperators

/-- A row's product with one expert at a column, where the row is routed to that expert; zero elsewhere. -/
def share (p : Prop) [Decidable p] (a b : Fin 512 → EReal) : EReal := if p then ∑ k, a k * b k else 0

/-- A product of which every left factor is masked is masked itself. -/
theorem sum_masked (p : Prop) [Decidable p] (a b : Fin 512 → EReal) :
    ∑ k, (if p then a k else 0) * b k = share p a b := by
  unfold share
  split
  · rfl
  · simp

/-- The masked rows at an index. -/
theorem sel_at (d e : BitVec 32) (x : Vec Ideal S1024x512 .f32) (r : Vec Ideal S1024x1 .i32) (i : S1024x512.Idx) :
    sel d x r e i = if r (ix2 1024 1 (i 0) 0) = Scalar.addi (Scalar.muli d 4#32) e then x i else 0 := by
  unfold sel
  rw [shapeCast_self, shapeCast_self, shapeCast_self]
  show Scalar.select (broadcastTo S1024x512 _ broadcasts_S1024x1_S1024x512 i) (x i) _ = _
  rw [broadcastTo_apply _ _ i (ix2 1024 1 (i 0) 0) (by
    intro a
    match a with
    | ⟨0, _⟩ => exact Nat.mod_eq_of_lt (i 0).isLt
    | ⟨1, _⟩ => rfl)]
  show Scalar.select (IntOp.cmpi .eq (r (ix2 1024 1 (i 0) 0)) (Scalar.addi (Scalar.muli d 4#32) e)) (x i)
    ((((0#32 : BitVec 32).toInt : ℝ)) : EReal) = _
  rw [WordCmp.cmpi_eq_eq]
  by_cases h : r (ix2 1024 1 (i 0) 0) = Scalar.addi (Scalar.muli d 4#32) e
  · rw [if_pos h, decide_eq_true h]; rfl
  · rw [if_neg h, decide_eq_false h]
    show ((((0#32 : BitVec 32).toInt : ℝ)) : EReal) = 0
    simp

/-- A product of 1024 rows with a matrix, into zeros, at an index. -/
theorem dot_at {N : ℕ} (s : FVec Ideal ⟨2, ![1024, 512]⟩ .bf16) (w : FVec Ideal ⟨2, ![512, N]⟩ .bf16)
    (i : (⟨2, ![1024, N]⟩ : Shape).Idx) :
    FloatOps.matmul (DotDims.plain 1024 512 N) none s w (constant ⟨2, ![1024, N]⟩ .f32 0x00000000#32) i
      = ∑ k : Fin 512, s (ValueIdx.ix2 (i 0) k) * w (ValueIdx.ix2 k (i 1)) := by
  obtain ⟨r, c, rfl⟩ : ∃ r c, i = ValueIdx.ix2 r c := ⟨_, _, ValueIdx.eq_ix2 i⟩
  rw [Ideal.matmul_plain_apply]
  show Ideal.ofBits .f32 0x00000000#32 + _ = _
  rw [Ideal.ofBits_zero_f32, zero_add]
  rfl

/-- One expert's product onto a running sum, at an index. -/
theorem stp_at (d e : BitVec 32) (x : Vec Ideal S1024x512 .f32) (r : Vec Ideal S1024x1 .i32) (w : Vec Ideal S1x512x384 .f32)
    (acc : FVec Ideal S1024x384 .f32) (i : S1024x384.Idx) :
    stp (sel d x r e) w acc i = acc i + share (r (ix2 1024 1 (i 0) 0) = Scalar.addi (Scalar.muli d 4#32) e)
      (fun k => x (ix2 1024 512 (i 0) k)) (fun k => w (ix3 1 512 384 0 k (i 1))) := by
  unfold stp
  show acc i + FloatOps.matmul (DotDims.plain 1024 512 384) none (sel d x r e) _ (constant ⟨2, ![1024, 384]⟩ .f32 0x00000000#32) i = _
  rw [dot_at, ← sum_masked]
  refine congrArg (acc i + ·) (Finset.sum_congr rfl fun k _ => ?_)
  rw [sel_at]
  exact congrArg₂ (· * ·)
    (congrArg (fun y : EReal => if r (ix2 1024 1 (i 0) 0) = Scalar.addi (Scalar.muli d 4#32) e then y else 0)
      (congrArg x (eq_ix2 (a := 1024) (b := 512) _ _ _ rfl rfl)))
    ((shapeCast_dropUnit_apply ![512, 384] w shapeCasts_S1x512x384_S512x384 _).trans
      (congrArg w (eq_ix3 (a := 1) (b := 512) (d := 384) _ _ _ _ rfl rfl rfl)))

/-- The same at 256 columns. -/
theorem stp'_at (d e : BitVec 32) (x : Vec Ideal S1024x512 .f32) (r : Vec Ideal S1024x1 .i32) (w : Vec Ideal S1x512x256 .f32)
    (acc : FVec Ideal S1024x256 .f32) (i : S1024x256.Idx) :
    stp' (sel d x r e) w acc i = acc i + share (r (ix2 1024 1 (i 0) 0) = Scalar.addi (Scalar.muli d 4#32) e)
      (fun k => x (ix2 1024 512 (i 0) k)) (fun k => w (ix3 1 512 256 0 k (i 1))) := by
  unfold stp'
  show acc i + FloatOps.matmul (DotDims.plain 1024 512 256) none (sel d x r e) _ (constant ⟨2, ![1024, 256]⟩ .f32 0x00000000#32) i = _
  rw [dot_at, ← sum_masked]
  refine congrArg (acc i + ·) (Finset.sum_congr rfl fun k _ => ?_)
  rw [sel_at]
  exact congrArg₂ (· * ·)
    (congrArg (fun y : EReal => if r (ix2 1024 1 (i 0) 0) = Scalar.addi (Scalar.muli d 4#32) e then y else 0)
      (congrArg x (eq_ix2 (a := 1024) (b := 512) _ _ _ rfl rfl)))
    ((shapeCast_dropUnit_apply ![512, 256] w shapeCasts_S1x512x256_S512x256 _).trans
      (congrArg w (eq_ix3 (a := 1) (b := 512) (d := 256) _ _ _ _ rfl rfl rfl)))

/-- The four experts' products, summed onto zero, at an index. -/
theorem blk_at (d : BitVec 32) (x : Vec Ideal S1024x512 .f32) (r : Vec Ideal S1024x1 .i32) (w : Fin 4 → Vec Ideal S1x512x384 .f32)
    (i : S1024x384.Idx) :
    blk d x r (w 0) (w 1) (w 2) (w 3) i = ∑ e : Fin 4, share
      (r (ix2 1024 1 (i 0) 0) = Scalar.addi (Scalar.muli d 4#32) (BitVec.ofNat 32 e))
      (fun k => x (ix2 1024 512 (i 0) k)) (fun k => w e (ix3 1 512 384 0 k (i 1))) := by
  unfold blk
  rw [shapeCast_self]
  show stp (sel d x r 3#32) (w 3) _ i = _
  rw [stp_at, stp_at, stp_at, stp_at, Fin.sum_univ_four]
  show Ideal.ofBits .f32 0x00000000#32 + _ + _ + _ + _ = _
  rw [Ideal.ofBits_zero_f32, zero_add]
  rfl

/-- The same at 256 columns. -/
theorem blk'_at (d : BitVec 32) (x : Vec Ideal S1024x512 .f32) (r : Vec Ideal S1024x1 .i32) (w : Fin 4 → Vec Ideal S1x512x256 .f32)
    (i : S1024x256.Idx) :
    blk' d x r (w 0) (w 1) (w 2) (w 3) i = ∑ e : Fin 4, share
      (r (ix2 1024 1 (i 0) 0) = Scalar.addi (Scalar.muli d 4#32) (BitVec.ofNat 32 e))
      (fun k => x (ix2 1024 512 (i 0) k)) (fun k => w e (ix3 1 512 256 0 k (i 1))) := by
  unfold blk'
  rw [shapeCast_self]
  show stp' (sel d x r 3#32) (w 3) _ i = _
  rw [stp'_at, stp'_at, stp'_at, stp'_at, Fin.sum_univ_four]
  show Ideal.ofBits .f32 0x00000000#32 + _ + _ + _ + _ = _
  rw [Ideal.ofBits_zero_f32, zero_add]
  rfl

/-- The number of a device's expert, as the kernel computes it. -/
theorem enum_eq (c : Dev nD) (e : Fin 4) :
    Scalar.addi (Scalar.muli (dnum c) 4#32) (BitVec.ofNat 32 e) = BitVec.ofNat 32 (4 * c.val + e.val) := by
  revert c e; decide

/-! ## The whole arrays -/

/-- Every device has the same rows and experts' numbers, and block `c` of the experts. -/
structure Whole (I : Inp Ideal) (X : S2048x512.Idx → EReal) (R : S2048x1.Idx → BitVec 32)
    (W : (⟨3, ![32, 512, 1024]⟩ : Shape).Idx → EReal) : Prop where
  hx : ∀ c, I.x c = X
  hr : ∀ c, I.r c = R
  hw : ∀ c, I.w c = Layout.block ⟨3, ![4, 512, 1024]⟩ ⟨3, ![32, 512, 1024]⟩ 0 8 c W

/-- Row `r` times expert `e` at column `o`, where `r` is routed to `e`. -/
def term (X : S2048x512.Idx → EReal) (R : S2048x1.Idx → BitVec 32) (W : (⟨3, ![32, 512, 1024]⟩ : Shape).Idx → EReal)
    (r o e : ℕ) : EReal :=
  share (R (ix2 2048 1 r 0) = BitVec.ofNat 32 e) (fun k => X (ix2 2048 512 r k)) (fun k => W (ix3 32 512 1024 e k o))

variable {I : Inp Ideal} {X : S2048x512.Idx → EReal} {R : S2048x1.Idx → BitVec 32}
  {W : (⟨3, ![32, 512, 1024]⟩ : Shape).Idx → EReal}

/-- A device's expert is its part of all experts. -/
theorem w_at (h : Whole I X R W) (c : Dev nD) (e k o : ℕ) (he : e < 4) (hk : k < 512) (ho : o < 1024) :
    I.w c (ix3 4 512 1024 e k o) = W (ix3 32 512 1024 (4 * c.val + e) k o) := by
  rw [h.hw, Layout.block_apply]
  have hc : c.val < 8 := c.isLt
  refine congrArg W (eq_ix3 _ _ _ _ ?_ ?_ ?_)
  · rw [Layout.Tiles.idx_val]; simp; omega
  · rw [Layout.Tiles.idx_val]; simp; omega
  · rw [Layout.Tiles.idx_val]; simp; omega

/-- A row of a half of the rows. -/
theorem x_at (h : Whole I X R W) (c : Dev nD) (r n k : ℕ) (hr : r < 2048) (hn : n = r % 1024) (hk : k < 512) :
    xblk I c (r / 1024) (ix2 1024 512 n k) = X (ix2 2048 512 r k) := by
  show I.x c _ = _
  rw [h.hx]
  refine congrArg X (eq_ix2 _ _ _ ?_ ?_)
  · show (1024 * (r / 1024) + n % 1024) % 2048 = r; omega
  · show k % 512 % 512 = k; omega

/-- Its expert's number. -/
theorem r_at (h : Whole I X R W) (c : Dev nD) (r n : ℕ) (hr : r < 2048) (hn : n = r % 1024) :
    rblk I c (r / 1024) (ix2 1024 1 n 0) = R (ix2 2048 1 r 0) := by
  show I.r c _ = _
  rw [h.hr]
  refine congrArg R (eq_ix2 _ _ _ ?_ rfl)
  show (1024 * (r / 1024) + n % 1024) % 2048 = r; omega

/-- Equal conditions and factors give equal shares. -/
theorem share_congr {p q : Prop} [Decidable p] [Decidable q] {a b a' b' : Fin 512 → EReal} (h : p ↔ q) (ha : ∀ k, a k = a' k)
    (hb : ∀ k, b k = b' k) : share p a b = share q a' b' := by
  obtain rfl : a = a' := funext ha
  obtain rfl : b = b' := funext hb
  unfold share
  exact if_congr h rfl rfl

/-- A device's own product, over the whole arrays. -/
theorem P_at (h : Whole I X R W) (fi : Fin 3) (c : Dev nD) (r col : ℕ) (hr : r < 2048) (hc : col < cw fi) :
    P I fi c r col = ∑ e : Fin 4, term X R W r (cs fi + col) (4 * c.val + e.val) := by
  have he : ∀ e : Fin 4, e.val < 4 := fun e => e.isLt
  have hd : c.val < 8 := c.isLt
  match fi, hc with
  | 0, hc =>
    replace hc : col < 384 := hc
    refine (blk_at _ _ _ (fun e => wblk I c e 0) _).trans (Finset.sum_congr rfl fun e _ => ?_)
    rw [enum_eq]
    refine share_congr ?_ (fun k => x_at h c r _ k hr (Nat.mod_mod _ _) k.isLt) fun k => ?_
    · exact iff_of_eq (congrArg (· = _) (r_at h c r _ hr (Nat.mod_mod _ _)))
    · exact (congrArg (I.w c) (eq_ix3 _ e k (0 + col) (by show (e.val + 0 % 1) % 4 = e; omega) (by show k.val % 512 % 512 = k; omega)
        (by show (0 + col % 384 % 384) % 1024 = 0 + col; omega))).trans (w_at h c e k _ e.isLt k.isLt (by omega))
  | 1, hc =>
    replace hc : col < 384 := hc
    refine (blk_at _ _ _ (fun e => wblk I c e 384) _).trans (Finset.sum_congr rfl fun e _ => ?_)
    rw [enum_eq]
    refine share_congr ?_ (fun k => x_at h c r _ k hr (Nat.mod_mod _ _) k.isLt) fun k => ?_
    · exact iff_of_eq (congrArg (· = _) (r_at h c r _ hr (Nat.mod_mod _ _)))
    · exact (congrArg (I.w c) (eq_ix3 _ e k (384 + col) (by show (e.val + 0 % 1) % 4 = e; omega) (by show k.val % 512 % 512 = k; omega)
        (by show (384 + col % 384 % 384) % 1024 = 384 + col; omega))).trans (w_at h c e k _ e.isLt k.isLt (by omega))
  | 2, hc =>
    replace hc : col < 256 := hc
    refine (blk'_at _ _ _ (fun e => wblk' I c e 768) _).trans (Finset.sum_congr rfl fun e _ => ?_)
    rw [enum_eq]
    refine share_congr ?_ (fun k => x_at h c r _ k hr (Nat.mod_mod _ _) k.isLt) fun k => ?_
    · exact iff_of_eq (congrArg (· = _) (r_at h c r _ hr (Nat.mod_mod _ _)))
    · exact (congrArg (I.w c) (eq_ix3 _ e k (768 + col) (by show (e.val + 0 % 1) % 4 = e; omega) (by show k.val % 512 % 512 = k; omega)
        (by show (768 + col % 256 % 256) % 1024 = 768 + col; omega))).trans (w_at h c e k _ e.isLt k.isLt (by omega))

/-! ## The sums over the devices -/

/-- The devices that a device reaches by some of a flow's three exchanges. -/
def around (fi : Fin 3) (c : Dev nD) : Fin 8 → Dev nD :=
  ![c, peer fi c, peer (fi + 1) c, peer fi (peer (fi + 1) c), peer (fi + 2) c, peer fi (peer (fi + 2) c),
    peer (fi + 1) (peer (fi + 2) c), peer fi (peer (fi + 1) (peer (fi + 2) c))]

/-- They are all eight, each once. -/
theorem around_injective : ∀ (fi : Fin 3) (c : Dev nD), Function.Injective (around fi c) := by decide

/-- Three exchanges along a flow's axes add up eight values, on every device. -/
theorem sum_around (fi : Fin 3) (c : Dev nD) (g : Dev nD → EReal) :
    ((g c + g (peer fi c)) + (g (peer (fi + 1) c) + g (peer fi (peer (fi + 1) c))))
      + ((g (peer (fi + 2) c) + g (peer fi (peer (fi + 2) c)))
        + (g (peer (fi + 1) (peer (fi + 2) c)) + g (peer fi (peer (fi + 1) (peer (fi + 2) c))))) = ∑ d, g d := by
  rw [← (Finite.injective_iff_bijective.mp (around_injective fi c)).sum_comp g, Fin.sum_univ_eight]
  show _ = g c + g (peer fi c) + g (peer (fi + 1) c) + g (peer fi (peer (fi + 1) c)) + g (peer (fi + 2) c)
    + g (peer fi (peer (fi + 2) c)) + g (peer (fi + 1) (peer (fi + 2) c)) + g (peer fi (peer (fi + 1) (peer (fi + 2) c)))
  simp only [add_assoc]

/-- After the third exchange a device holds the sum over all devices. -/
theorem S3_at (I : Inp Ideal) (fi : Fin 3) (c : Dev nD) (r col : ℕ) : S3 I fi c r col = ∑ d : Dev nD, P I fi d r col :=
  sum_around fi c fun d => P I fi d r col

/-- And so does every device in the end, everywhere. -/
theorem fin_at (I : Inp Ideal) (fi : Fin 3) (c : Dev nD) (r col : ℕ) : fin I fi c r col = ∑ d : Dev nD, P I fi d r col := by
  unfold fin fin1
  simp only [S3_at, ite_self]

/-- The result on every device: at a row and a column, the sum over all 32 experts. -/
theorem OUT_at (h : Whole I X R W) (c : Dev nD) (i : S2048x1024.Idx) :
    OUT I c i = ∑ e : Fin 32, term X R W (i 0) (i 1) e := by
  have h0 : (i 0).val < 2048 := (i 0).isLt
  have h1 : (i 1).val < 1024 := (i 1).isLt
  show fin I (flow (i 1)) c (i 0) (i 1 - cs (flow (i 1))) = _
  rw [fin_at]
  have hf : cs (flow (i 1)) ≤ (i 1).val ∧ (i 1).val - cs (flow (i 1)) < cw (flow (i 1)) := by
    unfold flow
    split
    · exact ⟨Nat.zero_le _, by show _ - 0 < 384; omega⟩
    · split
      · exact ⟨by show 384 ≤ _; omega, by show _ - 384 < 384; omega⟩
      · exact ⟨by show 768 ≤ _; omega, by show _ - 768 < 256; omega⟩
  rw [Finset.sum_congr rfl fun d _ => P_at h _ d _ _ h0 hf.2, Nat.add_sub_cancel' hf.1]
  rw [← Fintype.sum_prod_type']
  exact Fintype.sum_equiv (finProdFinEquiv (m := 8) (n := 4)) _ _ fun p => by
    show term X R W _ _ (4 * p.1.val + p.2.val) = term X R W _ _ (p.2.val + 4 * p.1.val)
    rw [Nat.add_comm]

end Cert.Cube

end
-- ==== Proof.Reference.lean ====
/-
What the reference computes over the extended reals, and that the kernel computes the same.
-/
module

public import proofs.«01_k».proof.Proof.Products
public import proofs.«01_k».proof.Proof.Gen.ReferenceIdeal
public import Idealize.ShloMosaic.Lib.ValueIdxCore

@[expose] public section

set_option maxRecDepth 16384

noncomputable section

namespace Cert.Cube

open Cert.ReferenceIdeal Cert.ReferenceIdeal.Gen
open Idealize.ShloMosaic
open scoped BigOperators

variable (X : S2048x512.Idx → EReal) (R : S2048x1.Idx → BitVec 32) (W : S32x512x1024.Idx → EReal)

/-- The gathered experts at a row: the expert whose number, read signed and cut to 0 … 31, the index array has there. -/
theorem gather_at (idx : IVec S2048x1 32) (j : S2048x512x1024.Idx) :
    Host.gather gather_S32x512x1024_S2048x1_S2048x512x1024_12_0_n_n_0_1_15121024 W idx j
      = W (ix3 32 512 1024 (min (idx (ix2 2048 1 (j 0) 0)).toInt.toNat 31) (j 1) (j 2)) := by
  unfold Host.gather
  refine congrArg W (eq_ix3 _ _ _ _ ?_ ?_ ?_)
  · show _ + 0 + 0 = _
    have hs : GatherDims.siIdx gather_S32x512x1024_S2048x1_S2048x512x1024_12_0_n_n_0_1_15121024 j ⟨0, by decide⟩ = ix2 2048 1 (j 0) 0 :=
      eq_ix2 _ _ _ rfl rfl
    rw [← hs]
    rfl
  · show 0 + 0 + _ = _
    rw [Nat.add_zero, Nat.zero_add]
    rfl
  · show 0 + 0 + _ = _
    rw [Nat.add_zero, Nat.zero_add]
    rfl

/-- Each row times its own matrix, at an index. -/
theorem rowdot_at (V : S2048x512x1024.Idx → EReal) (j : S2048x1024.Idx) :
    Host.dotGeneral (F := Ideal) (φ₁ := .f32) (φ₂ := .f32) dot_S2048x512_S2048x512x1024_S2048x1024_1_1_n_2_0_0 none X V j
      = ∑ k : Fin 512, X (ix2 2048 512 (j 0) k) * V (ix3 2048 512 1024 (j 0) k (j 1)) := by
  simp only [Host.dotGeneral]
  rw [Ideal.dotGeneral_apply, ← Equiv.sum_comp (ValueIdx.contrEquiv1 _ 512 rfl rfl).symm]
  refine Finset.sum_congr rfl fun k _ => ?_
  have hk := ValueIdx.contrEquiv1_symm_val dot_S2048x512_S2048x512x1024_S2048x1024_1_1_n_2_0_0 512 rfl rfl k
  exact congrArg₂ (· * ·) (congrArg X (eq_ix2 _ _ _ rfl hk)) (congrArg V (eq_ix3 _ _ _ _ rfl hk rfl))

/-- Of the 32 terms at most one is not masked. -/
theorem terms_sum (r o : ℕ) :
    ∑ e : Fin 32, term X R W r o e = if (R (ix2 2048 1 r 0)).toNat < 32 then
      ∑ k : Fin 512, X (ix2 2048 512 r k) * W (ix3 32 512 1024 (R (ix2 2048 1 r 0)).toNat k o) else 0 := by
  have hn : ∀ e : Fin 32, (BitVec.ofNat 32 e.val).toNat = e.val := by decide
  split
  · next h =>
    rw [Finset.sum_eq_single_of_mem (⟨_, h⟩ : Fin 32) (Finset.mem_univ _) fun e _ he => ?_]
    · unfold term share
      rw [if_pos (BitVec.eq_of_toNat_eq (hn ⟨_, h⟩).symm)]
    · unfold term share
      rw [if_neg fun q => he (Fin.ext ((hn e).symm.trans (congrArg BitVec.toNat q.symm)))]
  · next h =>
    refine Finset.sum_eq_zero fun e _ => ?_
    unfold term share
    rw [if_neg fun q => h (by rw [q, hn]; exact e.isLt)]

/-- The number in a row, of the index array's one column or of its flat copy. -/
theorem flat_at (h : S2048x1.ShapeCasts S2048) (j : S2048.Idx) : shapeCast S2048 R h j = R (ix2 2048 1 (j 0) 0) := by
  refine shapeCast_apply _ _ _ _ ?_
  rw [Shape.rowMajor_val_two, Shape.rowMajor_val_one]
  show (j 0).val % 2048 * 1 + 0 % 1 = (j 0).val
  have : (j 0).val < 2048 := (j 0).isLt
  omega

set_option backward.proofsInPublic true in
/-- The flat index of a row. -/
def ix1 (r : ℕ) : S2048.Idx
  | 0 => (⟨r % 2048, Nat.mod_lt _ (by decide)⟩ : Fin 2048)

/-- The index array that the gather reads: a negative number counted from the end. -/
def wrapped : IVec S2048x1 32 :=
  broadcastInDim S2048x1 ![0] bcast_S2048_S2048x1_0 (select (cmpi .slt (shapeCast S2048 R shapeCasts_S2048x1_S2048) (broadcastInDim S2048 ![] bcast_S_S2048 (constantI S_ 32 0#32))) (addi (shapeCast S2048 R shapeCasts_S2048x1_S2048) (broadcastInDim S2048 ![] bcast_S_S2048 (constantI S_ 32 32#32))) (shapeCast S2048 R shapeCasts_S2048x1_S2048))

/-- The number of a routed row is read as it is. -/
theorem wrapped_at (r : ℕ) (h : (R (ix2 2048 1 r 0)).toNat < 32) :
    (wrapped R (ix2 2048 1 r 0)).toInt.toNat = (R (ix2 2048 1 r 0)).toNat := by
  have hn : ¬ 2 ^ (32 - 1) ≤ (R (ix2 2048 1 r 0)).toNat := by omega
  have hw : wrapped R (ix2 2048 1 r 0) = R (ix2 2048 1 r 0) := by
    unfold wrapped
    rw [broadcastInDim_apply _ _ _ _ (ix1 r) (by
      intro a
      match a with
      | ⟨0, _⟩ => rfl)]
    have hf := flat_at R shapeCasts_S2048x1_S2048 (ix1 r)
    rw [show ix2 2048 1 ((ix1 r) 0) 0 = ix2 2048 1 r 0 from by
      funext a
      match a with
      | ⟨0, _⟩ => exact Fin.ext (Nat.mod_mod r 2048)
      | ⟨1, _⟩ => rfl] at hf
    show Scalar.select (IntOp.cmpi .slt (shapeCast S2048 R _ _) 0#32) _ (shapeCast S2048 R _ _) = _
    rw [hf, WordCmp.cmpi_slt_zero, decide_eq_false hn]
    rfl
  rw [hw, BitVec.toInt_eq_toNat_of_lt (by omega)]
  rfl

/-- The reference's value at an index. -/
theorem ref_at (i : S2048x1024.Idx) :
    (select (broadcastInDim S2048x1024 ![0, 1] bcast_S2048x1_S2048x1024_0_1 (andi (cmpi .sge R (broadcastInDim S2048x1 ![] bcast_S_S2048x1 (constantI S_ 32 0#32))) (cmpi .slt R (broadcastInDim S2048x1 ![] bcast_S_S2048x1 (constantI S_ 32 32#32)))))
      (Host.dotGeneral (F := Ideal) (φ₁ := .f32) (φ₂ := .f32) dot_S2048x512_S2048x512x1024_S2048x1024_1_1_n_2_0_0 none X
        (Host.gather gather_S32x512x1024_S2048x1_S2048x512x1024_12_0_n_n_0_1_15121024 W (wrapped R)))
      (broadcastInDim (s := S_) (α := Ideal .f32) S2048x1024 ![] bcast_S_S2048x1024 (id (constant (F := Ideal) S_ .f32 0x00000000#32)))) i
      = ∑ e : Fin 32, term X R W (i 0) (i 1) e := by
  rw [terms_sum]
  have hb : broadcastInDim S2048x1024 ![0, 1] bcast_S2048x1_S2048x1024_0_1 (andi (cmpi .sge R (broadcastInDim S2048x1 ![] bcast_S_S2048x1 (constantI S_ 32 0#32))) (cmpi .slt R (broadcastInDim S2048x1 ![] bcast_S_S2048x1 (constantI S_ 32 32#32)))) i
      = BitVec.ofBool (decide ((R (ix2 2048 1 (i 0) 0)).toNat < 32)) := by
    rw [broadcastInDim_apply _ _ _ _ (ix2 2048 1 (i 0) 0) (by
      intro a
      match a with
      | ⟨0, _⟩ => exact Nat.mod_eq_of_lt (i 0).isLt
      | ⟨1, _⟩ => rfl)]
    exact WordCmp.andi_sge_zero_slt_ofNat (w := 32) (k := 32) (by decide) _
  show Scalar.select _ _ _ = _
  rw [hb]
  by_cases h : (R (ix2 2048 1 (i 0) 0)).toNat < 32
  · rw [if_pos h, decide_eq_true h, rowdot_at]
    change (∑ k : Fin 512, X (ix2 2048 512 (i 0) k) * Host.gather gather_S32x512x1024_S2048x1_S2048x512x1024_12_0_n_n_0_1_15121024 W (wrapped R) (ix3 2048 512 1024 (i 0) k (i 1))) = _
    refine Finset.sum_congr rfl fun k _ => congrArg (X (ix2 2048 512 (i 0) k) * ·) ?_
    rw [gather_at]
    refine congrArg W (eq_ix3 _ _ _ _ ?_ ?_ ?_)
    · show min (wrapped R (ix2 2048 1 ((i 0).val % 2048) 0)).toInt.toNat 31 % 32 = _
      have : (i 0).val < 2048 := (i 0).isLt
      rw [Nat.mod_eq_of_lt this, wrapped_at R _ h]
      omega
    · show k.val % 512 % 512 = k; omega
    · show (i 1).val % 1024 % 1024 = (i 1).val
      have : (i 1).val < 1024 := (i 1).isLt
      omega
  · rw [if_neg h, decide_eq_false h]
    exact Ideal.ofBits_zero_f32

end Cert.Cube

end
-- ==== Proof.Equal.lean ====
/-
Over the extended reals every device ends with what the reference computes from the whole arrays.
-/
module

public import proofs.«01_k».proof.Proof.Frames
public import proofs.«01_k».proof.Proof.Reference

@[expose] public section

set_option maxRecDepth 100000

noncomputable section

namespace Cert.Cube

open Idealize.ShloMosaic Idealize.SL.Sem
open scoped BigOperators

/-- At row `r` and column `o` the sum over the 32 experts of the row's product with the expert's matrix, if the row is
    routed to that expert, and zero if not. -/
def result (X : Cert.ReferenceIdeal.S2048x512.Idx → EReal) (R : Cert.ReferenceIdeal.S2048x1.Idx → BitVec 32)
    (W : Cert.ReferenceIdeal.S32x512x1024.Idx → EReal) : Cert.ReferenceIdeal.S2048x1024.Idx → EReal :=
  fun i => ∑ e : Fin 32, term X R W (i 0) (i 1) e

/-- When the devices hold the reference's arrays (the experts cut into eight blocks of four), both programs end with
    `result` of those arrays. -/
theorem algebraic : Cert.algebraic_KernelIdeal_ReferenceIdeal := fun m g m' g' _ hagree =>
  ⟨result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun _ h c => ⟨(h.1 c).1.trans (funext (OUT_at (I := inp (F := Ideal) m)
        ⟨fun c => (hagree c).1, fun c => (hagree c).2.2.1, fun c => (hagree c).2.2.2⟩ c)), (h.1 c).2⟩)
      (run_main (F := Ideal) m g),
    (θ_run Cert.ReferenceIdeal.defs _ _).mono
      (fun _ h => ⟨(h 0).1.trans (funext (ref_at _ _ _)), (h 0).2⟩)
      (Cert.ReferenceIdeal.Value.run (F := Ideal) m' g')⟩

end Cert.Cube

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Cube.frame_kernel, Cert.Cube.frame_kernelIdeal, Cert.Cube.frame_reference, trivial, Cert.Cube.algebraic⟩

end Cert.Proof

end
